-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lower_bounds_below_inf [hPre_lower_bounds_below_inf : Cert.Pre_lower_bounds_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_lower_bounds_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lower_bounds_below_inf [hPre_lower_bounds_below_inf : Cert.Pre_lower_bounds_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lower_bounds_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_branches_finite [hPre_branches_finite : Cert.Pre_branches_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_branches_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg20))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_branches_finite [hPre_branches_finite : Cert.Pre_branches_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_branches_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17)) (m ((c.tc : Thread Cert.Reference3Ideal.nD Cert.Reference3Ideal.τ).loc Cert.Reference3Ideal.main_arg18)) (m ((c.tc : Thread Cert.Reference3Ideal.nD Cert.Reference3Ideal.τ).loc Cert.Reference3Ideal.main_arg19)) (m ((c.tc : Thread Cert.Reference3Ideal.nD Cert.Reference3Ideal.τ).loc Cert.Reference3Ideal.main_arg20))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lower_bounds_below_inf [hKernelIdeal : Cert.KernelIdeal.Facts] [hPre_lower_bounds_below_inf : Cert.Pre_lower_bounds_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lower_bounds_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lower_bounds_below_inf [hReferenceIdeal : Cert.ReferenceIdeal.Facts] [hPre_lower_bounds_below_inf : Cert.Pre_lower_bounds_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lower_bounds_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Kernel3Ideal_pre_branches_finite [hKernel3Ideal : Cert.Kernel3Ideal.Facts] [hPre_branches_finite : Cert.Pre_branches_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_branches_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Reference3Ideal_pre_branches_finite [hReference3Ideal : Cert.Reference3Ideal.Facts] [hPre_branches_finite : Cert.Pre_branches_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_branches_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_lower_bounds_below_inf [hKernelIdeal : Cert.KernelIdeal.Facts] [hReferenceIdeal : Cert.ReferenceIdeal.Facts] [hPre_lower_bounds_below_inf : Cert.Pre_lower_bounds_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lower_bounds_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_branches_finite [hKernel3Ideal : Cert.Kernel3Ideal.Facts] [hReference3Ideal : Cert.Reference3Ideal.Facts] [hPre_branches_finite : Cert.Pre_branches_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_branches_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v145) = v0 c
          ∧ r.2.mem ((c.tc : Thread Cert.Reference3Ideal.nD Cert.Reference3Ideal.τ).loc Cert.Reference3Ideal.main_v147) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_lower_bounds_below_inf : Cert.Pre_lower_bounds_below_inf.Facts) (hPre_branches_finite : Cert.Pre_branches_finite.Facts),
    quiescent_Kernel (hKernel := hKernel)
    ∧ quiescent_KernelIdeal (hKernelIdeal := hKernelIdeal)
    ∧ quiescent_KernelIdeal_pre_lower_bounds_below_inf (hKernelIdeal := hKernelIdeal) (hPre_lower_bounds_below_inf := hPre_lower_bounds_below_inf)
    ∧ quiescent_ReferenceIdeal (hReferenceIdeal := hReferenceIdeal)
    ∧ quiescent_ReferenceIdeal_pre_lower_bounds_below_inf (hReferenceIdeal := hReferenceIdeal) (hPre_lower_bounds_below_inf := hPre_lower_bounds_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_branches_finite (hKernel3Ideal := hKernel3Ideal) (hPre_branches_finite := hPre_branches_finite)
    ∧ quiescent_Reference3Ideal (hReference3Ideal := hReference3Ideal)
    ∧ quiescent_Reference3Ideal_pre_branches_finite (hReference3Ideal := hReference3Ideal) (hPre_branches_finite := hPre_branches_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_lower_bounds_below_inf (hKernelIdeal := hKernelIdeal) (hReferenceIdeal := hReferenceIdeal) (hPre_lower_bounds_below_inf := hPre_lower_bounds_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_branches_finite (hKernel3Ideal := hKernel3Ideal) (hReference3Ideal := hReference3Ideal) (hPre_branches_finite := hPre_branches_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_branches_finite.lean ====
abbrev S34816x1024 : Shape := ⟨2, ![34816, 1024]⟩
abbrev S34816x256 : Shape := ⟨2, ![34816, 256]⟩
abbrev S34816x384 : Shape := ⟨2, ![34816, 384]⟩
abbrev S34816x1920 : Shape := ⟨2, ![34816, 1920]⟩
abbrev S34816x1536 : Shape := ⟨2, ![34816, 1536]⟩
abbrev S34816x3072 : Shape := ⟨2, ![34816, 3072]⟩
abbrev S8x6x1024 : Shape := ⟨3, ![8, 6, 1024]⟩
abbrev S1x6x1024 : Shape := ⟨3, ![1, 6, 1024]⟩
abbrev S1024 : Shape := ⟨1, ![1024]⟩
abbrev S256x256 : Shape := ⟨2, ![256, 256]⟩
abbrev S256x1024 : Shape := ⟨2, ![256, 1024]⟩
abbrev S384x1024 : Shape := ⟨2, ![384, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S34816x384 : S_.BroadcastsInDim S34816x384 (![] : Fin 0 → Fin S34816x384.rank)
  reducesTo_S34816x384_S_d0_1 : S34816x384.ReducesTo [0, 1] S_
  h_S_ : 0 < S_.numel

variable [Facts]

def fn {F : FTy → Type} [FloatOps F] (main_arg0 : FVec F S34816x1024 .f32) (main_arg1 : FVec F S34816x256 .f32) (main_arg2 : FVec F S34816x384 .f32) (main_arg3 : FVec F S34816x384 .f32) (main_arg4 : FVec F S34816x1920 .f32) (main_arg5 : FVec F S34816x384 .f32) (main_arg6 : FVec F S34816x384 .f32) (main_arg7 : FVec F S34816x1536 .bf16) (main_arg8 : FVec F S34816x3072 .bf16) (main_arg9 : FVec F S8x6x1024 .f32) (main_arg10 : FVec F S1x6x1024 .f32) (main_arg11 : FVec F S1024 .f32) (main_arg12 : FVec F S256x256 .f32) (main_arg13 : FVec F S256x1024 .f32) (main_arg14 : FVec F S384x1024 .f32) (main_arg15 : FVec F S384x1024 .f32) (main_arg16 : FVec F S1024x1024 .f32) (main_arg17 : FVec F S1024x4 .f32) (main_arg18 : FVec F S4 .f32) (main_arg19 : FVec F S1024x32 .f32) (main_arg20 : FVec F S32 .f32) : IVec S_ 1 :=
  let main_v0 : FVec F S34816x384 .f32 := addf main_arg2 main_arg3
  let main_v1 : FVec F S34816x384 .f32 := Host.absf main_v0
  let main_cst : FVec F S_ .f32 := constant S_ .f32 0x7F800000#32
  let main_v2 : FVec F S34816x384 .f32 := broadcastInDim S34816x384 ![] bcast_S_S34816x384 main_cst
  let main_v3 : IVec S34816x384 1 := cmpf .olt main_v1 main_v2
  let main_c : IVec S_ 1 := constantI S_ 1 1#1
  let main_v4 : IVec S_ 1 := (fun x v => Host.reduce IntOp.andi x v reducesTo_S34816x384_S_d0_1 h_S_) main_v3 main_c
  let main_v5 : FVec F S34816x384 .f32 := addf main_arg5 main_arg6
  let main_v6 : FVec F S34816x384 .f32 := Host.absf main_v5
  let main_cst_0 : FVec F S_ .f32 := constant S_ .f32 0x7F800000#32
  let main_v7 : FVec F S34816x384 .f32 := broadcastInDim S34816x384 ![] bcast_S_S34816x384 main_cst_0
  let main_v8 : IVec S34816x384 1 := cmpf .olt main_v6 main_v7
  let main_c_1 : IVec S_ 1 := constantI S_ 1 1#1
  let main_v9 : IVec S_ 1 := (fun x v => Host.reduce IntOp.andi x v reducesTo_S34816x384_S_d0_1 h_S_) main_v8 main_c_1
  let main_v10 : IVec S_ 1 := andi main_v4 main_v9
  main_v10
-- ==== Pre_lower_bounds_below_inf.lean ====
abbrev S8x4352x1920 : Shape := ⟨3, ![8, 4352, 1920]⟩
abbrev S2x384 : Shape := ⟨2, ![2, 384]⟩
abbrev S_ : Shape := ⟨0, ![]⟩

class Facts : Prop where
  bcast_S_S2x384 : S_.BroadcastsInDim S2x384 (![] : Fin 0 → Fin S2x384.rank)
  reducesTo_S2x384_S_d0_1 : S2x384.ReducesTo [0, 1] S_
  h_S_ : 0 < S_.numel

variable [Facts]

def fn {F : FTy → Type} [FloatOps F] (main_arg0 : FVec F S8x4352x1920 .f32) (main_arg1 : FVec F S2x384 .f32) : IVec S_ 1 :=
  let main_cst : FVec F S_ .f32 := constant S_ .f32 0x7F800000#32
  let main_v0 : FVec F S2x384 .f32 := broadcastInDim S2x384 ![] bcast_S_S2x384 main_cst
  let main_v1 : IVec S2x384 1 := cmpf .olt main_arg1 main_v0
  let main_c : IVec S_ 1 := constantI S_ 1 1#1
  let main_v2 : IVec S_ 1 := (fun x v => Host.reduce IntOp.andi x v reducesTo_S2x384_S_d0_1 h_S_) main_v1 main_c
  main_v2
-- ==== Kernel.lean ====
abbrev S8x4352x1920 : Shape := ⟨3, ![8, 4352, 1920]⟩
abbrev S2x384 : Shape := ⟨2, ![2, 384]⟩
abbrev S8x4352x384 : Shape := ⟨3, ![8, 4352, 384]⟩
abbrev S1x256x384 : Shape := ⟨3, ![1, 256, 384]⟩
abbrev S3x128x128 : Shape := ⟨3, ![3, 128, 128]⟩
abbrev S1x256x128 : Shape := ⟨3, ![1, 256, 128]⟩
abbrev S256x128 : Shape := ⟨2, ![256, 128]⟩
abbrev S1x128 : Shape := ⟨2, ![1, 128]⟩
abbrev S1x128x128 : Shape := ⟨3, ![1, 128, 128]⟩
abbrev S128x128 : Shape := ⟨2, ![128, 128]⟩
abbrev S4x64x64 : Shape := ⟨3, ![4, 64, 64]⟩
abbrev S256x384 : Shape := ⟨2, ![256, 384]⟩
abbrev S4x64x384 : Shape := ⟨3, ![4, 64, 384]⟩
abbrev S4x64x128 : Shape := ⟨3, ![4, 64, 128]⟩
abbrev S4x1x128 : Shape := ⟨3, ![4, 1, 128]⟩
abbrev S4x32x128 : Shape := ⟨3, ![4, 32, 128]⟩
abbrev S4x64x32 : Shape := ⟨3, ![4, 64, 32]⟩
abbrev S1x1x128 : Shape := ⟨3, ![1, 1, 128]⟩
abbrev S1x64x128 : Shape := ⟨3, ![1, 64, 128]⟩
abbrev S64x128 : Shape := ⟨2, ![64, 128]⟩
abbrev S4x128x128 : Shape := ⟨3, ![4, 128, 128]⟩

abbrev nBuf : Space → Nat
  | .hbm => 4
  | .vmem => 19
  | .smem => 0
  | _ => 0

abbrev bufTy : (tb : Table) → Fin (tcTables nBuf tb) → BufTy
  | .hbm, ⟨0, _⟩ => ⟨S8x4352x1920, .f32⟩
  | .hbm, ⟨1, _⟩ => ⟨S2x384, .f32⟩
  | .hbm, ⟨2, _⟩ => ⟨S8x4352x384, .f32⟩
  | .hbm, ⟨3, _⟩ => ⟨S8x4352x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S2x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S3x128x128, .f32⟩
  | .local _ .vmem, ⟨18, _⟩ => ⟨S3x128x128, .f32⟩
  | _, _ => ⟨S8x4352x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c16_i32 : BitVec 32 := 16#32
  let v3 : BitVec 32 := Scalar.subi c16_i32 v2
  let v4 : BitVec 32 := Scalar.select v0 v1 v3
  let c0_i32_1 : BitVec 32 := 0#32
  let c0_i32_2 : BitVec 32 := 0#32
  ![arg0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c16_i32 : BitVec 32 := 16#32
  let v3 : BitVec 32 := Scalar.subi c16_i32 v2
  let v4 : BitVec 32 := Scalar.select v0 v1 v3
  let c2_i32 : BitVec 32 := 2#32
  let c0_i32_1 : BitVec 32 := 0#32
  ![arg0.toNat, v4.toNat, c2_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c16_i32 : BitVec 32 := 16#32
  let v3 : BitVec 32 := Scalar.subi c16_i32 v2
  let v4 : BitVec 32 := Scalar.select v0 v1 v3
  let c3_i32 : BitVec 32 := 3#32
  let c0_i32_1 : BitVec 32 := 0#32
  ![arg0.toNat, v4.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c16_i32 : BitVec 32 := 16#32
  let v3 : BitVec 32 := Scalar.subi c16_i32 v2
  let v4 : BitVec 32 := Scalar.select v0 v1 v3
  let c0_i32_1 : BitVec 32 := 0#32
  let c0_i32_2 : BitVec 32 := 0#32
  ![arg0.toNat, v4.toNat, c0_i32_1.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4352x1920 : Shape := ⟨3, ![8, 4352, 1920]⟩
abbrev S2x384 : Shape := ⟨2, ![2, 384]⟩
abbrev S8x4352x384 : Shape := ⟨3, ![8, 4352, 384]⟩
abbrev S1x384 : Shape := ⟨2, ![1, 384]⟩
abbrev S384 : Shape := ⟨1, ![384]⟩
abbrev S_ : Shape := ⟨0, ![]⟩
abbrev S1x1x384 : Shape := ⟨3, ![1, 1, 384]⟩
abbrev S8x4352x6x64 : Shape := ⟨4, ![8, 4352, 6, 64]⟩
abbrev S8x256x6x64 : Shape := ⟨4, ![8, 256, 6, 64]⟩
abbrev S8x4096x6x64 : Shape := ⟨4, ![8, 4096, 6, 64]⟩
abbrev S16x4352x6x64 : Shape := ⟨4, ![16, 4352, 6, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x6x64x64 : Shape := ⟨4, ![16, 6, 64, 64]⟩
abbrev S16x68x64x6x64 : Shape := ⟨5, ![16, 68, 64, 6, 64]⟩
abbrev S68x16x6x64x64 : Shape := ⟨5, ![68, 16, 6, 64, 64]⟩
abbrev S1x16x6x64x64 : Shape := ⟨5, ![1, 16, 6, 64, 64]⟩
abbrev S16x6x64x1x64 : Shape := ⟨5, ![16, 6, 64, 1, 64]⟩
abbrev S16x6x1x64x64 : Shape := ⟨5, ![16, 6, 1, 64, 64]⟩
abbrev S16x6x64x64x64 : Shape := ⟨5, ![16, 6, 64, 64, 64]⟩
abbrev S64x64x1 : Shape := ⟨3, ![64, 64, 1]⟩
abbrev S16x6x1x64 : Shape := ⟨4, ![16, 6, 1, 64]⟩
abbrev S16x6x64 : Shape := ⟨3, ![16, 6, 64]⟩
abbrev S16x6x64x1 : Shape := ⟨4, ![16, 6, 64, 1]⟩

abbrev nBuf : Space → Nat
  | .hbm => 193
  | .vmem => 0
  | .smem => 0
  | _ => 0

abbrev hbmTy0_0 (i : Nat) : BufTy := match i % 128 with
  | 0 => ⟨S8x4352x1920, .f32⟩
  | 1 => ⟨S2x384, .f32⟩
  | 2 => ⟨S8x4352x384, .f32⟩
  | 3 => ⟨S8x4352x384, .f32⟩
  | 4 => ⟨S8x4352x384, .f32⟩
  | 5 => ⟨S8x4352x384, .f32⟩
  | 6 => ⟨S8x4352x384, .f32⟩
  | 7 => ⟨S1x384, .f32⟩
  | 8 => ⟨S384, .f32⟩
  | 9 => ⟨S_, .f32⟩
  | 10 => ⟨S384, .f32⟩
  | 11 => ⟨S384, .f32⟩
  | 12 => ⟨S8x4352x384, .f32⟩
  | 13 => ⟨S8x4352x384, .f32⟩
  | 14 => ⟨S_, .f32⟩
  | 15 => ⟨S8x4352x384, .f32⟩
  | 16 => ⟨S8x4352x384, .f32⟩
  | 17 => ⟨S_, .f32⟩
  | 18 => ⟨S8x4352x384, .f32⟩
  | 19 => ⟨S8x4352x384, .f32⟩
  | 20 => ⟨S1x1x384, .f32⟩
  | 21 => ⟨S8x4352x384, .f32⟩
  | 22 => ⟨S8x4352x384, .f32⟩
  | 23 => ⟨S1x1x384, .f32⟩
  | 24 => ⟨S8x4352x384, .f32⟩
  | 25 => ⟨S8x4352x384, .f32⟩
  | 26 => ⟨S8x4352x6x64, .f32⟩
  | 27 => ⟨S8x4352x6x64, .f32⟩
  | 28 => ⟨S_, .f32⟩
  | 29 => ⟨S8x4352x6x64, .f32⟩
  | 30 => ⟨S8x4352x6x64, .f32⟩
  | 31 => ⟨S1x384, .f32⟩
  | 32 => ⟨S384, .f32⟩
  | 33 => ⟨S_, .f32⟩
  | 34 => ⟨S384, .f32⟩
  | 35 => ⟨S384, .f32⟩
  | 36 => ⟨S8x4352x384, .f32⟩
  | 37 => ⟨S8x4352x384, .f32⟩
  | 38 => ⟨S_, .f32⟩
  | 39 => ⟨S8x4352x384, .f32⟩
  | 40 => ⟨S8x4352x384, .f32⟩
  | 41 => ⟨S_, .f32⟩
  | 42 => ⟨S8x4352x384, .f32⟩
  | 43 => ⟨S8x4352x384, .f32⟩
  | 44 => ⟨S1x1x384, .f32⟩
  | 45 => ⟨S8x4352x384, .f32⟩
  | 46 => ⟨S8x4352x384, .f32⟩
  | 47 => ⟨S1x1x384, .f32⟩
  | 48 => ⟨S8x4352x384, .f32⟩
  | 49 => ⟨S8x4352x384, .f32⟩
  | 50 => ⟨S8x4352x6x64, .f32⟩
  | 51 => ⟨S8x4352x6x64, .f32⟩
  | 52 => ⟨S_, .f32⟩
  | 53 => ⟨S8x4352x6x64, .f32⟩
  | 54 => ⟨S8x4352x6x64, .f32⟩
  | 55 => ⟨S8x4352x6x64, .f32⟩
  | 56 => ⟨S8x4352x6x64, .f32⟩
  | 57 => ⟨S8x256x6x64, .f32⟩
  | 58 => ⟨S8x256x6x64, .f32⟩
  | 59 => ⟨S8x4096x6x64, .f32⟩
  | 60 => ⟨S8x4096x6x64, .f32⟩
  | 61 => ⟨S8x4352x6x64, .f32⟩
  | 62 => ⟨S16x4352x6x64, .f32⟩
  | 63 => ⟨S8x256x6x64, .f32⟩
  | 64 => ⟨S8x256x6x64, .f32⟩
  | 65 => ⟨S8x4096x6x64, .f32⟩
  | 66 => ⟨S8x4096x6x64, .f32⟩
  | 67 => ⟨S8x4352x6x64, .f32⟩
  | 68 => ⟨S16x4352x6x64, .f32⟩
  | 69 => ⟨S8x256x6x64, .f32⟩
  | 70 => ⟨S8x256x6x64, .f32⟩
  | 71 => ⟨S8x4096x6x64, .f32⟩
  | 72 => ⟨S8x4096x6x64, .f32⟩
  | 73 => ⟨S8x4352x6x64, .f32⟩
  | 74 => ⟨S16x4352x6x64, .f32⟩
  | 75 => ⟨S8x256x6x64, .f32⟩
  | 76 => ⟨S8x256x6x64, .f32⟩
  | 77 => ⟨S8x4096x6x64, .f32⟩
  | 78 => ⟨S8x4096x6x64, .f32⟩
  | 79 => ⟨S8x4352x6x64, .f32⟩
  | 80 => ⟨S16x4352x6x64, .f32⟩
  | 81 => ⟨S64, .i32⟩
  | 82 => ⟨S64x1, .i32⟩
  | 83 => ⟨S1x64, .i32⟩
  | 84 => ⟨S64x64, .i32⟩
  | 85 => ⟨S64x64, .i32⟩
  | 86 => ⟨S64x64, .i1⟩
  | 87 => ⟨S_, .f32⟩
  | 88 => ⟨S16x6x64x64, .f32⟩
  | 89 => ⟨S16x68x64x6x64, .f32⟩
  | 90 => ⟨S68x16x6x64x64, .f32⟩
  | 91 => ⟨S16x68x64x6x64, .f32⟩
  | 92 => ⟨S68x16x6x64x64, .f32⟩
  | 93 => ⟨S16x68x64x6x64, .f32⟩
  | 94 => ⟨S68x16x6x64x64, .f32⟩
  | 95 => ⟨S16x68x64x6x64, .f32⟩
  | 96 => ⟨S68x16x6x64x64, .f32⟩
  | 97 => ⟨S_, .f32⟩
  | 98 => ⟨S68x16x6x64x64, .f32⟩
  | 99 => ⟨S_, .i32⟩
  | 100 => ⟨S68x16x6x64x64, .f32⟩
  | 101 => ⟨S68x16x6x64x64, .f32⟩
  | 102 => ⟨S68x16x6x64x64, .f32⟩
  | 103 => ⟨S68x16x6x64x64, .f32⟩
  | 104 => ⟨S64x64, .i1⟩
  | 105 => ⟨S_, .i32⟩
  | 106 => ⟨S16x6x64x64, .f32⟩
  | 107 => ⟨S68x16x6x64x64, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S1x16x6x64x64, .f32⟩
  | 115 => ⟨S16x6x64x64, .f32⟩
  | 116 => ⟨S_, .i32⟩
  | 117 => ⟨S_, .i32⟩
  | 118 => ⟨S_, .i32⟩
  | 119 => ⟨S_, .i32⟩
  | 120 => ⟨S1x16x6x64x64, .f32⟩
  | 121 => ⟨S16x6x64x64, .f32⟩
  | 122 => ⟨S_, .i32⟩
  | 123 => ⟨S_, .i32⟩
  | 124 => ⟨S_, .i32⟩
  | 125 => ⟨S_, .i32⟩
  | 126 => ⟨S1x16x6x64x64, .f32⟩
  | 127 => ⟨S16x6x64x64, .f32⟩
  | _ => ⟨S8x4352x1920, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x16x6x64x64, .f32⟩
  | 5 => ⟨S16x6x64x64, .f32⟩
  | 6 => ⟨S_, .f32⟩
  | 7 => ⟨S_, .f32⟩
  | 8 => ⟨S16x6x64x64, .f32⟩
  | 9 => ⟨S16x6x64x64, .f32⟩
  | 10 => ⟨S16x6x64x64, .f32⟩
  | 11 => ⟨S16x6x64x64, .f32⟩
  | 12 => ⟨S16x6x64x1x64, .f32⟩
  | 13 => ⟨S16x6x1x64x64, .f32⟩
  | 14 => ⟨S16x6x64x64x64, .f32⟩
  | 15 => ⟨S16x6x64x64x64, .f32⟩
  | 16 => ⟨S16x6x64x64x64, .f32⟩
  | 17 => ⟨S64x64x1, .i1⟩
  | 18 => ⟨S_, .f32⟩
  | 19 => ⟨S_, .f32⟩
  | 20 => ⟨S16x6x64x64x64, .i1⟩
  | 21 => ⟨S16x6x64x64x64, .f32⟩
  | 22 => ⟨S16x6x64x64x64, .f32⟩
  | 23 => ⟨S16x6x64x64x64, .f32⟩
  | 24 => ⟨S16x6x64x1x64, .f32⟩
  | 25 => ⟨S16x6x1x64x64, .f32⟩
  | 26 => ⟨S16x6x64x64x64, .f32⟩
  | 27 => ⟨S16x6x64x64x64, .f32⟩
  | 28 => ⟨S16x6x64x64x64, .f32⟩
  | 29 => ⟨S16x6x64x64x64, .f32⟩
  | 30 => ⟨S_, .f32⟩
  | 31 => ⟨S16x6x64x64, .f32⟩
  | 32 => ⟨S16x6x64x64, .f32⟩
  | 33 => ⟨S16x6x64x64, .f32⟩
  | 34 => ⟨S16x6x1x64, .f32⟩
  | 35 => ⟨S16x6x64, .f32⟩
  | 36 => ⟨S16x6x64, .f32⟩
  | 37 => ⟨S16x6x64x1, .f32⟩
  | 38 => ⟨S16x6x64x64, .f32⟩
  | 39 => ⟨S16x6x64x64, .f32⟩
  | 40 => ⟨S16x6x64x64, .f32⟩
  | 41 => ⟨S16x6x64x64, .f32⟩
  | 42 => ⟨S16x6x64x64, .f32⟩
  | 43 => ⟨S16x6x64x64, .f32⟩
  | 44 => ⟨S16x6x64x64, .f32⟩
  | 45 => ⟨S16x6x64x64, .f32⟩
  | 46 => ⟨S1x16x6x64x64, .f32⟩
  | 47 => ⟨S_, .i32⟩
  | 48 => ⟨S_, .i32⟩
  | 49 => ⟨S_, .i32⟩
  | 50 => ⟨S_, .i32⟩
  | 51 => ⟨S68x16x6x64x64, .f32⟩
  | 52 => ⟨S_, .i32⟩
  | 53 => ⟨S_, .i32⟩
  | 54 => ⟨S16x68x64x6x64, .f32⟩
  | 55 => ⟨S16x4352x6x64, .f32⟩
  | 56 => ⟨S8x4352x6x64, .f32⟩
  | 57 => ⟨S8x4352x384, .f32⟩
  | 58 => ⟨S8x4352x6x64, .f32⟩
  | 59 => ⟨S8x256x6x64, .f32⟩
  | 60 => ⟨S8x256x6x64, .f32⟩
  | 61 => ⟨S8x4096x6x64, .f32⟩
  | 62 => ⟨S8x4096x6x64, .f32⟩
  | 63 => ⟨S8x4352x6x64, .f32⟩
  | 64 => ⟨S8x4352x384, .f32⟩
  | _ => ⟨S8x4352x1920, .f32⟩

abbrev hbmTy (i : Nat) : BufTy := match i / 128 with
  | 0 => hbmTy0_0 i
  | 1 => hbmTy0_1 i
  | _ => ⟨S8x4352x1920, .f32⟩

abbrev bufTy : (tb : Table) → Fin (tcTables nBuf tb) → BufTy
  | .hbm, ⟨i, _⟩ => hbmTy i
  | _, _ => ⟨S8x4352x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_6 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_7 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_8 : Ref sig .tc := ⟨.hbm, 97, rfl⟩
abbrev main_v86 : Ref sig .tc := ⟨.hbm, 98, rfl⟩
abbrev main_c : Ref sig .tc := ⟨.hbm, 99, rfl⟩
abbrev main_v87_0 : Ref sig .tc := ⟨.hbm, 100, rfl⟩
abbrev main_v87_1 : Ref sig .tc := ⟨.hbm, 101, rfl⟩
abbrev main_v87_2 : Ref sig .tc := ⟨.hbm, 102, rfl⟩
abbrev main_v87_3 : Ref sig .tc := ⟨.hbm, 103, rfl⟩
abbrev main_v87_4 : Ref sig .tc := ⟨.hbm, 104, rfl⟩
abbrev main_v87_5 : Ref sig .tc := ⟨.hbm, 105, rfl⟩
abbrev main_v87_6 : Ref sig .tc := ⟨.hbm, 106, rfl⟩
abbrev main_v87_7 : Ref sig .tc := ⟨.hbm, 107, rfl⟩
abbrev main_while0c_c_16 : Ref sig .tc := ⟨.hbm, 108, rfl⟩
abbrev main_while0c_v99 : Ref sig .tc := ⟨.hbm, 109, rfl⟩
abbrev main_while0b_call8_c : Ref sig .tc := ⟨.hbm, 110, rfl⟩
abbrev main_while0b_call8_c_0 : Ref sig .tc := ⟨.hbm, 111, rfl⟩
abbrev main_while0b_call8_c_1 : Ref sig .tc := ⟨.hbm, 112, rfl⟩
abbrev main_while0b_call8_c_2 : Ref sig .tc := ⟨.hbm, 113, rfl⟩
abbrev main_while0b_call8_v0 : Ref sig .tc := ⟨.hbm, 114, rfl⟩
abbrev main_while0b_v99 : Ref sig .tc := ⟨.hbm, 115, rfl⟩
abbrev main_while0b_call9_c : Ref sig .tc := ⟨.hbm, 116, rfl⟩
abbrev main_while0b_call9_c_0 : Ref sig .tc := ⟨.hbm, 117, rfl⟩
abbrev main_while0b_call9_c_1 : Ref sig .tc := ⟨.hbm, 118, rfl⟩
abbrev main_while0b_call9_c_2 : Ref sig .tc := ⟨.hbm, 119, rfl⟩
abbrev main_while0b_call9_v0 : Ref sig .tc := ⟨.hbm, 120, rfl⟩
abbrev main_while0b_v100 : Ref sig .tc := ⟨.hbm, 121, rfl⟩
abbrev main_while0b_call10_c : Ref sig .tc := ⟨.hbm, 122, rfl⟩
abbrev main_while0b_call10_c_0 : Ref sig .tc := ⟨.hbm, 123, rfl⟩
abbrev main_while0b_call10_c_1 : Ref sig .tc := ⟨.hbm, 124, rfl⟩
abbrev main_while0b_call10_c_2 : Ref sig .tc := ⟨.hbm, 125, rfl⟩
abbrev main_while0b_call10_v0 : Ref sig .tc := ⟨.hbm, 126, rfl⟩
abbrev main_while0b_v101 : Ref sig .tc := ⟨.hbm, 127, rfl⟩
abbrev main_while0b_call11_c : Ref sig .tc := ⟨.hbm, 128, rfl⟩
abbrev main_while0b_call11_c_0 : Ref sig .tc := ⟨.hbm, 129, rfl⟩
abbrev main_while0b_call11_c_1 : Ref sig .tc := ⟨.hbm, 130, rfl⟩
abbrev main_while0b_call11_c_2 : Ref sig .tc := ⟨.hbm, 131, rfl⟩
abbrev main_while0b_call11_v0 : Ref sig .tc := ⟨.hbm, 132, rfl⟩
abbrev main_while0b_v102 : Ref sig .tc := ⟨.hbm, 133, rfl⟩
abbrev main_while0b_call12_call0_cst : Ref sig .tc := ⟨.hbm, 134, rfl⟩
abbrev main_while0b_call12_call0_v0 : Ref sig .tc := ⟨.hbm, 135, rfl⟩
abbrev main_while0b_v103 : Ref sig .tc := ⟨.hbm, 136, rfl⟩
abbrev main_while0b_v104 : Ref sig .tc := ⟨.hbm, 137, rfl⟩
abbrev main_while0b_v105 : Ref sig .tc := ⟨.hbm, 138, rfl⟩
abbrev main_while0b_v106 : Ref sig .tc := ⟨.hbm, 139, rfl⟩
abbrev main_while0b_v107 : Ref sig .tc := ⟨.hbm, 140, rfl⟩
abbrev main_while0b_v108 : Ref sig .tc := ⟨.hbm, 141, rfl⟩
abbrev main_while0b_v109 : Ref sig .tc := ⟨.hbm, 142, rfl⟩
abbrev main_while0b_v110 : Ref sig .tc := ⟨.hbm, 143, rfl⟩
abbrev main_while0b_v111 : Ref sig .tc := ⟨.hbm, 144, rfl⟩
abbrev main_while0b_v112 : Ref sig .tc := ⟨.hbm, 145, rfl⟩
abbrev main_while0b_cst_16 : Ref sig .tc := ⟨.hbm, 146, rfl⟩
abbrev main_while0b_call13_v0 : Ref sig .tc := ⟨.hbm, 147, rfl⟩
abbrev main_while0b_call13_v1 : Ref sig .tc := ⟨.hbm, 148, rfl⟩
abbrev main_while0b_call13_v2 : Ref sig .tc := ⟨.hbm, 149, rfl⟩
abbrev main_while0b_v113 : Ref sig .tc := ⟨.hbm, 150, rfl⟩
abbrev main_while0b_v114 : Ref sig .tc := ⟨.hbm, 151, rfl⟩
abbrev main_while0b_v115 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_v119 : Ref sig .tc := ⟨.hbm, 156, rfl⟩
abbrev main_while0b_v120 : Ref sig .tc := ⟨.hbm, 157, rfl⟩
abbrev main_while0b_cst_17 : Ref sig .tc := ⟨.hbm, 158, rfl⟩
abbrev main_while0b_v121 : Ref sig .tc := ⟨.hbm, 159, rfl⟩
abbrev main_while0b_v122 : Ref sig .tc := ⟨.hbm, 160, rfl⟩
abbrev main_while0b_v123 : Ref sig .tc := ⟨.hbm, 161, rfl⟩
abbrev main_while0b_v124 : Ref sig .tc := ⟨.hbm, 162, rfl⟩
abbrev main_while0b_v125 : Ref sig .tc := ⟨.hbm, 163, rfl⟩
abbrev main_while0b_v126 : Ref sig .tc := ⟨.hbm, 164, rfl⟩
abbrev main_while0b_v127 : Ref sig .tc := ⟨.hbm, 165, rfl⟩
abbrev main_while0b_v128 : Ref sig .tc := ⟨.hbm, 166, rfl⟩
abbrev main_while0b_v129 : Ref sig .tc := ⟨.hbm, 167, rfl⟩
abbrev main_while0b_v130 : Ref sig .tc := ⟨.hbm, 168, rfl⟩
abbrev main_while0b_v131 : Ref sig .tc := ⟨.hbm, 169, rfl⟩
abbrev main_while0b_v132 : Ref sig .tc := ⟨.hbm, 170, rfl⟩
abbrev main_while0b_v133 : Ref sig .tc := ⟨.hbm, 171, rfl⟩
abbrev main_while0b_v134 : Ref sig .tc := ⟨.hbm, 172, rfl⟩
abbrev main_while0b_v135 : Ref sig .tc := ⟨.hbm, 173, rfl⟩
abbrev main_while0b_call14_v0 : Ref sig .tc := ⟨.hbm, 174, rfl⟩
abbrev main_while0b_call14_c : Ref sig .tc := ⟨.hbm, 175, rfl⟩
abbrev main_while0b_call14_c_0 : Ref sig .tc := ⟨.hbm, 176, rfl⟩
abbrev main_while0b_call14_c_1 : Ref sig .tc := ⟨.hbm, 177, rfl⟩
abbrev main_while0b_call14_c_2 : Ref sig .tc := ⟨.hbm, 178, rfl⟩
abbrev main_while0b_v136 : Ref sig .tc := ⟨.hbm, 179, rfl⟩
abbrev main_while0b_c_18 : Ref sig .tc := ⟨.hbm, 180, rfl⟩
abbrev main_while0b_v137 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S8x4096x1024 : Shape := ⟨3, ![8, 4096, 1024]⟩
abbrev S8x256x1024 : Shape := ⟨3, ![8, 256, 1024]⟩
abbrev S1024 : Shape := ⟨1, ![1024]⟩
abbrev S8x6x1024 : Shape := ⟨3, ![8, 6, 1024]⟩
abbrev S1x6x1024 : Shape := ⟨3, ![1, 6, 1024]⟩
abbrev S4x1024x6784 : Shape := ⟨3, ![4, 1024, 6784]⟩
abbrev S8x4352x1024 : Shape := ⟨3, ![8, 4352, 1024]⟩
abbrev S34816x1024 : Shape := ⟨2, ![34816, 1024]⟩
abbrev S1x1024 : Shape := ⟨2, ![1, 1024]⟩
abbrev S34816x256 : Shape := ⟨2, ![34816, 256]⟩
abbrev S34816x1920 : Shape := ⟨2, ![34816, 1920]⟩
abbrev S34816x1536 : Shape := ⟨2, ![34816, 1536]⟩
abbrev S34816x3072 : Shape := ⟨2, ![34816, 3072]⟩
abbrev S544x1024 : Shape := ⟨2, ![544, 1024]⟩
abbrev S1x1024x6784 : Shape := ⟨3, ![1, 1024, 6784]⟩
abbrev S544x256 : Shape := ⟨2, ![544, 256]⟩
abbrev S544x1920 : Shape := ⟨2, ![544, 1920]⟩
abbrev S544x1536 : Shape := ⟨2, ![544, 1536]⟩
abbrev S544x3072 : Shape := ⟨2, ![544, 3072]⟩
abbrev S544x1 : Shape := ⟨2, ![544, 1]⟩
abbrev S544 : Shape := ⟨1, ![544]⟩
abbrev S1x1x1024 : Shape := ⟨3, ![1, 1, 1024]⟩
abbrev S1x1024x256 : Shape := ⟨3, ![1, 1024, 256]⟩
abbrev S1024x256 : Shape := ⟨2, ![1024, 256]⟩
abbrev S1x1024x1920 : Shape := ⟨3, ![1, 1024, 1920]⟩
abbrev S1024x1920 : Shape := ⟨2, ![1024, 1920]⟩
abbrev S1x1024x1536 : Shape := ⟨3, ![1, 1024, 1536]⟩
abbrev S1024x1536 : Shape := ⟨2, ![1024, 1536]⟩
abbrev S1x1024x3072 : Shape := ⟨3, ![1, 1024, 3072]⟩
abbrev S1024x3072 : Shape := ⟨2, ![1024, 3072]⟩

abbrev nBuf : Space → Nat
  | .hbm => 14
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1024, .f32⟩
  | .hbm, ⟨4, _⟩ => ⟨S1x6x1024, .f32⟩
  | .hbm, ⟨5, _⟩ => ⟨S4x1024x6784, .f32⟩
  | .hbm, ⟨6, _⟩ => ⟨S8x4352x1024, .f32⟩
  | .hbm, ⟨7, _⟩ => ⟨S34816x1024, .f32⟩
  | .hbm, ⟨8, _⟩ => ⟨S4x1024x6784, .bf16⟩
  | .hbm, ⟨9, _⟩ => ⟨S1x1024, .f32⟩
  | .hbm, ⟨10, _⟩ => ⟨S34816x256, .f32⟩
  | .hbm, ⟨11, _⟩ => ⟨S34816x1920, .f32⟩
  | .hbm, ⟨12, _⟩ => ⟨S34816x1536, .bf16⟩
  | .hbm, ⟨13, _⟩ => ⟨S34816x3072, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024x6784, .bf16⟩
  | .local _ .vmem, ⟨7, _⟩ => ⟨S544x256, .f32⟩
  | .local _ .vmem, ⟨8, _⟩ => ⟨S544x256, .f32⟩
  | .local _ .vmem, ⟨9, _⟩ => ⟨S544x1920, .f32⟩
  | .local _ .vmem, ⟨10, _⟩ => ⟨S544x1920, .f32⟩
  | .local _ .vmem, ⟨11, _⟩ => ⟨S544x1536, .bf16⟩
  | .local _ .vmem, ⟨12, _⟩ => ⟨S544x1536, .bf16⟩
  | .local _ .vmem, ⟨13, _⟩ => ⟨S544x3072, .bf16⟩
  | .local _ .vmem, ⟨14, _⟩ => ⟨S544x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x6784 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S8x256x1024 : Shape := ⟨3, ![8, 256, 1024]⟩
abbrev S1024 : Shape := ⟨1, ![1024]⟩
abbrev S8x6x1024 : Shape := ⟨3, ![8, 6, 1024]⟩
abbrev S1x6x1024 : Shape := ⟨3, ![1, 6, 1024]⟩
abbrev S4x1024x6784 : Shape := ⟨3, ![4, 1024, 6784]⟩
abbrev S8x6x1x1024 : Shape := ⟨4, ![8, 6, 1, 1024]⟩
abbrev S6x1024 : Shape := ⟨2, ![6, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024 : Shape := ⟨2, ![1, 1024]⟩
abbrev S8x4096 : Shape := ⟨2, ![8, 4096]⟩
abbrev S8x4096x1 : Shape := ⟨3, ![8, 4096, 1]⟩
abbrev S8x1x1x1024 : Shape := ⟨4, ![8, 1, 1, 1024]⟩
abbrev S8x1x1024 : Shape := ⟨3, ![8, 1, 1024]⟩
abbrev S8x4352x1024 : Shape := ⟨3, ![8, 4352, 1024]⟩
abbrev S1x1024x6784 : Shape := ⟨3, ![1, 1024, 6784]⟩
abbrev S1024x6784 : Shape := ⟨2, ![1024, 6784]⟩
abbrev S8x4352x6784 : Shape := ⟨3, ![8, 4352, 6784]⟩
abbrev S34816x6784 : Shape := ⟨2, ![34816, 6784]⟩
abbrev S34816x256 : Shape := ⟨2, ![34816, 256]⟩
abbrev S34816x1920 : Shape := ⟨2, ![34816, 1920]⟩
abbrev S34816x1536 : Shape := ⟨2, ![34816, 1536]⟩
abbrev S34816x3072 : Shape := ⟨2, ![34816, 3072]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1024, .f32⟩
  | .hbm, ⟨4, _⟩ => ⟨S1x6x1024, .f32⟩
  | .hbm, ⟨5, _⟩ => ⟨S4x1024x6784, .f32⟩
  | .hbm, ⟨6, _⟩ => ⟨S8x6x1x1024, .f32⟩
  | .hbm, ⟨7, _⟩ => ⟨S6x1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S8x256x1024, .f32⟩
  | .hbm, ⟨33, _⟩ => ⟨S8x256x1024, .f32⟩
  | .hbm, ⟨34, _⟩ => ⟨S1x1x1024, .f32⟩
  | .hbm, ⟨35, _⟩ => ⟨S8x256x1024, .f32⟩
  | .hbm, ⟨36, _⟩ => ⟨S8x256x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S8x1x1x1024, .f32⟩
  | .hbm, ⟨54, _⟩ => ⟨S8x1x1024, .f32⟩
  | .hbm, ⟨55, _⟩ => ⟨S8x1x1x1024, .f32⟩
  | .hbm, ⟨56, _⟩ => ⟨S8x1x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4352x1024, .f32⟩
  | .hbm, ⟨65, _⟩ => ⟨S1x1024x6784, .f32⟩
  | .hbm, ⟨66, _⟩ => ⟨S1024x6784, .f32⟩
  | .hbm, ⟨67, _⟩ => ⟨S8x4352x6784, .f32⟩
  | .hbm, ⟨68, _⟩ => ⟨S34816x6784, .f32⟩
  | .hbm, ⟨69, _⟩ => ⟨S34816x256, .f32⟩
  | .hbm, ⟨70, _⟩ => ⟨S34816x1920, .f32⟩
  | .hbm, ⟨71, _⟩ => ⟨S34816x1536, .f32⟩
  | .hbm, ⟨72, _⟩ => ⟨S34816x3072, .f32⟩
  | .hbm, ⟨73, _⟩ => ⟨S34816x1536, .bf16⟩
  | .hbm, ⟨74, _⟩ => ⟨S34816x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel3.lean ====
abbrev S34816x1024 : Shape := ⟨2, ![34816, 1024]⟩
abbrev S34816x256 : Shape := ⟨2, ![34816, 256]⟩
abbrev S34816x384 : Shape := ⟨2, ![34816, 384]⟩
abbrev S34816x1920 : Shape := ⟨2, ![34816, 1920]⟩
abbrev S34816x1536 : Shape := ⟨2, ![34816, 1536]⟩
abbrev S34816x3072 : Shape := ⟨2, ![34816, 3072]⟩
abbrev S8x6x1024 : Shape := ⟨3, ![8, 6, 1024]⟩
abbrev S1x6x1024 : Shape := ⟨3, ![1, 6, 1024]⟩
abbrev S1024 : Shape := ⟨1, ![1024]⟩
abbrev S256x256 : Shape := ⟨2, ![256, 256]⟩
abbrev S256x1024 : Shape := ⟨2, ![256, 1024]⟩
abbrev S384x1024 : Shape := ⟨2, ![384, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S6x6 : Shape := ⟨2, ![6, 6]⟩
abbrev S_ : Shape := ⟨0, ![]⟩
abbrev S64x64 : Shape := ⟨2, ![64, 64]⟩
abbrev S6x1x6x1 : Shape := ⟨4, ![6, 1, 6, 1]⟩
abbrev S1x64x1x64 : Shape := ⟨4, ![1, 64, 1, 64]⟩
abbrev S6x64x6x64 : Shape := ⟨4, ![6, 64, 6, 64]⟩
abbrev S384x384 : Shape := ⟨2, ![384, 384]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x256 : Shape := ⟨2, ![1024, 256]⟩
abbrev S1x1024 : Shape := ⟨2, ![1, 1024]⟩
abbrev S278528x128 : Shape := ⟨2, ![278528, 128]⟩
abbrev S34816x128 : Shape := ⟨2, ![34816, 128]⟩
abbrev S544x1024 : Shape := ⟨2, ![544, 1024]⟩
abbrev S544x256 : Shape := ⟨2, ![544, 256]⟩
abbrev S544x384 : Shape := ⟨2, ![544, 384]⟩
abbrev S544x3072 : Shape := ⟨2, ![544, 3072]⟩
abbrev S4352x128 : Shape := ⟨2, ![4352, 128]⟩
abbrev S544x128 : Shape := ⟨2, ![544, 128]⟩
abbrev S544x1 : Shape := ⟨2, ![544, 1]⟩
abbrev S1x1x1024 : Shape := ⟨3, ![1, 1, 1024]⟩
abbrev S544 : Shape := ⟨1, ![544]⟩

abbrev nBuf : Space → Nat
  | .hbm => 58
  | .vmem => 36
  | .smem => 0
  | _ => 0

abbrev bufTy : (tb : Table) → Fin (tcTables nBuf tb) → BufTy
  | .hbm, ⟨0, _⟩ => ⟨S34816x1024, .f32⟩
  | .hbm, ⟨1, _⟩ => ⟨S34816x256, .f32⟩
  | .hbm, ⟨2, _⟩ => ⟨S34816x384, .f32⟩
  | .hbm, ⟨3, _⟩ => ⟨S34816x384, .f32⟩
  | .hbm, ⟨4, _⟩ => ⟨S34816x1920, .f32⟩
  | .hbm, ⟨5, _⟩ => ⟨S34816x384, .f32⟩
  | .hbm, ⟨6, _⟩ => ⟨S34816x384, .f32⟩
  | .hbm, ⟨7, _⟩ => ⟨S34816x1536, .bf16⟩
  | .hbm, ⟨8, _⟩ => ⟨S34816x3072, .bf16⟩
  | .hbm, ⟨9, _⟩ => ⟨S8x6x1024, .f32⟩
  | .hbm, ⟨10, _⟩ => ⟨S1x6x1024, .f32⟩
  | .hbm, ⟨11, _⟩ => ⟨S1024, .f32⟩
  | .hbm, ⟨12, _⟩ => ⟨S256x256, .f32⟩
  | .hbm, ⟨13, _⟩ => ⟨S256x1024, .f32⟩
  | .hbm, ⟨14, _⟩ => ⟨S384x1024, .f32⟩
  | .hbm, ⟨15, _⟩ => ⟨S384x1024, .f32⟩
  | .hbm, ⟨16, _⟩ => ⟨S1024x1024, .f32⟩
  | .hbm, ⟨17, _⟩ => ⟨S1024x4, .f32⟩
  | .hbm, ⟨18, _⟩ => ⟨S4, .f32⟩
  | .hbm, ⟨19, _⟩ => ⟨S1024x32, .f32⟩
  | .hbm, ⟨20, _⟩ => ⟨S32, .f32⟩
  | .hbm, ⟨21, _⟩ => ⟨S6x6, .i32⟩
  | .hbm, ⟨22, _⟩ => ⟨S6x6, .i32⟩
  | .hbm, ⟨23, _⟩ => ⟨S_, .i32⟩
  | .hbm, ⟨24, _⟩ => ⟨S6x6, .i32⟩
  | .hbm, ⟨25, _⟩ => ⟨S6x6, .i32⟩
  | .hbm, ⟨26, _⟩ => ⟨S6x6, .i1⟩
  | .hbm, ⟨27, _⟩ => ⟨S6x6, .f32⟩
  | .hbm, ⟨28, _⟩ => ⟨S_, .f32⟩
  | .hbm, ⟨29, _⟩ => ⟨S64x64, .f32⟩
  | .hbm, ⟨30, _⟩ => ⟨S6x1x6x1, .f32⟩
  | .hbm, ⟨31, _⟩ => ⟨S1x64x1x64, .f32⟩
  | .hbm, ⟨32, _⟩ => ⟨S6x64x6x64, .f32⟩
  | .hbm, ⟨33, _⟩ => ⟨S6x64x6x64, .f32⟩
  | .hbm, ⟨34, _⟩ => ⟨S6x64x6x64, .f32⟩
  | .hbm, ⟨35, _⟩ => ⟨S384x384, .f32⟩
  | .hbm, ⟨36, _⟩ => ⟨S384x384, .bf16⟩
  | .hbm, ⟨37, _⟩ => ⟨S_, .f32⟩
  | .hbm, ⟨38, _⟩ => ⟨S1024x92, .f32⟩
  | .hbm, ⟨39, _⟩ => ⟨S1024x128, .f32⟩
  | .hbm, ⟨40, _⟩ => ⟨S_, .f32⟩
  | .hbm, ⟨41, _⟩ => ⟨S92, .f32⟩
  | .hbm, ⟨42, _⟩ => ⟨S128, .f32⟩
  | .hbm, ⟨43, _⟩ => ⟨S1x128, .f32⟩
  | .hbm, ⟨44, _⟩ => ⟨S1024x128, .bf16⟩
  | .hbm, ⟨45, _⟩ => ⟨S1024x128, .f32⟩
  | .hbm, ⟨46, _⟩ => ⟨S1024x128, .f32⟩
  | .hbm, ⟨47, _⟩ => ⟨S1024x128, .bf16⟩
  | .hbm, ⟨48, _⟩ => ⟨S1024x256, .bf16⟩
  | .hbm, ⟨49, _⟩ => ⟨S256x256, .bf16⟩
  | .hbm, ⟨50, _⟩ => ⟨S256x1024, .bf16⟩
  | .hbm, ⟨51, _⟩ => ⟨S384x1024, .bf16⟩
  | .hbm, ⟨52, _⟩ => ⟨S384x1024, .bf16⟩
  | .hbm, ⟨53, _⟩ => ⟨S1024x1024, .bf16⟩
  | .hbm, ⟨54, _⟩ => ⟨S1x1024, .f32⟩
  | .hbm, ⟨55, _⟩ => ⟨S34816x1024, .f32⟩
  | .hbm, ⟨56, _⟩ => ⟨S278528x128, .f32⟩
  | .hbm, ⟨57, _⟩ => ⟨S34816x128, .f32⟩
  | .local _ .vmem, ⟨0, _⟩ => ⟨S544x1024, .f32⟩
  | .local _ .vmem, ⟨1, _⟩ => ⟨S544x1024, .f32⟩
  | .local _ .vmem, ⟨2, _⟩ => ⟨S544x256, .f32⟩
  | .local _ .vmem, ⟨3, _⟩ => ⟨S544x256, .f32⟩
  | .local _ .vmem, ⟨4, _⟩ => ⟨S544x384, .f32⟩
  | .local _ .vmem, ⟨5, _⟩ => ⟨S544x384, .f32⟩
  | .local _ .vmem, ⟨6, _⟩ => ⟨S544x384, .f32⟩
  | .local _ .vmem, ⟨7, _⟩ => ⟨S544x384, .f32⟩
  | .local _ .vmem, ⟨8, _⟩ => ⟨S544x384, .f32⟩
  | .local _ .vmem, ⟨9, _⟩ => ⟨S544x384, .f32⟩
  | .local _ .vmem, ⟨10, _⟩ => ⟨S544x384, .f32⟩
  | .local _ .vmem, ⟨11, _⟩ => ⟨S544x384, .f32⟩
  | .local _ .vmem, ⟨12, _⟩ => ⟨S544x384, .f32⟩
  | .local _ .vmem, ⟨13, _⟩ => ⟨S544x384, .f32⟩
  | .local _ .vmem, ⟨14, _⟩ => ⟨S544x384, .bf16⟩
  | .local _ .vmem, ⟨15, _⟩ => ⟨S544x384, .bf16⟩
  | .local _ .vmem, ⟨16, _⟩ => ⟨S544x3072, .bf16⟩
  | .local _ .vmem, ⟨17, _⟩ => ⟨S544x3072, .bf16⟩
  | .local _ .vmem, ⟨18, _⟩ => ⟨S1x6x1024, .f32⟩
  | .local _ .vmem, ⟨19, _⟩ => ⟨S1x6x1024, .f32⟩
  | .local _ .vmem, ⟨20, _⟩ => ⟨S1x6x1024, .f32⟩
  | .local _ .vmem, ⟨21, _⟩ => ⟨S1x1024, .f32⟩
  | .local _ .vmem, ⟨22, _⟩ => ⟨S256x256, .bf16⟩
  | .local _ .vmem, ⟨23, _⟩ => ⟨S256x1024, .bf16⟩
  | .local _ .vmem, ⟨24, _⟩ => ⟨S384x1024, .bf16⟩
  | .local _ .vmem, ⟨25, _⟩ => ⟨S384x1024, .bf16⟩
  | .local _ .vmem, ⟨26, _⟩ => ⟨S1024x1024, .bf16⟩
  | .local _ .vmem, ⟨27, _⟩ => ⟨S384x384, .bf16⟩
  | .local _ .vmem, ⟨28, _⟩ => ⟨S1024x256, .bf16⟩
  | .local _ .vmem, ⟨29, _⟩ => ⟨S1x128, .f32⟩
  | .local _ .vmem, ⟨30, _⟩ => ⟨S544x1024, .f32⟩
  | .local _ .vmem, ⟨31, _⟩ => ⟨S544x1024, .f32⟩
  | .local _ .vmem, ⟨32, _⟩ => ⟨S4352x128, .f32⟩
  | .local _ .vmem, ⟨33, _⟩ => ⟨S4352x128, .f32⟩
  | .local _ .vmem, ⟨34, _⟩ => ⟨S544x128, .f32⟩
  | .local _ .vmem, ⟨35, _⟩ => ⟨S544x128, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25_0 : Ref sig .tc := ⟨.hbm, 55, rfl⟩
abbrev main_v25_1 : Ref sig .tc := ⟨.hbm, 56, rfl⟩
abbrev main_v25_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x6x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x384 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S544x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4352x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S544x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S34816x1024 : Shape := ⟨2, ![34816, 1024]⟩
abbrev S34816x256 : Shape := ⟨2, ![34816, 256]⟩
abbrev S34816x384 : Shape := ⟨2, ![34816, 384]⟩
abbrev S34816x1920 : Shape := ⟨2, ![34816, 1920]⟩
abbrev S34816x1536 : Shape := ⟨2, ![34816, 1536]⟩
abbrev S34816x3072 : Shape := ⟨2, ![34816, 3072]⟩
abbrev S8x6x1024 : Shape := ⟨3, ![8, 6, 1024]⟩
abbrev S1x6x1024 : Shape := ⟨3, ![1, 6, 1024]⟩
abbrev S1024 : Shape := ⟨1, ![1024]⟩
abbrev S256x256 : Shape := ⟨2, ![256, 256]⟩
abbrev S256x1024 : Shape := ⟨2, ![256, 1024]⟩
abbrev S384x1024 : Shape := ⟨2, ![384, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S34816x6x64 : Shape := ⟨3, ![34816, 6, 64]⟩
abbrev S34816x6 : Shape := ⟨2, ![34816, 6]⟩
abbrev S34816x6x1 : Shape := ⟨3, ![34816, 6, 1]⟩
abbrev S34816x3x1024 : Shape := ⟨3, ![34816, 3, 1024]⟩
abbrev S34816x1x1024 : Shape := ⟨3, ![34816, 1, 1024]⟩
abbrev S8x4352x1024 : Shape := ⟨3, ![8, 4352, 1024]⟩
abbrev S8x6x1x1024 : Shape := ⟨4, ![8, 6, 1, 1024]⟩
abbrev S6x1024 : Shape := ⟨2, ![6, 1024]⟩
abbrev S8x256x1024 : Shape := ⟨3, ![8, 256, 1024]⟩
abbrev S1x1024 : Shape := ⟨2, ![1, 1024]⟩
abbrev S1x1x1024 : Shape := ⟨3, ![1, 1, 1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x4096 : Shape := ⟨2, ![8, 4096]⟩
abbrev S8x4096x1 : Shape := ⟨3, ![8, 4096, 1]⟩
abbrev S278528x128 : Shape := ⟨2, ![278528, 128]⟩

abbrev nBuf : Space → Nat
  | .hbm => 207
  | .vmem => 0
  | .smem => 0
  | _ => 0

abbrev hbmTy0_0 (i : Nat) : BufTy := match i % 128 with
  | 0 => ⟨S34816x1024, .f32⟩
  | 1 => ⟨S34816x256, .f32⟩
  | 2 => ⟨S34816x384, .f32⟩
  | 3 => ⟨S34816x384, .f32⟩
  | 4 => ⟨S34816x1920, .f32⟩
  | 5 => ⟨S34816x384, .f32⟩
  | 6 => ⟨S34816x384, .f32⟩
  | 7 => ⟨S34816x1536, .bf16⟩
  | 8 => ⟨S34816x3072, .bf16⟩
  | 9 => ⟨S8x6x1024, .f32⟩
  | 10 => ⟨S1x6x1024, .f32⟩
  | 11 => ⟨S1024, .f32⟩
  | 12 => ⟨S256x256, .f32⟩
  | 13 => ⟨S256x1024, .f32⟩
  | 14 => ⟨S384x1024, .f32⟩
  | 15 => ⟨S384x1024, .f32⟩
  | 16 => ⟨S1024x1024, .f32⟩
  | 17 => ⟨S1024x4, .f32⟩
  | 18 => ⟨S4, .f32⟩
  | 19 => ⟨S1024x32, .f32⟩
  | 20 => ⟨S32, .f32⟩
  | 21 => ⟨S34816x256, .f32⟩
  | 22 => ⟨S34816x256, .f32⟩
  | 23 => ⟨S_, .f32⟩
  | 24 => ⟨S34816x256, .f32⟩
  | 25 => ⟨S34816x256, .f32⟩
  | 26 => ⟨S34816x256, .f32⟩
  | 27 => ⟨S_, .f32⟩
  | 28 => ⟨S34816x256, .f32⟩
  | 29 => ⟨S34816x256, .f32⟩
  | 30 => ⟨S34816x256, .f32⟩
  | 31 => ⟨S_, .f32⟩
  | 32 => ⟨S34816x256, .f32⟩
  | 33 => ⟨S34816x256, .f32⟩
  | 34 => ⟨S_, .f32⟩
  | 35 => ⟨S34816x256, .f32⟩
  | 36 => ⟨S34816x256, .f32⟩
  | 37 => ⟨S34816x256, .f32⟩
  | 38 => ⟨S34816x256, .f32⟩
  | 39 => ⟨S34816x256, .f32⟩
  | 40 => ⟨S34816x256, .f32⟩
  | 41 => ⟨S_, .f32⟩
  | 42 => ⟨S34816x256, .f32⟩
  | 43 => ⟨S34816x256, .f32⟩
  | 44 => ⟨S_, .f32⟩
  | 45 => ⟨S34816x256, .f32⟩
  | 46 => ⟨S34816x256, .f32⟩
  | 47 => ⟨S34816x256, .f32⟩
  | 48 => ⟨S34816x384, .f32⟩
  | 49 => ⟨S34816x384, .f32⟩
  | 50 => ⟨S34816x6x64, .f32⟩
  | 51 => ⟨S34816x6x64, .f32⟩
  | 52 => ⟨S_, .f32⟩
  | 53 => ⟨S34816x6, .f32⟩
  | 54 => ⟨S34816x6x1, .f32⟩
  | 55 => ⟨S_, .f32⟩
  | 56 => ⟨S34816x6x1, .f32⟩
  | 57 => ⟨S34816x6x1, .f32⟩
  | 58 => ⟨S_, .f32⟩
  | 59 => ⟨S34816x6x1, .f32⟩
  | 60 => ⟨S34816x6x1, .f32⟩
  | 61 => ⟨S34816x6x1, .f32⟩
  | 62 => ⟨S34816x6x64, .f32⟩
  | 63 => ⟨S34816x6x64, .f32⟩
  | 64 => ⟨S34816x384, .f32⟩
  | 65 => ⟨S34816x384, .f32⟩
  | 66 => ⟨S34816x384, .f32⟩
  | 67 => ⟨S_, .f32⟩
  | 68 => ⟨S34816x384, .f32⟩
  | 69 => ⟨S34816x384, .f32⟩
  | 70 => ⟨S_, .f32⟩
  | 71 => ⟨S34816x384, .f32⟩
  | 72 => ⟨S34816x384, .f32⟩
  | 73 => ⟨S34816x384, .f32⟩
  | 74 => ⟨S34816x384, .f32⟩
  | 75 => ⟨S34816x384, .f32⟩
  | 76 => ⟨S34816x384, .bf16⟩
  | 77 => ⟨S34816x384, .f32⟩
  | 78 => ⟨S34816x6x64, .f32⟩
  | 79 => ⟨S34816x6x64, .f32⟩
  | 80 => ⟨S_, .f32⟩
  | 81 => ⟨S34816x6, .f32⟩
  | 82 => ⟨S34816x6x1, .f32⟩
  | 83 => ⟨S_, .f32⟩
  | 84 => ⟨S34816x6x1, .f32⟩
  | 85 => ⟨S34816x6x1, .f32⟩
  | 86 => ⟨S_, .f32⟩
  | 87 => ⟨S34816x6x1, .f32⟩
  | 88 => ⟨S34816x6x1, .f32⟩
  | 89 => ⟨S34816x6x1, .f32⟩
  | 90 => ⟨S34816x6x64, .f32⟩
  | 91 => ⟨S34816x6x64, .f32⟩
  | 92 => ⟨S34816x384, .f32⟩
  | 93 => ⟨S34816x384, .f32⟩
  | 94 => ⟨S34816x384, .f32⟩
  | 95 => ⟨S_, .f32⟩
  | 96 => ⟨S34816x384, .f32⟩
  | 97 => ⟨S34816x384, .f32⟩
  | 98 => ⟨S_, .f32⟩
  | 99 => ⟨S34816x384, .f32⟩
  | 100 => ⟨S34816x384, .f32⟩
  | 101 => ⟨S34816x384, .f32⟩
  | 102 => ⟨S34816x384, .f32⟩
  | 103 => ⟨S34816x3072, .f32⟩
  | 104 => ⟨S34816x3072, .f32⟩
  | 105 => ⟨S34816x3072, .f32⟩
  | 106 => ⟨S_, .f32⟩
  | 107 => ⟨S34816x3072, .f32⟩
  | 108 => ⟨S34816x3072, .f32⟩
  | 109 => ⟨S_, .f32⟩
  | 110 => ⟨S34816x3072, .f32⟩
  | 111 => ⟨S34816x3072, .f32⟩
  | 112 => ⟨S34816x3x1024, .f32⟩
  | 113 => ⟨S34816x1x1024, .f32⟩
  | 114 => ⟨S34816x1024, .f32⟩
  | 115 => ⟨S34816x1024, .f32⟩
  | 116 => ⟨S34816x1024, .f32⟩
  | 117 => ⟨S34816x1x1024, .f32⟩
  | 118 => ⟨S34816x1024, .f32⟩
  | 119 => ⟨S34816x1024, .f32⟩
  | 120 => ⟨S34816x1024, .f32⟩
  | 121 => ⟨S34816x1024, .f32⟩
  | 122 => ⟨S34816x1x1024, .f32⟩
  | 123 => ⟨S34816x1024, .f32⟩
  | 124 => ⟨S34816x1024, .f32⟩
  | 125 => ⟨S34816x1024, .f32⟩
  | 126 => ⟨S34816x1024, .f32⟩
  | 127 => ⟨S34816x1024, .f32⟩
  | _ => ⟨S34816x1024, .f32⟩

abbrev hbmTy0_1 (i : Nat) : BufTy := match i % 128 with
  | 0 => ⟨S8x4352x1024, .f32⟩
  | 1 => ⟨S8x4352x1024, .f32⟩
  | 2 => ⟨S8x6x1x1024, .f32⟩
  | 3 => ⟨S6x1024, .f32⟩
  | 4 => ⟨S8x256x1024, .f32⟩
  | 5 => ⟨S1x1024, .f32⟩
  | 6 => ⟨S1024, .f32⟩
  | 7 => ⟨S8x256x1024, .f32⟩
  | 8 => ⟨S1x1x1024, .f32⟩
  | 9 => ⟨S8x256x1024, .f32⟩
  | 10 => ⟨S8x256x1024, .f32⟩
  | 11 => ⟨S8x256x1024, .f32⟩
  | 12 => ⟨S8x4096x1024, .f32⟩
  | 13 => ⟨S8x1x1x1024, .f32⟩
  | 14 => ⟨S8x1x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S8x256x1024, .f32⟩
  | 20 => ⟨S_, .f32⟩
  | 21 => ⟨S8x256, .f32⟩
  | 22 => ⟨S8x256x1, .f32⟩
  | 23 => ⟨S_, .f32⟩
  | 24 => ⟨S8x256x1, .f32⟩
  | 25 => ⟨S8x256x1, .f32⟩
  | 26 => ⟨S_, .f32⟩
  | 27 => ⟨S8x256x1, .f32⟩
  | 28 => ⟨S8x256x1, .f32⟩
  | 29 => ⟨S8x256x1, .f32⟩
  | 30 => ⟨S8x256x1024, .f32⟩
  | 31 => ⟨S8x256x1024, .f32⟩
  | 32 => ⟨S1x1x1024, .f32⟩
  | 33 => ⟨S8x256x1024, .f32⟩
  | 34 => ⟨S8x256x1024, .f32⟩
  | 35 => ⟨S1x1024, .f32⟩
  | 36 => ⟨S1024, .f32⟩
  | 37 => ⟨S1x1024, .f32⟩
  | 38 => ⟨S1024, .f32⟩
  | 39 => ⟨S_, .f32⟩
  | 40 => ⟨S1024, .f32⟩
  | 41 => ⟨S1024, .f32⟩
  | 42 => ⟨S1x1x1024, .f32⟩
  | 43 => ⟨S8x256x1024, .f32⟩
  | 44 => ⟨S8x256x1024, .f32⟩
  | 45 => ⟨S1x1x1024, .f32⟩
  | 46 => ⟨S8x256x1024, .f32⟩
  | 47 => ⟨S8x256x1024, .f32⟩
  | 48 => ⟨S8x4096x1024, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S8x1x1x1024, .f32⟩
  | 65 => ⟨S8x1x1024, .f32⟩
  | 66 => ⟨S8x1x1x1024, .f32⟩
  | 67 => ⟨S8x1x1024, .f32⟩
  | 68 => ⟨S_, .f32⟩
  | 69 => ⟨S8x1x1024, .f32⟩
  | 70 => ⟨S8x1x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4352x1024, .f32⟩
  | 76 => ⟨S34816x1024, .f32⟩
  | 77 => ⟨S8x4352x1024, .f32⟩
  | 78 => ⟨S278528x128, .f32⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_cst_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_8 : Ref sig .tc := ⟨.hbm, 80, rfl⟩
abbrev main_v42 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_cst_10 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_11 : Ref sig .tc := ⟨.hbm, 106, rfl⟩
abbrev main_v57 : Ref sig .tc := ⟨.hbm, 107, rfl⟩
abbrev main_v58 : Ref sig .tc := ⟨.hbm, 108, rfl⟩
abbrev main_cst_12 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_13 : Ref sig .tc := ⟨.hbm, 148, rfl⟩
abbrev main_v97 : Ref sig .tc := ⟨.hbm, 149, rfl⟩
abbrev main_v98 : Ref sig .tc := ⟨.hbm, 150, rfl⟩
abbrev main_cst_14 : Ref sig .tc := ⟨.hbm, 151, rfl⟩
abbrev main_v99 : Ref sig .tc := ⟨.hbm, 152, rfl⟩
abbrev main_v100 : Ref sig .tc := ⟨.hbm, 153, rfl⟩
abbrev main_cst_15 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_16 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_17 : Ref sig .tc := ⟨.hbm, 177, rfl⟩
abbrev main_v122 : Ref sig .tc := ⟨.hbm, 178, rfl⟩
abbrev main_v123 : Ref sig .tc := ⟨.hbm, 179, rfl⟩
abbrev main_cst_18 : Ref sig .tc := ⟨.hbm, 180, rfl⟩
abbrev main_v124 : Ref sig .tc := ⟨.hbm, 181, rfl⟩
abbrev main_v125 : Ref sig .tc := ⟨.hbm, 182, rfl⟩
abbrev main_cst_19 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_20 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩

abbrev nBuf : Space → Nat
  | .hbm => 81
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x6144, .f32⟩
  | .hbm, ⟨35, _⟩ => ⟨S1024x6144, .f32⟩
  | .hbm, ⟨36, _⟩ => ⟨S16x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S16x6144, .f32⟩
  | .hbm, ⟨41, _⟩ => ⟨S16x6144, .f32⟩
  | .hbm, ⟨42, _⟩ => ⟨S16x1024, .f32⟩
  | .hbm, ⟨43, _⟩ => ⟨S16x1024, .f32⟩
  | .hbm, ⟨44, _⟩ => ⟨S_, .f32⟩
  | .hbm, ⟨45, _⟩ => ⟨S16x1024, .f32⟩
  | .hbm, ⟨46, _⟩ => ⟨S16x1024, .f32⟩
  | .hbm, ⟨47, _⟩ => ⟨S_, .f32⟩
  | .hbm, ⟨48, _⟩ => ⟨S16x1024, .f32⟩
  | .hbm, ⟨49, _⟩ => ⟨S16x1024, .f32⟩
  | .hbm, ⟨50, _⟩ => ⟨S16x1024, .f32⟩
  | .hbm, ⟨51, _⟩ => ⟨S1x1024x6144, .f32⟩
  | .hbm, ⟨52, _⟩ => ⟨S1024x6144, .f32⟩
  | .hbm, ⟨53, _⟩ => ⟨S16x6144, .f32⟩
  | .hbm, ⟨54, _⟩ => ⟨S1x6144, .f32⟩
  | .hbm, ⟨55, _⟩ => ⟨S6144, .f32⟩
  | .hbm, ⟨56, _⟩ => ⟨S1x6144, .f32⟩
  | .hbm, ⟨57, _⟩ => ⟨S16x6144, .f32⟩
  | .hbm, ⟨58, _⟩ => ⟨S16x6144, .f32⟩
  | .hbm, ⟨59, _⟩ => ⟨S16x1024, .f32⟩
  | .hbm, ⟨60, _⟩ => ⟨S16x1024, .f32⟩
  | .hbm, ⟨61, _⟩ => ⟨S_, .f32⟩
  | .hbm, ⟨62, _⟩ => ⟨S16x1024, .f32⟩
  | .hbm, ⟨63, _⟩ => ⟨S16x1024, .f32⟩
  | .hbm, ⟨64, _⟩ => ⟨S_, .f32⟩
  | .hbm, ⟨65, _⟩ => ⟨S16x1024, .f32⟩
  | .hbm, ⟨66, _⟩ => ⟨S16x1024, .f32⟩
  | .hbm, ⟨67, _⟩ => ⟨S16x1024, .f32⟩
  | .hbm, ⟨68, _⟩ => ⟨S1x1024x6144, .f32⟩
  | .hbm, ⟨69, _⟩ => ⟨S1024x6144, .f32⟩
  | .hbm, ⟨70, _⟩ => ⟨S16x6144, .f32⟩
  | .hbm, ⟨71, _⟩ => ⟨S1x6144, .f32⟩
  | .hbm, ⟨72, _⟩ => ⟨S6144, .f32⟩
  | .hbm, ⟨73, _⟩ => ⟨S1x6144, .f32⟩
  | .hbm, ⟨74, _⟩ => ⟨S16x6144, .f32⟩
  | .hbm, ⟨75, _⟩ => ⟨S16x6144, .f32⟩
  | .hbm, ⟨76, _⟩ => ⟨S1x16x6144, .f32⟩
  | .hbm, ⟨77, _⟩ => ⟨S1x16x6144, .f32⟩
  | .hbm, ⟨78, _⟩ => ⟨S1x16x6144, .f32⟩
  | .hbm, ⟨79, _⟩ => ⟨S1x16x6144, .f32⟩
  | .hbm, ⟨80, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩

abbrev nD : Nat := 1
abbrev τ : Topo := Topo.v7x

variable {F : FTy → Type} [FloatOps F]
-- ==== Kernel5.lean ====
abbrev S34816x1024 : Shape := ⟨2, ![34816, 1024]⟩
abbrev S558848x128 : Shape := ⟨2, ![558848, 128]⟩
abbrev S34816x128 : Shape := ⟨2, ![34816, 128]⟩
abbrev S8x6x1024 : Shape := ⟨3, ![8, 6, 1024]⟩
abbrev S1x6x1024 : Shape := ⟨3, ![1, 6, 1024]⟩
abbrev S544x1024 : Shape := ⟨2, ![544, 1024]⟩
abbrev S8704x128 : Shape := ⟨2, ![8704, 128]⟩
abbrev S544x128 : Shape := ⟨2, ![544, 128]⟩
abbrev S544x1 : Shape := ⟨2, ![544, 1]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S34816x1024, .f32⟩
  | .hbm, ⟨1, _⟩ => ⟨S558848x128, .f32⟩
  | .hbm, ⟨2, _⟩ => ⟨S34816x128, .f32⟩
  | .hbm, ⟨3, _⟩ => ⟨S8x6x1024, .f32⟩
  | .hbm, ⟨4, _⟩ => ⟨S1x6x1024, .f32⟩
  | .hbm, ⟨5, _⟩ => ⟨S34816x1024, .f32⟩
  | .local _ .vmem, ⟨0, _⟩ => ⟨S544x1024, .f32⟩
  | .local _ .vmem, ⟨1, _⟩ => ⟨S544x1024, .f32⟩
  | .local _ .vmem, ⟨2, _⟩ => ⟨S8704x128, .f32⟩
  | .local _ .vmem, ⟨3, _⟩ => ⟨S8704x128, .f32⟩
  | .local _ .vmem, ⟨4, _⟩ => ⟨S544x128, .f32⟩
  | .local _ .vmem, ⟨5, _⟩ => ⟨S544x128, .f32⟩
  | .local _ .vmem, ⟨6, _⟩ => ⟨S1x6x1024, .f32⟩
  | .local _ .vmem, ⟨7, _⟩ => ⟨S1x6x1024, .f32⟩
  | .local _ .vmem, ⟨8, _⟩ => ⟨S1x6x1024, .f32⟩
  | .local _ .vmem, ⟨9, _⟩ => ⟨S544x1024, .f32⟩
  | .local _ .vmem, ⟨10, _⟩ => ⟨S544x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8704x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S34816x1024 : Shape := ⟨2, ![34816, 1024]⟩
abbrev S558848x128 : Shape := ⟨2, ![558848, 128]⟩
abbrev S34816x128 : Shape := ⟨2, ![34816, 128]⟩
abbrev S8x6x1024 : Shape := ⟨3, ![8, 6, 1024]⟩
abbrev S1x6x1024 : Shape := ⟨3, ![1, 6, 1024]⟩
abbrev S557056x128 : Shape := ⟨2, ![557056, 128]⟩
abbrev S34816x2x1024 : Shape := ⟨3, ![34816, 2, 1024]⟩
abbrev S34816x2 : Shape := ⟨2, ![34816, 2]⟩
abbrev S34816x2x1 : Shape := ⟨3, ![34816, 2, 1]⟩
abbrev S_ : Shape := ⟨0, ![]⟩
abbrev S8x4352x1024 : Shape := ⟨3, ![8, 4352, 1024]⟩
abbrev S8x6x1x1024 : Shape := ⟨4, ![8, 6, 1, 1024]⟩
abbrev S6x1024 : Shape := ⟨2, ![6, 1024]⟩
abbrev S8x256x1024 : Shape := ⟨3, ![8, 256, 1024]⟩
abbrev S1x1024 : Shape := ⟨2, ![1, 1024]⟩
abbrev S1024 : Shape := ⟨1, ![1024]⟩
abbrev S1x1x1024 : Shape := ⟨3, ![1, 1, 1024]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S558848x128, .f32⟩
  | .hbm, ⟨2, _⟩ => ⟨S34816x128, .f32⟩
  | .hbm, ⟨3, _⟩ => ⟨S8x6x1024, .f32⟩
  | .hbm, ⟨4, _⟩ => ⟨S1x6x1024, .f32⟩
  | .hbm, ⟨5, _⟩ => ⟨S557056x128, .f32⟩
  | .hbm, ⟨6, _⟩ => ⟨S34816x2x1024, .f32⟩
  | .hbm, ⟨7, _⟩ => ⟨S34816x2, .f32⟩
  | .hbm, ⟨8, _⟩ => ⟨S34816x2x1, .f32⟩
  | .hbm, ⟨9, _⟩ => ⟨S34816x2x1024, .f32⟩
  | .hbm, ⟨10, _⟩ => ⟨S34816x2x1024, .f32⟩
  | .hbm, ⟨11, _⟩ => ⟨S_, .f32⟩
  | .hbm, ⟨12, _⟩ => ⟨S34816x1024, .f32⟩
  | .hbm, ⟨13, _⟩ => ⟨S8x4352x1024, .f32⟩
  | .hbm, ⟨14, _⟩ => ⟨S8x4352x1024, .f32⟩
  | .hbm, ⟨15, _⟩ => ⟨S8x6x1x1024, .f32⟩
  | .hbm, ⟨16, _⟩ => ⟨S6x1024, .f32⟩
  | .hbm, ⟨17, _⟩ => ⟨S8x256x1024, .f32⟩
  | .hbm, ⟨18, _⟩ => ⟨S1x1024, .f32⟩
  | .hbm, ⟨19, _⟩ => ⟨S1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S8x256x1024, .f32⟩
  | .hbm, ⟨25, _⟩ => ⟨S8x4096x1024, .f32⟩
  | .hbm, ⟨26, _⟩ => ⟨S8x1x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4352x1024, .f32⟩
  | .hbm, ⟨33, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel6.lean ====
abbrev S8x4352x1024 : Shape := ⟨3, ![8, 4352, 1024]⟩
abbrev S1024 : Shape := ⟨1, ![1024]⟩
abbrev S1x1024 : Shape := ⟨2, ![1, 1024]⟩
abbrev S8x4096x1024 : Shape := ⟨3, ![8, 4096, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x4352x1024, .f32⟩
  | .hbm, ⟨1, _⟩ => ⟨S1024, .f32⟩
  | .hbm, ⟨2, _⟩ => ⟨S1x1024, .f32⟩
  | .hbm, ⟨3, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x4352x1024 : Shape := ⟨3, ![8, 4352, 1024]⟩
abbrev S1024 : Shape := ⟨1, ![1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S1024, .f32⟩
  | .hbm, ⟨2, _⟩ => ⟨S8x4096x1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Loop.lean ====
/-
  The reference's run over the scan's states: the loop starts from the state that `init` names, each trip makes of a state what
  `step` makes of it, and the results are read from the state after trip 68.
-/
module

public import proofs.«01_k».proof.Proof.Gen.ReferenceIdeal.Run
public import proofs.«01_k».proof.Proof.Gen.ReferenceIdeal.Step

@[expose] public section

set_option maxRecDepth 65536

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- Two equal pairs of arrays make equal stacks on the batch axis. -/
theorem stack_congr {x x' y y' : FVec F S8x4352x6x64 .f32} (hx : x = x') (hy : y = y') :
    concatenate S16x4352x6x64 0 [⟨S8x4352x6x64, x⟩, ⟨S8x4352x6x64, y⟩] concatenates_S8x4352x6x64_S8x4352x6x64_S16x4352x6x64_d0
      = concatenate S16x4352x6x64 0 [⟨S8x4352x6x64, x'⟩, ⟨S8x4352x6x64, y'⟩] concatenates_S8x4352x6x64_S8x4352x6x64_S16x4352x6x64_d0 := by
  rw [hx, hy]

/-- Two equal pairs of row ranges make equal sequences. -/
theorem join_congr {x x' : FVec F S8x256x6x64 .f32} {y y' : FVec F S8x4096x6x64 .f32} (hx : x = x') (hy : y = y') :
    concatenate S8x4352x6x64 1 [⟨S8x256x6x64, x⟩, ⟨S8x4096x6x64, y⟩] concatenates_S8x256x6x64_S8x4096x6x64_S8x4352x6x64_d1
      = concatenate S8x4352x6x64 1 [⟨S8x256x6x64, x'⟩, ⟨S8x4096x6x64, y'⟩] concatenates_S8x256x6x64_S8x4096x6x64_S8x4352x6x64_d1 := by
  rw [hx, hy]

section
variable (m : (ℓ : Loc nD τ sig) → Buf (Elt F) ℓ) (c : Dev nD)

/-- The projected inputs in a memory. -/
abbrev hgIn := m ((c.tc : Thread nD τ).loc main_arg0)
/-- The lower bounds in a memory. -/
abbrev lbIn := m ((c.tc : Thread nD τ).loc main_arg1)

theorem entry_q : entryContents preI m c (Proc.devRef .tc main_v87_0) = A_main_v79 (F := F) (hgIn m c) (lbIn m c) := by
  simp only [entryContents, afterL_cons, afterL_nil]
  after_reads_simp
  rw [stack_congr (x' := A_main_v45 (hgIn m c) (lbIn m c)) (y' := A_main_v51 (hgIn m c) (lbIn m c))]
  · rfl
  · after_reads_simp; rfl
  · after_reads_simp
    refine join_congr (x' := A_main_v48 (hgIn m c) (lbIn m c)) (y' := A_main_v50 (hgIn m c) (lbIn m c)) ?_ ?_ <;> (after_reads_simp; rfl)

theorem entry_k : entryContents preI m c (Proc.devRef .tc main_v87_1) = A_main_v81 (F := F) (hgIn m c) (lbIn m c) := by
  simp only [entryContents, afterL_cons, afterL_nil]
  after_reads_simp
  rw [stack_congr (x' := A_main_v24 (hgIn m c) (lbIn m c)) (y' := A_main_v57 (hgIn m c) (lbIn m c))]
  · rfl
  · after_reads_simp; rfl
  · after_reads_simp
    refine join_congr (x' := A_main_v54 (hgIn m c) (lbIn m c)) (y' := A_main_v56 (hgIn m c) (lbIn m c)) ?_ ?_ <;> (after_reads_simp; rfl)

theorem entry_v : entryContents preI m c (Proc.devRef .tc main_v87_2) = A_main_v83 (F := F) (hgIn m c) (lbIn m c) := by
  simp only [entryContents, afterL_cons, afterL_nil]
  after_reads_simp
  rw [stack_congr (x' := A_main_v46 (hgIn m c) (lbIn m c)) (y' := A_main_v63 (hgIn m c) (lbIn m c))]
  · rfl
  · after_reads_simp; rfl
  · after_reads_simp
    refine join_congr (x' := A_main_v60 (hgIn m c) (lbIn m c)) (y' := A_main_v62 (hgIn m c) (lbIn m c)) ?_ ?_ <;> (after_reads_simp; rfl)

theorem entry_g : entryContents preI m c (Proc.devRef .tc main_v87_3) = A_main_v85 (F := F) (hgIn m c) (lbIn m c) := by
  simp only [entryContents, afterL_cons, afterL_nil]
  after_reads_simp
  rw [stack_congr (x' := A_main_v22 (hgIn m c) (lbIn m c)) (y' := A_main_v69 (hgIn m c) (lbIn m c))]
  · rfl
  · after_reads_simp; rfl
  · after_reads_simp
    refine join_congr (x' := A_main_v66 (hgIn m c) (lbIn m c)) (y' := A_main_v68 (hgIn m c) (lbIn m c)) ?_ ?_ <;> (after_reads_simp; rfl)

theorem entry_state : entryContents preI m c (Proc.devRef .tc main_v87_6) = K_main_v77 (F := F) := by
  simp only [entryContents, afterL_cons, afterL_nil]; after_reads_simp; rfl

theorem entry_outputs : entryContents preI m c (Proc.devRef .tc main_v87_7) = K_main_v86 (F := F) := by
  simp only [entryContents, afterL_cons, afterL_nil]; after_reads_simp; rfl

theorem entry_mask : entryContents preI m c (Proc.devRef .tc main_v87_4) = K_main_v76 (F := F) := by
  simp only [entryContents, afterL_cons, afterL_nil]; after_reads_simp; rfl

theorem entry_count : entryContents preI m c (Proc.devRef .tc main_v87_5) = constantI S_ 32 (BitVec.ofNat 32 0) := by
  simp only [entryContents, afterL_cons, afterL_nil]; after_reads_simp; rfl
end

/-- The scan's state, read from the loop's buffers. -/
def read (V : Valuation τ sig (Elt F)) : State F where
  main_v87_6 := V (Proc.devRef .tc main_v87_6)
  main_v87_7 := V (Proc.devRef .tc main_v87_7)
  main_v87_0 := V (Proc.devRef .tc main_v87_0)
  main_v87_1 := V (Proc.devRef .tc main_v87_1)
  main_v87_2 := V (Proc.devRef .tc main_v87_2)
  main_v87_3 := V (Proc.devRef .tc main_v87_3)

/-- The loop's buffers before trip `j`: its state is `s`, its counter `j`, its mask the lower triangle. -/
structure At (V : Valuation τ sig (Elt F)) (s : State F) (j : ℕ) : Prop where
  state : read V = s
  count : V (Proc.devRef .tc main_v87_5) = constantI S_ 32 (BitVec.ofNat 32 j)
  mask : V (Proc.devRef .tc main_v87_4) = K_main_v76 (F := F)

section
variable (V : Valuation τ sig (Elt F)) (j : ℕ) (hc : V (Proc.devRef .tc main_v87_5) = constantI S_ 32 (BitVec.ofNat 32 j))
  (hm : V (Proc.devRef .tc main_v87_4) = K_main_v76 (F := F))
include hc hm

/-- The state a trip leaves. -/
theorem trip_state : Value.step_main_v87_6 V = b63 j (read V) := by
  unfold Value.step_main_v87_6 res_main_while0b_v124 res_main_while0b_v103 res_main_while0b_v101 res_main_while0b_v100
  rw [hc]
  rfl

/-- The stack of outputs a trip leaves. -/
theorem trip_outputs : Value.step_main_v87_7 V = b69 j (read V) := by
  unfold Value.step_main_v87_7 res_main_while0b_v103 res_main_while0b_v101 res_main_while0b_v100 res_main_while0b_v99
  rw [hc, hm]
  rfl

/-- The counter a trip leaves. -/
theorem trip_count : Value.step_main_v87_5 V = constantI S_ 32 (BitVec.ofNat 32 (j + 1)) := by
  unfold Value.step_main_v87_5
  rw [hc]
  funext i
  exact (BitVec.ofNat_add j 1).symm
end

/-- A trip takes a state to `step` of it, and counts on. -/
theorem At.next {V : Valuation τ sig (Elt F)} {s : State F} {j : ℕ} (h : At V s j) : At (STEP V) (step j s) (j + 1) := by
  obtain ⟨hs, hc, hm⟩ := h
  subst hs
  refine ⟨?_, (STEP_main_v87_5 V).trans (trip_count V j hc hm), (STEP_main_v87_4 V).trans hm⟩
  unfold read step
  rw [STEP_main_v87_0, STEP_main_v87_1, STEP_main_v87_2, STEP_main_v87_3, STEP_main_v87_6, STEP_main_v87_7,
    trip_state V j hc hm, trip_outputs V j hc hm]
  rfl

variable (m : (ℓ : Loc nD τ sig) → Buf (Elt F) ℓ)

/-- Where the loop starts. -/
theorem at_entry (c : Dev nD) : At (entryContents preI m c) (init (hgIn m c) (lbIn m c)) 0 :=
  ⟨by unfold read init; rw [entry_q, entry_k, entry_v, entry_g, entry_state, entry_outputs], entry_count m c, entry_mask m c⟩

/-- Where it is after `n` trips. -/
theorem at_trip (c : Dev nD) (it : ℕ → State F) (h0 : it 0 = init (hgIn m c) (lbIn m c)) (hs : ∀ n, it (n + 1) = step n (it n)) :
    ∀ n, At (STEP^[n] (entryContents preI m c)) (it n) n
  | 0 => h0 ▸ at_entry m c
  | n + 1 => by
    rw [Function.iterate_succ_apply', hs n]
    exact (at_trip c it h0 hs n).next

/-- Where the loop's last stack of outputs is a state's, the first result is that state's. -/
theorem forward_of {V : Valuation τ sig (Elt F)} {s : State F} {j : ℕ} (h : At V s j) : out_main_v91 V = R_main_v91 s := by
  obtain ⟨rfl, -, -⟩ := h
  rfl

/-- And so is the second. -/
theorem backward_of {V : Valuation τ sig (Elt F)} {s : State F} {j : ℕ} (h : At V s j) : out_main_v98 V = R_main_v98 s := by
  obtain ⟨rfl, -, -⟩ := h
  rfl

/-- The reference's run: its results are those of the state after 68 trips, and its arguments are unchanged. -/
theorem run (ρ : Dev nD → PrngReg) (it : Dev nD → ℕ → State F) (h0 : ∀ c, it c 0 = init (hgIn m c) (lbIn m c)) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v91) = R_main_v91 (it c 68)
      ∧ r.2.mem ((c.tc : Thread nD τ).loc main_v98) = R_main_v98 (it c 68)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have ha := at_trip m c (it c) (h0 c) (hs c) 68
    ⟨(h c).1.trans (forward_of ha), (h c).2.1.trans (backward_of ha), (h c).2.2⟩) (Value.run m ρ)

end Cert.ReferenceIdeal.Loop

end
-- ==== Proof.Block.lean ====
/-
  The work of one block of the kernel as a function: what the body computes, for one direction and one pair of heads,
  from the block of queries `q`, of forget-gate logits `z`, of values `v`, the lower bound's row `lb` and the carried
  state `h`. The body's text does this work six times (three pairs of heads, two directions); the functions below are
  the steps the six copies have in common, and Proof/Pieces.lean shows that every copy is one of them.
-/
module

public import proofs.«01_k».proof.Proof.Gen.KernelIdeal

@[expose] public section

set_option maxRecDepth 16384

noncomputable section

namespace Cert.KernelIdeal.Block

open Idealize.ShloMosaic Cert.KernelIdeal Cert.KernelIdeal.Gen

variable {F : FTy → Type} [FloatOps F]

/-- The number `0` of every float computation of the block. -/
abbrev z32 : F .f32 := Scalar.ofBits .f32 0x00000000#32

/-- The forget gates `lb + (1 - lb) * logistic z`. -/
def gate (z : Vec F S1x256x128 .f32) (lb : Vec F S1x128 .f32) : FVec F S256x128 .f32 :=
  addf (broadcastTo S256x128 lb broadcasts_S1x128_S256x128)
    (mulf (broadcastTo S256x128 (subf (broadcast S1x128 (Scalar.ofBits .f32 0x3F800000#32 : F .f32)) lb) broadcasts_S1x128_S256x128)
      (logistic (shapeCast S256x128 z shapeCasts_S1x256x128_S256x128)))

/-- The logarithm of the gates as three parts laid side by side: the logarithm rounded to the short format, the rounded
    remainder, and what then remains. -/
def parts (f : FVec F S256x128 .f32) : FVec F S256x384 .bf16 :=
  concatenate S256x384 1
    [⟨S256x128, truncf .bf16 (log f) bitsLt_bf16_f32⟩,
     ⟨S256x128, truncf .bf16 (subf (log f) (extf .f32 (truncf .bf16 (log f) bitsLt_bf16_f32) bitsLt_bf16_f32)) bitsLt_bf16_f32⟩,
     ⟨S256x128, truncf .bf16 (subf (subf (log f) (extf .f32 (truncf .bf16 (log f) bitsLt_bf16_f32) bitsLt_bf16_f32))
        (extf .f32 (truncf .bf16 (subf (log f) (extf .f32 (truncf .bf16 (log f) bitsLt_bf16_f32) bitsLt_bf16_f32)) bitsLt_bf16_f32) bitsLt_bf16_f32)) bitsLt_bf16_f32⟩]
    concatenates_S256x128_S256x128_S256x128_S256x384_d1

/-- The 0/1 matrix of a condition on a row and a column of a chunk. -/
def tri (m : IVec S4x64x64 1) : FVec F S4x64x64 .bf16 :=
  truncf .bf16 (select m (broadcast S4x64x64 (Scalar.ofBits .f32 0x3F800000#32 : F .f32)) (broadcast S4x64x64 z32)) bitsLt_bf16_f32

/-- The forward condition: the column's row is not after the row. -/
def triF : IVec S4x64x64 1 :=
  cmpi .sle (iota .tc S4x64x64 32 [2] iota_S4x64x64_d2_w32) (iota .tc S4x64x64 32 [1] iota_S4x64x64_d1_w32)

/-- The backward condition: the column's row is not before the row. -/
def triB : IVec S4x64x64 1 :=
  cmpi .sge (iota .tc S4x64x64 32 [2] iota_S4x64x64_d2_w32) (iota .tc S4x64x64 32 [1] iota_S4x64x64_d1_w32)

/-- The product of the 0/1 matrix with the three parts, chunk by chunk. -/
def prod3 (m : IVec S4x64x64 1) (f : FVec F S256x128 .f32) : FVec F S4x64x384 .f32 :=
  matmul dot_S4x64x64_S4x64x384_S4x64x384_2_1_1_2_0_0 none (tri m) (shapeCast S4x64x384 (parts f) shapeCasts_S256x384_S4x64x384)
    (constant S4x64x384 .f32 0x00000000#32)

/-- The running sums of the logarithms along a chunk: the three parts' products added up. -/
def sums (m : IVec S4x64x64 1) (f : FVec F S256x128 .f32) : FVec F S4x64x128 .f32 :=
  addf (addf (extractStridedSlice S4x64x128 ![0, 0, 0] (prod3 m f) slices_S4x64x384_o0_0_0_S4x64x128)
      (extractStridedSlice S4x64x128 ![0, 0, 128] (prod3 m f) slices_S4x64x384_o0_0_128_S4x64x128))
    (extractStridedSlice S4x64x128 ![0, 0, 256] (prod3 m f) slices_S4x64x384_o0_0_256_S4x64x128)

/-- A block of 256 rows as four chunks of 64. -/
def chunks (x : Vec F S1x256x128 .f32) : FVec F S4x64x128 .f32 :=
  shapeCast S4x64x128 (shapeCast S256x128 x shapeCasts_S1x256x128_S256x128) shapeCasts_S256x128_S4x64x128

/-- The values of a block as four chunks, in the short format. -/
def values (x : Vec F S1x256x128 .f32) : FVec F S4x64x128 .bf16 :=
  shapeCast S4x64x128 (truncf .bf16 (shapeCast S256x128 x shapeCasts_S1x256x128_S256x128) bitsLt_bf16_f32) shapeCasts_S256x128_S4x64x128

/-- One minus the gates, as four chunks. -/
def keys (f : FVec F S256x128 .f32) : FVec F S4x64x128 .f32 :=
  shapeCast S4x64x128 (subf (broadcast S256x128 (Scalar.ofBits .f32 0x3F800000#32 : F .f32)) f) shapeCasts_S256x128_S4x64x128

/-- The lanes of a pair's first head. -/
def lanes0 : IVec S4x32x128 1 :=
  cmpi .slt (iota .tc S4x32x128 32 [2] iota_S4x32x128_d2_w32) (broadcast S4x32x128 64#32)

/-- A half chunk's rows twice, one copy per head of the pair, each with the other head's lanes at zero. -/
def stack (x : FVec F S4x32x128 .f32) : FVec F S4x64x128 .f32 :=
  concatenate S4x64x128 1
    [⟨S4x32x128, select lanes0 x (broadcast S4x32x128 z32)⟩, ⟨S4x32x128, select lanes0 (broadcast S4x32x128 z32) x⟩]
    concatenates_S4x32x128_S4x32x128_S4x64x128_d1

/-- The two copies of a half chunk brought together again, each head's lanes from its own copy. -/
def unstack (x : FVec F S4x64x128 .f32) : FVec F S4x32x128 .f32 :=
  select lanes0 (extractStridedSlice S4x32x128 ![0, 0, 0] x slices_S4x64x128_o0_0_0_S4x32x128)
    (extractStridedSlice S4x32x128 ![0, 32, 0] x slices_S4x64x128_o0_32_0_S4x32x128)

/-- The remainder of every word by 32, as the body spells it: with a sign correction that never applies. -/
def rem32 {s : Shape} (h : s.Broadcasts s) (x : IVec s 32) : IVec s 32 :=
  select (andi (xori (cmpi .slt (remsi x (broadcast s (Scalar.select (Scalar.cmpi .eq 32#32 0#32) 1#32 32#32))) (broadcast s 0#32))
        (broadcastTo s (broadcast s (Scalar.cmpi .slt (Scalar.select (Scalar.cmpi .eq 32#32 0#32) 1#32 32#32) 0#32)) h))
      (cmpi .ne (remsi x (broadcast s (Scalar.select (Scalar.cmpi .eq 32#32 0#32) 1#32 32#32))) (broadcast s 0#32)))
    (addi (remsi x (broadcast s (Scalar.select (Scalar.cmpi .eq 32#32 0#32) 1#32 32#32)))
      (broadcast s (Scalar.select (Scalar.cmpi .eq 32#32 0#32) 1#32 32#32)))
    (remsi x (broadcast s (Scalar.select (Scalar.cmpi .eq 32#32 0#32) 1#32 32#32)))

/-- Forward, first half: the condition that a column is not after its row. -/
def mask1F : IVec S4x64x32 1 :=
  cmpi .sle (iota .tc S4x64x32 32 [2] iota_S4x64x32_d2_w32) (rem32 broadcasts_S4x64x32_S4x64x32 (iota .tc S4x64x32 32 [1] iota_S4x64x32_d1_w32))

/-- Backward, first half: the condition that a column is not before its row. -/
def mask1B : IVec S4x64x32 1 :=
  cmpi .sge (iota .tc S4x64x32 32 [2] iota_S4x64x32_d2_w32) (rem32 broadcasts_S4x64x32_S4x64x32 (iota .tc S4x64x32 32 [1] iota_S4x64x32_d1_w32))

/-- Forward, second half: the condition that a column is not after its row, the row counted from 32. -/
def mask2F : IVec S4x64x64 1 :=
  cmpi .sle (iota .tc S4x64x64 32 [2] iota_S4x64x64_d2_w32)
    (addi (rem32 broadcasts_S4x64x64_S4x64x64 (iota .tc S4x64x64 32 [1] iota_S4x64x64_d1_w32)) (broadcast S4x64x64 32#32))

/-- Backward, second half: the condition that a column is not before its row. -/
def mask2B : IVec S4x64x64 1 :=
  cmpi .sge (iota .tc S4x64x64 32 [2] iota_S4x64x64_d2_w32) (rem32 broadcasts_S4x64x64_S4x64x64 (iota .tc S4x64x64 32 [1] iota_S4x64x64_d1_w32))

/-- The scores of a half chunk against 32 columns, of both heads' copies. -/
def scores1 (q k : FVec F S4x32x128 .f32) : FVec F S4x64x32 .f32 :=
  matmul dot_S4x64x128_S4x32x128_S4x64x32_2_2_1_1_0_0 none (truncf .bf16 (stack q) bitsLt_bf16_f32) (truncf .bf16 k bitsLt_bf16_f32)
    (constant S4x64x32 .f32 0x00000000#32)

/-- The scores of a half chunk against the whole chunk's 64 columns, of both heads' copies. -/
def scores2 (q : FVec F S4x32x128 .f32) (k : FVec F S4x64x128 .f32) : FVec F S4x64x64 .f32 :=
  matmul dot_S4x64x128_S4x64x128_S4x64x64_2_2_1_1_0_0 none (truncf .bf16 (stack q) bitsLt_bf16_f32) (truncf .bf16 k bitsLt_bf16_f32)
    (constant S4x64x64 .f32 0x00000000#32)

/-- The first half's sum over its columns of masked scores times values. -/
def intra1 (m : IVec S4x64x32 1) (q k : FVec F S4x32x128 .f32) (v : FVec F S4x32x128 .bf16) : FVec F S4x32x128 .f32 :=
  unstack (matmul dot_S4x64x32_S4x32x128_S4x64x128_2_1_1_2_0_0 none
    (truncf .bf16 (select m (scores1 q k) (broadcast S4x64x32 z32)) bitsLt_bf16_f32) v (constant S4x64x128 .f32 0x00000000#32))

/-- The second half's sum over the chunk's columns of masked scores times values. -/
def intra2 (m : IVec S4x64x64 1) (q : FVec F S4x32x128 .f32) (k : FVec F S4x64x128 .f32) (v : FVec F S4x64x128 .bf16) : FVec F S4x32x128 .f32 :=
  unstack (matmul dot_S4x64x64_S4x64x128_S4x64x128_2_1_1_2_0_0 none
    (truncf .bf16 (select m (scores2 q k) (broadcast S4x64x64 z32)) bitsLt_bf16_f32) v (constant S4x64x128 .f32 0x00000000#32))

/-- Rows decayed up: `x * exp b`. -/
def up {s : Shape} (x b : FVec F s .f32) : FVec F s .f32 := mulf x (exp b)

/-- Rows decayed from a row `r` of every chunk: `x * exp (r - b)`. -/
def from_ (r : FVec F S4x1x128 .f32) (x b : FVec F S4x64x128 .f32) : FVec F S4x64x128 .f32 :=
  mulf x (exp (subf (broadcastTo S4x64x128 r broadcasts_S4x1x128_S4x64x128) b))

/-- A half chunk's rows decayed to a row `r` of every chunk: `x * exp (b - r)`. -/
def to_ (r : FVec F S4x1x128 .f32) (x b : FVec F S4x32x128 .f32) : FVec F S4x32x128 .f32 :=
  mulf x (exp (subf b (broadcastTo S4x32x128 r broadcasts_S4x1x128_S4x32x128)))

/-- Rows 0 to 31 of every chunk. -/
def low (x : FVec F S4x64x128 .f32) : FVec F S4x32x128 .f32 :=
  extractStridedSlice S4x32x128 ![0, 0, 0] x slices_S4x64x128_o0_0_0_S4x32x128

/-- Rows 32 to 63 of every chunk. -/
def high (x : FVec F S4x64x128 .f32) : FVec F S4x32x128 .f32 :=
  extractStridedSlice S4x32x128 ![0, 32, 0] x slices_S4x64x128_o0_32_0_S4x32x128

/-- Forward: the part of the outputs that comes from the chunk itself, from queries `q`, keys `k`, values `v` and running
    sums `b`. The upper half is computed from the chunk's beginning, the lower one relative to row 31. -/
def intraF (q k b : FVec F S4x64x128 .f32) (v : FVec F S4x64x128 .bf16) : FVec F S4x64x128 .f32 :=
  concatenate S4x64x128 1
    [⟨S4x32x128, intra1 mask1F (up (low q) (low b)) (up (low k) (subf (broadcast S4x32x128 z32) (low b)))
        (extractStridedSlice S4x32x128 ![0, 0, 0] v slices_S4x64x128_o0_0_0_S4x32x128)⟩,
     ⟨S4x32x128, intra2 mask2F
        (to_ (extractStridedSlice S4x1x128 ![0, 31, 0] b slices_S4x64x128_o0_31_0_S4x1x128) (high q) (high b))
        (from_ (extractStridedSlice S4x1x128 ![0, 31, 0] b slices_S4x64x128_o0_31_0_S4x1x128) k b) v⟩]
    concatenates_S4x32x128_S4x32x128_S4x64x128_d1

/-- Backward: the same with the rows in the opposite order. -/
def intraB (q k b : FVec F S4x64x128 .f32) (v : FVec F S4x64x128 .bf16) : FVec F S4x64x128 .f32 :=
  concatenate S4x64x128 1
    [⟨S4x32x128, intra2 mask2B
        (to_ (extractStridedSlice S4x1x128 ![0, 32, 0] b slices_S4x64x128_o0_32_0_S4x1x128) (low q) (low b))
        (from_ (extractStridedSlice S4x1x128 ![0, 32, 0] b slices_S4x64x128_o0_32_0_S4x1x128) k b) v⟩,
     ⟨S4x32x128, intra1 mask1B (up (high q) (high b)) (up (high k) (subf (broadcast S4x32x128 z32) (high b)))
        (extractStridedSlice S4x32x128 ![0, 32, 0] v slices_S4x64x128_o0_32_0_S4x32x128)⟩]
    concatenates_S4x32x128_S4x32x128_S4x64x128_d1

/-- The positions of a pair's state where row and column belong to one head. -/
def diag : IVec S128x128 1 :=
  xori (xori (cmpi .slt (iota .tc S128x128 32 [0] iota_S128x128_d0_w32) (broadcast S128x128 64#32))
    (cmpi .slt (iota .tc S128x128 32 [1] iota_S128x128_d1_w32) (broadcast S128x128 64#32))) (constantI S128x128 1 1#1)

/-- A chunk's step of the state: decayed by the chunk's last row `e`, plus values times keys within each head. -/
def next (h : FVec F S128x128 .f32) (e : FVec F S1x1x128 .f32) (v k : FVec F S1x64x128 .bf16) : FVec F S128x128 .f32 :=
  addf (mulf h (broadcastTo S128x128 (shapeCast S1x128 e shapeCasts_S1x1x128_S1x128) broadcasts_S1x128_S128x128))
    (select diag (matmul dot_S64x128_S64x128_S128x128_0_0_1_1_n_n none (shapeCast S64x128 v shapeCasts_S1x64x128_S64x128)
      (shapeCast S64x128 k shapeCasts_S1x64x128_S64x128) (constant S128x128 .f32 0x00000000#32)) (broadcast S128x128 z32))

/-- The step of the state at chunk 0. -/
def next0 (e : FVec F S4x1x128 .f32) (v k : FVec F S4x64x128 .bf16) (h : FVec F S128x128 .f32) : FVec F S128x128 .f32 :=
  next h (extractStridedSlice S1x1x128 ![0, 0, 0] e slices_S4x1x128_o0_0_0_S1x1x128)
    (extractStridedSlice S1x64x128 ![0, 0, 0] v slices_S4x64x128_o0_0_0_S1x64x128)
    (extractStridedSlice S1x64x128 ![0, 0, 0] k slices_S4x64x128_o0_0_0_S1x64x128)

/-- The step of the state at chunk 1. -/
def next1 (e : FVec F S4x1x128 .f32) (v k : FVec F S4x64x128 .bf16) (h : FVec F S128x128 .f32) : FVec F S128x128 .f32 :=
  next h (extractStridedSlice S1x1x128 ![1, 0, 0] e slices_S4x1x128_o1_0_0_S1x1x128)
    (extractStridedSlice S1x64x128 ![1, 0, 0] v slices_S4x64x128_o1_0_0_S1x64x128)
    (extractStridedSlice S1x64x128 ![1, 0, 0] k slices_S4x64x128_o1_0_0_S1x64x128)

/-- The step of the state at chunk 2. -/
def next2 (e : FVec F S4x1x128 .f32) (v k : FVec F S4x64x128 .bf16) (h : FVec F S128x128 .f32) : FVec F S128x128 .f32 :=
  next h (extractStridedSlice S1x1x128 ![2, 0, 0] e slices_S4x1x128_o2_0_0_S1x1x128)
    (extractStridedSlice S1x64x128 ![2, 0, 0] v slices_S4x64x128_o2_0_0_S1x64x128)
    (extractStridedSlice S1x64x128 ![2, 0, 0] k slices_S4x64x128_o2_0_0_S1x64x128)

/-- The step of the state at chunk 3. -/
def next3 (e : FVec F S4x1x128 .f32) (v k : FVec F S4x64x128 .bf16) (h : FVec F S128x128 .f32) : FVec F S128x128 .f32 :=
  next h (extractStridedSlice S1x1x128 ![3, 0, 0] e slices_S4x1x128_o3_0_0_S1x1x128)
    (extractStridedSlice S1x64x128 ![3, 0, 0] v slices_S4x64x128_o3_0_0_S1x64x128)
    (extractStridedSlice S1x64x128 ![3, 0, 0] k slices_S4x64x128_o3_0_0_S1x64x128)

/-- The decays of the state, one row per chunk: the exponential of the chunk's last running sum. -/
def decays (r : FVec F S4x1x128 .f32) : FVec F S4x1x128 .f32 := exp r

/-- The keys of the state's step: decayed to the chunk's end. -/
def endKeys (r : FVec F S4x1x128 .f32) (k b : FVec F S4x64x128 .f32) : FVec F S4x64x128 .bf16 := truncf .bf16 (from_ r k b) bitsLt_bf16_f32

/-- A pair's state in the short format as one slab. -/
def slab (h : FVec F S128x128 .f32) : FVec F S1x128x128 .bf16 :=
  shapeCast S1x128x128 (truncf .bf16 h bitsLt_bf16_f32) shapeCasts_S128x128_S1x128x128

/-- The block's outputs: the chunks' own parts plus what the state before each chunk adds. -/
def result (o q b : FVec F S4x64x128 .f32) (h0 h1 h2 h3 : FVec F S128x128 .f32) : FVec F S1x256x128 .f32 :=
  shapeCast S1x256x128 (shapeCast S256x128
    (addf o (matmul dot_S4x64x128_S4x128x128_S4x64x128_2_2_1_1_0_0 none (truncf .bf16 (up q b) bitsLt_bf16_f32)
      (concatenate S4x128x128 0 [⟨S1x128x128, slab h0⟩, ⟨S1x128x128, slab h1⟩, ⟨S1x128x128, slab h2⟩, ⟨S1x128x128, slab h3⟩]
        concatenates_S1x128x128_S1x128x128_S1x128x128_S1x128x128_S4x128x128_d0)
      (constant S4x64x128 .f32 0x00000000#32))) shapeCasts_S4x64x128_S256x128) shapeCasts_S256x128_S1x256x128

/-- The last row of every chunk, in the order of the forward direction. -/
def lastF (b : FVec F S4x64x128 .f32) : FVec F S4x1x128 .f32 :=
  extractStridedSlice S4x1x128 ![0, 63, 0] b slices_S4x64x128_o0_63_0_S4x1x128

/-- The last row of every chunk, in the order of the backward direction. -/
def lastB (b : FVec F S4x64x128 .f32) : FVec F S4x1x128 .f32 :=
  extractStridedSlice S4x1x128 ![0, 0, 0] b slices_S4x64x128_o0_0_0_S4x1x128

/-- A slab of the carried state as a matrix. -/
def state (h : Vec F S1x128x128 .f32) : FVec F S128x128 .f32 := shapeCast S128x128 h shapeCasts_S1x128x128_S128x128

section Forward
variable (z : Vec F S1x256x128 .f32) (lb : Vec F S1x128 .f32)

/-- Forward running sums. -/
def sF : FVec F S4x64x128 .f32 := sums triF (gate z lb)
/-- Forward keys of the state's step. -/
def eF : FVec F S4x64x128 .bf16 := endKeys (lastF (sF z lb)) (keys (gate z lb)) (sF z lb)
/-- Forward decays. -/
def dF : FVec F S4x1x128 .f32 := decays (lastF (sF z lb))

variable (v : Vec F S1x256x128 .f32) (h : Vec F S1x128x128 .f32)

/-- The forward state after one chunk. -/
def hF1 : FVec F S128x128 .f32 := next0 (dF z lb) (values v) (eF z lb) (state h)
/-- The forward state after two chunks. -/
def hF2 : FVec F S128x128 .f32 := next1 (dF z lb) (values v) (eF z lb) (hF1 z lb v h)
/-- The forward state after three chunks. -/
def hF3 : FVec F S128x128 .f32 := next2 (dF z lb) (values v) (eF z lb) (hF2 z lb v h)
/-- The forward state after the block. -/
def hF4 : FVec F S128x128 .f32 := next3 (dF z lb) (values v) (eF z lb) (hF3 z lb v h)

/-- What a forward block stores as its outputs. -/
def outF (q : Vec F S1x256x128 .f32) : FVec F S1x256x128 .f32 :=
  result (intraF (chunks q) (keys (gate z lb)) (sF z lb) (values v)) (chunks q) (sF z lb)
    (state h) (hF1 z lb v h) (hF2 z lb v h) (hF3 z lb v h)

/-- What a forward block stores as its state. -/
def newF : FVec F S1x128x128 .f32 := shapeCast S1x128x128 (hF4 z lb v h) shapeCasts_S128x128_S1x128x128

end Forward

section Backward
variable (z : Vec F S1x256x128 .f32) (lb : Vec F S1x128 .f32)

/-- Backward running sums. -/
def sB : FVec F S4x64x128 .f32 := sums triB (gate z lb)
/-- Backward keys of the state's step. -/
def eB : FVec F S4x64x128 .bf16 := endKeys (lastB (sB z lb)) (keys (gate z lb)) (sB z lb)
/-- Backward decays. -/
def dB : FVec F S4x1x128 .f32 := decays (lastB (sB z lb))

variable (v : Vec F S1x256x128 .f32) (h : Vec F S1x128x128 .f32)

/-- The backward state after one chunk, the block's last. -/
def hB1 : FVec F S128x128 .f32 := next3 (dB z lb) (values v) (eB z lb) (state h)
/-- The backward state after two chunks. -/
def hB2 : FVec F S128x128 .f32 := next2 (dB z lb) (values v) (eB z lb) (hB1 z lb v h)
/-- The backward state after three chunks. -/
def hB3 : FVec F S128x128 .f32 := next1 (dB z lb) (values v) (eB z lb) (hB2 z lb v h)
/-- The backward state after the block. -/
def hB4 : FVec F S128x128 .f32 := next0 (dB z lb) (values v) (eB z lb) (hB3 z lb v h)

/-- What a backward block stores as its outputs. -/
def outB (q : Vec F S1x256x128 .f32) : FVec F S1x256x128 .f32 :=
  result (intraB (chunks q) (keys (gate z lb)) (sB z lb) (values v)) (chunks q) (sB z lb)
    (hB3 z lb v h) (hB2 z lb v h) (hB1 z lb v h) (state h)

/-- What a backward block stores as its state. -/
def newB : FVec F S1x128x128 .f32 := shapeCast S1x128x128 (hB4 z lb v h) shapeCasts_S128x128_S1x128x128

end Backward

end Cert.KernelIdeal.Block

end
-- ==== Proof.Pieces.lean ====
/-
  What one grid point leaves in the two output windows and in the two carried states, as a function of the point's input
  blocks and of the state it finds: three pieces of lanes (one per pair of heads) per output, three slabs per state.
-/
module

public import proofs.«01_k».proof.Proof.Block
public import proofs.«01_k».proof.Proof.Gen.KernelIdeal.Value
import Idealize.ShloMosaic.Lib.Tactic
import Idealize.ShloMosaic.Lib.Pipeline.Value
import Idealize.ShloMosaic.Lib.Pipeline.ReadBack

@[expose] public section

set_option maxRecDepth 16384

noncomputable section

namespace Cert.KernelIdeal.Pieces

open Idealize.ShloMosaic Cert.KernelIdeal Cert.KernelIdeal.Gen Cert.KernelIdeal.Block

variable {F : FTy → Type} [FloatOps F]

/-- Lanes 0 to 127 of a block. -/
abbrev r0 := Rect.unit (s := S1x256x384) ![0, 0, 0] S1x256x128.size inb_S1x256x384_S1x256x128_0_0_0
/-- Lanes 128 to 255 of a block. -/
abbrev r1 := Rect.unit (s := S1x256x384) ![0, 0, 128] S1x256x128.size inb_S1x256x384_S1x256x128_0_0_128
/-- Lanes 256 to 383 of a block. -/
abbrev r2 := Rect.unit (s := S1x256x384) ![0, 0, 256] S1x256x128.size inb_S1x256x384_S1x256x128_0_0_256
/-- Lanes 0 to 127 of the forward lower bounds. -/
abbrev w00 := Rect.unit (s := S2x384) ![0, 0] S1x128.size inb_S2x384_S1x128_0_0
/-- Lanes 128 to 255 of the forward lower bounds. -/
abbrev w01 := Rect.unit (s := S2x384) ![0, 128] S1x128.size inb_S2x384_S1x128_0_128
/-- Lanes 256 to 383 of the forward lower bounds. -/
abbrev w02 := Rect.unit (s := S2x384) ![0, 256] S1x128.size inb_S2x384_S1x128_0_256
/-- Lanes 0 to 127 of the backward lower bounds. -/
abbrev w10 := Rect.unit (s := S2x384) ![1, 0] S1x128.size inb_S2x384_S1x128_1_0
/-- Lanes 128 to 255 of the backward lower bounds. -/
abbrev w11 := Rect.unit (s := S2x384) ![1, 128] S1x128.size inb_S2x384_S1x128_1_128
/-- Lanes 256 to 383 of the backward lower bounds. -/
abbrev w12 := Rect.unit (s := S2x384) ![1, 256] S1x128.size inb_S2x384_S1x128_1_256
/-- The state of the first pair of heads. -/
abbrev s0 := Rect.unit (s := S3x128x128) ![0, 0, 0] S1x128x128.size inb_S3x128x128_S1x128x128_0_0_0
/-- The state of the second pair of heads. -/
abbrev s1 := Rect.unit (s := S3x128x128) ![1, 0, 0] S1x128x128.size inb_S3x128x128_S1x128x128_1_0_0
/-- The state of the third pair of heads. -/
abbrev s2 := Rect.unit (s := S3x128x128) ![2, 0, 0] S1x128x128.size inb_S3x128x128_S1x128x128_2_0_0

section Lists
variable (q z v : Vec F S1x256x384 .f32) (lb : Vec F S2x384 .f32) (xs : Vec F S3x128x128 .f32)

/-- The forward outputs' pieces, the last stored first. -/
def outsF : List (View.Piece (Elt F) S1x256x384 .f32) :=
  [⟨r2, outF (View.ld z r2) (View.ld lb w02) (View.ld v r2) (View.ld xs s2) (View.ld q r2)⟩,
   ⟨r1, outF (View.ld z r1) (View.ld lb w01) (View.ld v r1) (View.ld xs s1) (View.ld q r1)⟩,
   ⟨r0, outF (View.ld z r0) (View.ld lb w00) (View.ld v r0) (View.ld xs s0) (View.ld q r0)⟩]

/-- The forward state's pieces, the last stored first. -/
def newsF : List (View.Piece (Elt F) S3x128x128 .f32) :=
  [⟨s2, newF (View.ld z r2) (View.ld lb w02) (View.ld v r2) (View.ld xs s2)⟩,
   ⟨s1, newF (View.ld z r1) (View.ld lb w01) (View.ld v r1) (View.ld xs s1)⟩,
   ⟨s0, newF (View.ld z r0) (View.ld lb w00) (View.ld v r0) (View.ld xs s0)⟩]

/-- The backward outputs' pieces, the last stored first. -/
def outsB : List (View.Piece (Elt F) S1x256x384 .f32) :=
  [⟨r2, outB (View.ld z r2) (View.ld lb w12) (View.ld v r2) (View.ld xs s2) (View.ld q r2)⟩,
   ⟨r1, outB (View.ld z r1) (View.ld lb w11) (View.ld v r1) (View.ld xs s1) (View.ld q r1)⟩,
   ⟨r0, outB (View.ld z r0) (View.ld lb w10) (View.ld v r0) (View.ld xs s0) (View.ld q r0)⟩]

/-- The backward state's pieces, the last stored first. -/
def newsB : List (View.Piece (Elt F) S3x128x128 .f32) :=
  [⟨s2, newB (View.ld z r2) (View.ld lb w12) (View.ld v r2) (View.ld xs s2)⟩,
   ⟨s1, newB (View.ld z r1) (View.ld lb w11) (View.ld v r1) (View.ld xs s1)⟩,
   ⟨s0, newB (View.ld z r0) (View.ld lb w10) (View.ld v r0) (View.ld xs s0)⟩]

end Lists

/-- The state a sequence begins with: zero everywhere. -/
def zeros : Vec F S3x128x128 .f32 := broadcast S3x128x128 z32

/-- The whole state as one piece. -/
abbrev sAll := Rect.unit (s := S3x128x128) ![0, 0, 0] S3x128x128.size inb_S3x128x128_S3x128x128_0_0_0

section Runs
variable (c : Dev nD) (i : grid0.Coords)
  (arg2 : Memref sig .tc .vmem S1x256x384 .f32) (harg2 : arg2.IsWhole)
  (arg3 : Memref sig .tc .vmem S1x256x384 .f32) (harg3 : arg3.IsWhole)
  (arg4 : Memref sig .tc .vmem S1x256x384 .f32) (harg4 : arg4.IsWhole)
  (arg5 : Memref sig .tc .vmem S1x256x384 .f32) (harg5 : arg5.IsWhole)
  (arg6 : Memref sig .tc .vmem S1x256x384 .f32) (harg6 : arg6.IsWhole)
  (arg7 : Memref sig .tc .vmem S1x256x384 .f32) (harg7 : arg7.IsWhole)
  (arg8 : Memref sig .tc .vmem S2x384 .f32) (harg8 : arg8.IsWhole)
  (arg9 : Memref sig .tc .vmem S1x256x384 .f32) (harg9 : arg9.IsWhole)
  (arg10 : Memref sig .tc .vmem S1x256x384 .f32) (harg10 : arg10.IsWhole)
  (arg11 : Memref sig .tc .vmem S3x128x128 .f32) (harg11 : arg11.IsWhole)
  (arg12 : Memref sig .tc .vmem S3x128x128 .f32) (harg12 : arg12.IsWhole)
  (x0 x1 x2 x3 x4 x5 : Vec F S1x256x384 .f32) (x6 : Vec F S2x384 .f32)

/-- What is stored as the forward outputs at a point that is not a sequence's first. -/
theorem runB_outsF (hc0 : ¬cond0_0 i) (xs0 xs1 : Vec F S3x128x128 .f32) :
    (kernelRun0_B c i arg2 harg2 arg3 harg3 arg4 harg4 arg5 harg5 arg6 harg6 arg7 harg7 arg8 harg8 arg9 harg9 arg10 harg10 arg11 harg11 arg12 harg12 hc0
      x0 x1 x2 x3 x4 x5 x6 xs0 xs1).1 = outsF x0 x1 x2 x6 xs0 := by
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread]
  rfl

/-- What is stored as the backward outputs at a point that is not a sequence's first. -/
theorem runB_outsB (hc0 : ¬cond0_0 i) (xs0 xs1 : Vec F S3x128x128 .f32) :
    (kernelRun0_B c i arg2 harg2 arg3 harg3 arg4 harg4 arg5 harg5 arg6 harg6 arg7 harg7 arg8 harg8 arg9 harg9 arg10 harg10 arg11 harg11 arg12 harg12 hc0
      x0 x1 x2 x3 x4 x5 x6 xs0 xs1).2.1 = outsB x3 x4 x5 x6 xs1 := by
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread]
  rfl

/-- What is stored as the forward state at a point that is not a sequence's first. -/
theorem runB_newsF (hc0 : ¬cond0_0 i) (xs0 xs1 : Vec F S3x128x128 .f32) :
    (kernelRun0_B c i arg2 harg2 arg3 harg3 arg4 harg4 arg5 harg5 arg6 harg6 arg7 harg7 arg8 harg8 arg9 harg9 arg10 harg10 arg11 harg11 arg12 harg12 hc0
      x0 x1 x2 x3 x4 x5 x6 xs0 xs1).2.2.1 = newsF x1 x2 x6 xs0 := by
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread]
  rfl

/-- What is stored as the backward state at a point that is not a sequence's first. -/
theorem runB_newsB (hc0 : ¬cond0_0 i) (xs0 xs1 : Vec F S3x128x128 .f32) :
    (kernelRun0_B c i arg2 harg2 arg3 harg3 arg4 harg4 arg5 harg5 arg6 harg6 arg7 harg7 arg8 harg8 arg9 harg9 arg10 harg10 arg11 harg11 arg12 harg12 hc0
      x0 x1 x2 x3 x4 x5 x6 xs0 xs1).2.2.2.1 = newsB x4 x5 x6 xs1 := by
  unfold kernelRun0_B
  dsimp only
  sl_unfold_words
  simp only [View.readAt_eq_ld, harg2.read_unread, harg3.read_unread, harg4.read_unread, harg5.read_unread, harg6.read_unread, harg7.read_unread, harg8.read_unread, harg11.read_unread, harg12.read_unread]
  rfl

/-- What is stored as the forward outputs at a sequence's first point, whose state is zero. -/
theorem runA_outsF (hc0 : cond0_0 i) :
    (kernelRun0_A c i arg2 harg2 arg3 harg3 arg4 harg4 arg5 harg5 arg6 harg6 arg7 harg7 arg8 harg8 arg9 harg9 arg10 harg10 arg11 harg11 arg12 harg12 hc0
      x0 x1 x2 x3 x4 x5 x6 ).1 = outsF x0 x1 x2 x6 zeros := by
  unfold kernelRun0_A
  dsimp only
  sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg11.read_unread, harg12.read_unread]
  rfl

/-- What is stored as the backward outputs at a sequence's first point, whose state is zero. -/
theorem runA_outsB (hc0 : cond0_0 i) :
    (kernelRun0_A c i arg2 harg2 arg3 harg3 arg4 harg4 arg5 harg5 arg6 harg6 arg7 harg7 arg8 harg8 arg9 harg9 arg10 harg10 arg11 harg11 arg12 harg12 hc0
      x0 x1 x2 x3 x4 x5 x6 ).2.1 = outsB x3 x4 x5 x6 zeros := by
  unfold kernelRun0_A
  dsimp only
  sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg11.read_unread, harg12.read_unread]
  rfl

/-- What is stored as the forward state at a sequence's first point, whose state is zero. -/
theorem runA_newsF (hc0 : cond0_0 i) :
    (kernelRun0_A c i arg2 harg2 arg3 harg3 arg4 harg4 arg5 harg5 arg6 harg6 arg7 harg7 arg8 harg8 arg9 harg9 arg10 harg10 arg11 harg11 arg12 harg12 hc0
      x0 x1 x2 x3 x4 x5 x6 ).2.2.1 = newsF x1 x2 x6 zeros ++ [⟨sAll, zeros⟩] := by
  unfold kernelRun0_A
  dsimp only
  sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg11.read_unread, harg12.read_unread]
  rfl

/-- What is stored as the backward state at a sequence's first point, whose state is zero. -/
theorem runA_newsB (hc0 : cond0_0 i) :
    (kernelRun0_A c i arg2 harg2 arg3 harg3 arg4 harg4 arg5 harg5 arg6 harg6 arg7 harg7 arg8 harg8 arg9 harg9 arg10 harg10 arg11 harg11 arg12 harg12 hc0
      x0 x1 x2 x3 x4 x5 x6 ).2.2.2.1 = newsB x4 x5 x6 zeros ++ [⟨sAll, zeros⟩] := by
  unfold kernelRun0_A
  dsimp only
  sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg11.read_unread, harg12.read_unread]
  rfl

end Runs

end Cert.KernelIdeal.Pieces

end
-- ==== Proof.Math.lean ====
/-
  The gated recurrence on one chunk of 64 rows, over the extended reals: its running sums, the outputs' two parts and the
  step of the state, and the facts that let a kernel compute the products of exponentials relative to another row.
-/
module

public import Idealize.ShloMosaic.PureOps.Ideal
public import Idealize.ShloMosaic.Lib.Pointwise

@[expose] public section

noncomputable section

namespace Cert.Math

open Idealize.ShloMosaic

/-- What a chunk's rows hold: queries, keys, logarithms of the forget gates and values. -/
structure Chunk where
  /-- The queries. -/
  q : Fin 64 → Fin 64 → EReal
  /-- The keys. -/
  k : Fin 64 → Fin 64 → EReal
  /-- The logarithms of the forget gates. -/
  g : Fin 64 → Fin 64 → EReal
  /-- The values. -/
  v : Fin 64 → Fin 64 → EReal

/-- Row `s` is not after row `r` in the forward order. -/
def upTo (s r : Fin 64) : Bool := decide (s ≤ r)

/-- Row `s` is not after row `r` in the backward order. -/
def downTo (s r : Fin 64) : Bool := decide (r ≤ s)

variable (le : Fin 64 → Fin 64 → Bool)

/-- The running sums of the logarithms, over the rows not after `r` in the order `le`. -/
def Chunk.b (C : Chunk) (r i : Fin 64) : EReal := ∑ s, if le s r = true then C.g s i else 0

/-- The outputs' part that comes from the chunk's own rows. -/
def Chunk.own (C : Chunk) (r j : Fin 64) : EReal :=
  ∑ s, (∑ i, C.q r i * C.k s i * (if le s r = true then Ideal.exp (C.b le r i - C.b le s i) else 0)) * C.v s j

/-- The outputs' part that comes from the state before the chunk. -/
def Chunk.carry (C : Chunk) (H : Fin 64 → Fin 64 → EReal) (r j : Fin 64) : EReal :=
  ∑ i, C.q r i * Ideal.exp (C.b le r i) * H i j

/-- The state after the chunk whose last row is `e`. -/
def Chunk.next (e : Fin 64) (C : Chunk) (H : Fin 64 → Fin 64 → EReal) (i j : Fin 64) : EReal :=
  Ideal.exp (C.b le e i) * H i j + ∑ s, C.k s i * Ideal.exp (C.b le e i - C.b le s i) * C.v s j

/-- The chunk with its rows in the opposite order. -/
def Chunk.rev (C : Chunk) : Chunk := ⟨fun r => C.q r.rev, fun r => C.k r.rev, fun r => C.g r.rev, fun r => C.v r.rev⟩

/-! ## The opposite order -/

theorem downTo_rev (s r : Fin 64) : downTo s.rev r.rev = upTo s r := by simp [downTo, upTo, Fin.rev_le_rev]

/-- A sum over the rows is a sum over the rows in the opposite order. -/
theorem sum_rev (f : Fin 64 → EReal) : ∑ s, f s = ∑ s : Fin 64, f s.rev := (Equiv.sum_comp Fin.revPerm f).symm

theorem Chunk.b_rev (C : Chunk) (r i : Fin 64) : C.rev.b downTo r.rev i = C.b upTo r i := by
  unfold Chunk.b Chunk.rev
  rw [sum_rev]
  simp only [downTo_rev, Fin.rev_rev]

/-- The own part of the reversed chunk in the backward order is that of the chunk in the forward order. -/
theorem Chunk.own_rev (C : Chunk) (r j : Fin 64) : C.rev.own downTo r.rev j = C.own upTo r j := by
  unfold Chunk.own
  rw [sum_rev]
  simp only [Chunk.b_rev, downTo_rev]
  simp only [Chunk.rev, Fin.rev_rev]

/-- The same for the part that comes from the state. -/
theorem Chunk.carry_rev (C : Chunk) (H : Fin 64 → Fin 64 → EReal) (r j : Fin 64) : C.rev.carry downTo H r.rev j = C.carry upTo H r j := by
  unfold Chunk.carry
  simp only [Chunk.b_rev]
  simp only [Chunk.rev, Fin.rev_rev]

/-- The same for the step of the state, whose last row is then the first. -/
theorem Chunk.next_rev (C : Chunk) (H : Fin 64 → Fin 64 → EReal) : C.rev.next downTo 0 H = C.next upTo 63 H := by
  funext i j
  unfold Chunk.next
  rw [sum_rev]
  have h0 : (0 : Fin 64) = Fin.rev 63 := by decide
  rw [h0]
  simp only [Chunk.b_rev]
  simp only [Chunk.rev, Fin.rev_rev]

/-! ## Extended reals -/

theorem exp_add (x y : EReal) : Ideal.exp (x + y) = Ideal.exp x * Ideal.exp y := by
  induction x with
  | bot => simp
  | top =>
    induction y with
    | bot => simp
    | top => simp
    | coe y => rw [EReal.top_add_coe, Ideal.exp_top, Ideal.exp_coe, EReal.top_mul_coe_of_pos (Real.exp_pos y)]
  | coe x =>
    induction y with
    | bot => simp
    | top => rw [EReal.coe_add_top, Ideal.exp_top, Ideal.exp_coe, EReal.coe_mul_top_of_pos (Real.exp_pos x)]
    | coe y => rw [← EReal.coe_add, Ideal.exp_coe, Ideal.exp_coe, Ideal.exp_coe, Real.exp_add, EReal.coe_mul]

/-- Decay computed from the beginning of a chunk. -/
theorem scaled_zero (q k x y : EReal) : q * Ideal.exp x * (k * Ideal.exp (0 - y)) = q * k * Ideal.exp (x - y) := by
  rw [zero_sub, sub_eq_add_neg, exp_add, mul_mul_mul_comm]

/-- Decay computed relative to an intermediate running sum `c`. -/
theorem scaled_mid (q k x y c : EReal) (hc : c ≠ ⊤) (hx : c = ⊥ → x = ⊥) :
    q * Ideal.exp (x - c) * (k * Ideal.exp (c - y)) = q * k * Ideal.exp (x - y) := by
  induction c with
  | bot => rw [hx rfl]; simp [sub_eq_add_neg]
  | top => exact absurd rfl hc
  | coe c =>
    rw [mul_mul_mul_comm, ← exp_add]
    congr 2
    induction x with
    | bot => simp [sub_eq_add_neg]
    | top => induction y with
      | bot => simp [sub_eq_add_neg]
      | top => simp [sub_eq_add_neg]
      | coe y => rw [← EReal.coe_sub, EReal.top_sub_coe, EReal.top_sub_coe, EReal.top_add_coe]
    | coe x => induction y with
      | bot => rw [← EReal.coe_sub, EReal.coe_sub_bot, EReal.coe_sub_bot, EReal.coe_add_top]
      | top => simp [sub_eq_add_neg]
      | coe y => rw [← EReal.coe_sub, ← EReal.coe_sub, ← EReal.coe_sub, ← EReal.coe_add, sub_add_sub_cancel]

/-- A sum has the value ⊥ only where one of its terms has. -/
theorem sum_eq_bot {ι : Type} (s : Finset ι) (f : ι → EReal) : ∑ i ∈ s, f i = ⊥ ↔ ∃ i ∈ s, f i = ⊥ := by
  classical
  induction s using Finset.induction_on with
  | empty => simp
  | insert a s ha ih => rw [Finset.sum_insert ha, EReal.add_eq_bot_iff, ih]; simp

/-- A sum of terms below ⊤ is below ⊤. -/
theorem sum_ne_top {ι : Type} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

/-- What is left of a number below ⊤ after it has been taken away twice adds nothing to it. -/
theorem parts_sum (x : EReal) (h : x ≠ ⊤) : x + (x - x) + (x - x - (x - x)) = x := by
  induction x with
  | bot => simp [sub_eq_add_neg]
  | top => exact absurd rfl h
  | coe x => rw [← EReal.coe_sub, ← EReal.coe_sub, ← EReal.coe_add, ← EReal.coe_add]; simp

theorem log_ne_top (x : EReal) (h : x ≠ ⊤) : Ideal.log x ≠ ⊤ := by
  induction x with
  | bot => simp
  | top => exact absurd rfl h
  | coe x => rw [Ideal.log_coe]; split <;> simp

theorem exp_nonneg (x : EReal) : 0 ≤ Ideal.exp x := by
  induction x with
  | bot => simp
  | top => simp
  | coe x => rw [Ideal.exp_coe]; exact_mod_cast (Real.exp_pos x).le

/-- The logistic function's values are real numbers. -/
theorem logistic_real (x : EReal) : ∃ r : ℝ, Ideal.logistic x = r := by
  unfold Ideal.logistic
  have h := exp_nonneg (-x)
  generalize Ideal.exp (-x) = e at h
  induction e with
  | bot => simp at h
  | top =>
    refine ⟨0, ?_⟩
    unfold Ideal.div
    rw [show (1 : EReal) + ⊤ = ⊤ from EReal.add_top_of_ne_bot (EReal.coe_ne_bot 1), if_neg (by simp)]
    simp
  | coe e =>
    have he : (0 : ℝ) ≤ e := by exact_mod_cast h
    refine ⟨(1 + e)⁻¹, ?_⟩
    unfold Ideal.div
    have : (1 : EReal) + (e : EReal) = ((1 + e : ℝ) : EReal) := by push_cast; rfl
    rw [this, if_neg (by norm_cast; positivity), one_mul, EReal.coe_inv]

/-- A forget gate whose lower bound is below ⊤ is below ⊤. -/
theorem gate_ne_top (l z : EReal) (h : l ≠ ⊤) : l + (1 - l) * Ideal.logistic z ≠ ⊤ := by
  obtain ⟨r, hr⟩ := logistic_real z
  rw [hr]
  induction l with
  | bot => simp
  | top => exact absurd rfl h
  | coe l =>
    have : (1 : EReal) - (l : EReal) = ((1 - l : ℝ) : EReal) := by push_cast; rfl
    rw [this, ← EReal.coe_mul, ← EReal.coe_add]
    exact EReal.coe_ne_top _

/-! ## A chunk's own part, computed as the kernel does -/

section Own
variable {le} (C : Chunk)

/-- The running sums of logarithms below ⊤ are below ⊤. -/
theorem Chunk.b_ne_top (h : ∀ r i, C.g r i ≠ ⊤) (r i : Fin 64) : C.b le r i ≠ ⊤ :=
  sum_ne_top _ _ fun s => by split <;> simp [h]

/-- A running sum that is ⊥ stays ⊥. -/
theorem Chunk.b_eq_bot {c r : Fin 64} (hcr : ∀ s, le s c = true → le s r = true) (i : Fin 64) (h : C.b le c i = ⊥) : C.b le r i = ⊥ := by
  unfold Chunk.b at h ⊢
  rw [sum_eq_bot] at h ⊢
  obtain ⟨s, hs, h⟩ := h
  refine ⟨s, hs, ?_⟩
  split at h
  · rename_i hl; rw [if_pos (hcr s hl)]; exact h
  · simp at h

/-- The running sums from three parts of the logarithms. -/
theorem Chunk.b_parts (h : ∀ r i, C.g r i ≠ ⊤) (r i : Fin 64) :
    (∑ s, if le s r = true then C.g s i else 0) + (∑ s, if le s r = true then C.g s i - C.g s i else 0)
      + (∑ s, if le s r = true then C.g s i - C.g s i - (C.g s i - C.g s i) else 0) = C.b le r i := by
  unfold Chunk.b
  rw [← Finset.sum_add_distrib, ← Finset.sum_add_distrib]
  refine Finset.sum_congr rfl fun s _ => ?_
  split
  · exact parts_sum _ (h s i)
  · simp

/-- One row's share of the own part, in any scaling of queries and keys that gives the product of the two decays. -/
theorem Chunk.own_term (r s j : Fin 64) (x y : Fin 64 → EReal)
    (h : ∀ i, x i * y i = C.q r i * C.k s i * Ideal.exp (C.b le r i - C.b le s i)) :
    (∑ i, C.q r i * C.k s i * (if le s r = true then Ideal.exp (C.b le r i - C.b le s i) else 0)) * C.v s j
      = if le s r = true then (∑ i, x i * y i) * C.v s j else 0 := by
  split
  · simp only [h]
  · simp

/-- Row `s` of the first half. -/
def lo (s : Fin 32) : Fin 64 := ⟨s.val, by omega⟩
/-- Row `s` of the second half. -/
def hi (s : Fin 32) : Fin 64 := ⟨32 + s.val, by omega⟩

theorem sum_halves (f : Fin 64 → EReal) : ∑ s, f s = (∑ s, f (lo s)) + ∑ s, f (hi s) := by
  rw [Fin.sum_univ_add (a := 32) (b := 32) f]; rfl

/-- The own part of a row that no row of the second half precedes. -/
theorem Chunk.own_lo (r j : Fin 64) (h : ∀ s, le (hi s) r = false) :
    C.own le r j = ∑ s, if le (lo s) r = true then
      (∑ i, C.q r i * Ideal.exp (C.b le r i) * (C.k (lo s) i * Ideal.exp (0 - C.b le (lo s) i))) * C.v (lo s) j else 0 := by
  unfold Chunk.own
  rw [sum_halves]
  simp only [C.own_term r _ j _ _ fun i => scaled_zero (C.q r i) (C.k _ i) (C.b le r i) (C.b le _ i), h]
  simp

/-- The own part of a row that no row of the first half precedes. -/
theorem Chunk.own_hi (r j : Fin 64) (h : ∀ s, le (lo s) r = false) :
    C.own le r j = ∑ s, if le (hi s) r = true then
      (∑ i, C.q r i * Ideal.exp (C.b le r i) * (C.k (hi s) i * Ideal.exp (0 - C.b le (hi s) i))) * C.v (hi s) j else 0 := by
  unfold Chunk.own
  rw [sum_halves]
  simp only [C.own_term r _ j _ _ fun i => scaled_zero (C.q r i) (C.k _ i) (C.b le r i) (C.b le _ i), h]
  simp

/-- The own part of a row, the decays computed relative to a row `c` not after it. -/
theorem Chunk.own_mid (c r j : Fin 64) (hg : ∀ r i, C.g r i ≠ ⊤) (hcr : ∀ s, le s c = true → le s r = true) :
    C.own le r j = ∑ s, if le s r = true then
      (∑ i, C.q r i * Ideal.exp (C.b le r i - C.b le c i) * (C.k s i * Ideal.exp (C.b le c i - C.b le s i))) * C.v s j else 0 := by
  unfold Chunk.own
  exact Finset.sum_congr rfl fun s _ => C.own_term r s j _ _ fun i =>
    scaled_mid _ _ _ _ _ (C.b_ne_top hg c i) (C.b_eq_bot hcr i)

end Own

end Cert.Math

end
-- ==== Proof.Words.lean ====
/-
  The masks of Proof/Block.lean read at an index, and sums over the 128 lanes of a pair of heads.
-/
module

public import proofs.«01_k».proof.Proof.Block
public import proofs.«01_k».proof.Proof.Math

@[expose] public section

set_option maxRecDepth 16384

noncomputable section

namespace Cert.KernelIdeal.Read

open Idealize.ShloMosaic Cert.KernelIdeal Cert.KernelIdeal.Gen Cert.KernelIdeal.Block Cert.Math

local notation "𝕀" => Idealize.ShloMosaic.Ideal

/-- Row `r` of chunk `n` of a block. -/
def row (n : Fin 4) (r : Fin 64) : Fin 256 := ⟨n.val * 64 + r.val, by omega⟩
/-- Lane `k` of head `d` of a pair. -/
def lane (d : Fin 2) (k : Fin 64) : Fin 128 := ⟨64 * d.val + k.val, by omega⟩

/-! ## Words -/

theorem select_ofBool {α : Type} (b : Bool) (x y : α) : Scalar.select (BitVec.ofBool b) x y = if b = true then x else y := by
  cases b <;> rfl

theorem triF_at (n : Fin 4) (r s : Fin 64) : triF (ix3 n r s) = BitVec.ofBool (upTo s r) := by
  pointwise [triF]
  revert r s
  decide +kernel

theorem triB_at (n : Fin 4) (r s : Fin 64) : triB (ix3 n r s) = BitVec.ofBool (downTo s r) := by
  pointwise [triB]
  revert r s
  decide +kernel

/-- Row `r` of head `d`'s copy in a stacked half chunk. -/
def copy (d : Fin 2) (r : Fin 32) : Fin 64 := ⟨32 * d.val + r.val, by omega⟩

theorem mask1F_at (n : Fin 4) (d : Fin 2) (r s : Fin 32) : mask1F (ix3 n (copy d r) s) = BitVec.ofBool (upTo (lo s) (lo r)) := by
  pointwise [mask1F, rem32]
  revert d r s
  decide +kernel

theorem mask1B_at (n : Fin 4) (d : Fin 2) (r s : Fin 32) : mask1B (ix3 n (copy d r) s) = BitVec.ofBool (downTo (hi s) (hi r)) := by
  pointwise [mask1B, rem32]
  revert d r s
  decide +kernel

theorem mask2F_at (n : Fin 4) (d : Fin 2) (r : Fin 32) (s : Fin 64) : mask2F (ix3 n (copy d r) s) = BitVec.ofBool (upTo s (hi r)) := by
  pointwise [mask2F, rem32]
  revert d r s
  decide +kernel

theorem mask2B_at (n : Fin 4) (d : Fin 2) (r : Fin 32) (s : Fin 64) : mask2B (ix3 n (copy d r) s) = BitVec.ofBool (downTo s (lo r)) := by
  pointwise [mask2B, rem32]
  revert d r s
  decide +kernel

theorem lanes0_at (n : Fin 4) (r : Fin 32) (d : Fin 2) (k : Fin 64) : lanes0 (ix3 n r (lane d k)) = BitVec.ofBool (d == 0) := by
  pointwise [lanes0]
  revert d k
  decide +kernel

theorem diag_at (d d' : Fin 2) (j i : Fin 64) : diag (ix2 (lane d j) (lane d' i)) = BitVec.ofBool (d == d') := by
  pointwise [diag]
  revert d d' j i
  decide +kernel

/-! ## Sums over the lanes of a pair -/

theorem sum_lanes (f : Fin 128 → EReal) : ∑ l, f l = (∑ k, f (lane 0 k)) + ∑ k, f (lane 1 k) := by
  rw [Fin.sum_univ_add (a := 64) (b := 64) f]
  congr 1

/-- A sum over the lanes of a pair of which only one head's contribute. -/
theorem sum_head (d : Fin 2) (f : Fin 128 → EReal) (h : ∀ d' k, d' ≠ d → f (lane d' k) = 0) : ∑ l, f l = ∑ k, f (lane d k) := by
  rw [sum_lanes]
  revert h
  fin_cases d
  · intro h; simp [h 1 _ (by decide)]
  · intro h; simp [h 0 _ (by decide)]

end Cert.KernelIdeal.Read

end
-- ==== Proof.Read.lean ====
/-
  The functions of Proof/Block.lean read at an index, at the extended reals: a block of 256 rows and one pair of heads is
  four chunks of each of the two heads, and what the block stores are the chunks' outputs and states.
-/
module

public import proofs.«01_k».proof.Proof.Words

@[expose] public section

set_option maxRecDepth 16384

noncomputable section

namespace Cert.KernelIdeal.Read

open Idealize.ShloMosaic Cert.KernelIdeal Cert.KernelIdeal.Gen Cert.KernelIdeal.Block Cert.Math

local notation "𝕀" => Idealize.ShloMosaic.Ideal

variable (n : Fin 4) (d : Fin 2)

/-- A stacked half chunk holds in head `d`'s copy the lanes of head `d` and zero in the others. -/
theorem stack_at (x : FVec 𝕀 S4x32x128 .f32) (d' : Fin 2) (r : Fin 32) (k : Fin 64) :
    stack x (ix3 n (copy d r) (lane d' k)) = if d' = d then x (ix3 n r (lane d' k)) else 0 := by
  pointwise [stack, z32]
  obtain rfl | rfl : d = 0 ∨ d = 1 := by omega
  · rw [dif_pos (by simp [copy]), show (⟨(copy 0 r).val, by simp [copy]⟩ : Fin 32) = r from Fin.ext (by simp [copy]), lanes0_at, select_ofBool]
    simp
  · rw [dif_neg (by simp [copy]), show (⟨(copy 1 r).val - 32, by simp [copy]⟩ : Fin 32) = r from Fin.ext (by simp [copy]), lanes0_at, select_ofBool]
    obtain rfl | rfl : d' = 0 ∨ d' = 1 := by omega
    all_goals simp

/-- Bringing the two copies together takes each head's lanes from its own copy. -/
theorem unstack_at (x : FVec 𝕀 S4x64x128 .f32) (r : Fin 32) (k : Fin 64) :
    unstack x (ix3 n r (lane d k)) = x (ix3 n (copy d r) (lane d k)) := by
  pointwise [unstack]
  rw [lanes0_at, select_ofBool]
  obtain rfl | rfl : d = 0 ∨ d = 1 := by omega
  · simp [copy]
  · simp [copy]

theorem gate_at (z : Vec 𝕀 S1x256x128 .f32) (lb : Vec 𝕀 S1x128 .f32) (R : Fin 256) (l : Fin 128) :
    gate z lb (ix2 R l) = lb (ix2 0 l) + (1 - lb (ix2 0 l)) * Ideal.logistic (z (ix3 0 R l)) := by
  pointwise [gate]

theorem parts_at0 (f : FVec 𝕀 S256x128 .f32) (R : Fin 256) (l : Fin 128) (h : l.val < 384) :
    parts f (ix2 R ⟨l.val, h⟩) = Ideal.log (f (ix2 R l)) := by
  pointwise [parts]

theorem parts_at1 (f : FVec 𝕀 S256x128 .f32) (R : Fin 256) (l : Fin 128) (h : 128 + l.val < 384) :
    parts f (ix2 R ⟨128 + l.val, h⟩) = Ideal.log (f (ix2 R l)) - Ideal.log (f (ix2 R l)) := by
  pointwise [parts]

theorem parts_at2 (f : FVec 𝕀 S256x128 .f32) (R : Fin 256) (l : Fin 128) (h : 256 + l.val < 384) :
    parts f (ix2 R ⟨256 + l.val, h⟩)
      = Ideal.log (f (ix2 R l)) - Ideal.log (f (ix2 R l)) - (Ideal.log (f (ix2 R l)) - Ideal.log (f (ix2 R l))) := by
  pointwise [parts]
  rw [dif_neg (by omega), dif_neg (by omega)]
  simp only [show 256 + l.val - 128 - 128 = l.val by omega]

/-- The chunk `n` of head `d` that a block's rows hold. -/
def chunk (q z v : Vec 𝕀 S1x256x128 .f32) (lb : Vec 𝕀 S1x128 .f32) : Chunk where
  q r i := q (ix3 0 (row n r) (lane d i))
  k r i := 1 - (lb (ix2 0 (lane d i)) + (1 - lb (ix2 0 (lane d i))) * Ideal.logistic (z (ix3 0 (row n r) (lane d i))))
  g r i := Ideal.log (lb (ix2 0 (lane d i)) + (1 - lb (ix2 0 (lane d i))) * Ideal.logistic (z (ix3 0 (row n r) (lane d i))))
  v r i := v (ix3 0 (row n r) (lane d i))

theorem sums_eq (le : Fin 64 → Fin 64 → Bool) (m : IVec S4x64x64 1) (hm : ∀ r s, m (ix3 n r s) = BitVec.ofBool (le s r))
    (f : FVec 𝕀 S256x128 .f32) (r : Fin 64) (l : Fin 128) (hf : ∀ s, Ideal.log (f (ix2 (row n s) l)) ≠ ⊤) :
    sums m f (ix3 n r l) = ∑ s, if le s r = true then Ideal.log (f (ix2 (row n s) l)) else 0 := by
  pointwise [sums, prod3, tri, z32]
  simp only [hm, select_ofBool]
  refine Eq.trans ?_ (Chunk.b_parts (le := le) ⟨fun _ _ => 0, fun _ _ => 0, fun s _ => Ideal.log (f (ix2 (row n s) l)), fun _ _ => 0⟩ (fun s _ => hf s) r 0)
  exact congrArg₂ (· + ·) (congrArg₂ (· + ·) (Finset.sum_congr rfl fun s _ => by rw [parts_at0 f ⟨n.val * 64 + s.val, _⟩ l]; rfl)
    (Finset.sum_congr rfl fun s _ => by rw [parts_at1 f ⟨n.val * 64 + s.val, _⟩ l]; rfl))
    (Finset.sum_congr rfl fun s _ => by rw [parts_at2 f ⟨n.val * 64 + s.val, _⟩ l]; rfl)

/-- The first half's scores times values: over the columns that the condition lets through, each head with its own lanes. -/
theorem intra1_at (m : IVec S4x64x32 1) (p : Fin 32 → Bool) (q k : FVec 𝕀 S4x32x128 .f32) (v : FVec 𝕀 S4x32x128 .bf16) (r : Fin 32) (j : Fin 64)
    (hm : ∀ s, m (ix3 n (copy d r) s) = BitVec.ofBool (p s)) :
    intra1 m q k v (ix3 n r (lane d j))
      = ∑ s, if p s = true then (∑ i, q (ix3 n r (lane d i)) * k (ix3 n s (lane d i))) * v (ix3 n s (lane d j)) else 0 := by
  unfold intra1
  rw [unstack_at]
  pointwise [scores1, z32]
  refine Finset.sum_congr rfl fun s _ => ?_
  rw [hm, select_ofBool, sum_head d _ fun d' i hd => by rw [stack_at, if_neg hd, zero_mul]]
  simp only [stack_at, if_true]

/-- The same for the second half, over the whole chunk's columns. -/
theorem intra2_at (m : IVec S4x64x64 1) (p : Fin 64 → Bool) (q : FVec 𝕀 S4x32x128 .f32) (k : FVec 𝕀 S4x64x128 .f32) (v : FVec 𝕀 S4x64x128 .bf16)
    (r : Fin 32) (j : Fin 64) (hm : ∀ s, m (ix3 n (copy d r) s) = BitVec.ofBool (p s)) :
    intra2 m q k v (ix3 n r (lane d j))
      = ∑ s, if p s = true then (∑ i, q (ix3 n r (lane d i)) * k (ix3 n s (lane d i))) * v (ix3 n s (lane d j)) else 0 := by
  unfold intra2
  rw [unstack_at]
  pointwise [scores2, z32]
  refine Finset.sum_congr rfl fun s _ => ?_
  rw [hm, select_ofBool, sum_head d _ fun d' i hd => by rw [stack_at, if_neg hd, zero_mul]]
  simp only [stack_at, if_true]

/-! ## A block's arrays as chunks -/

section Arrays
variable (q z v : Vec 𝕀 S1x256x128 .f32) (lb : Vec 𝕀 S1x128 .f32)

theorem chunks_at (x : Vec 𝕀 S1x256x128 .f32) (r : Fin 64) (l : Fin 128) : chunks x (ix3 n r l) = x (ix3 0 (row n r) l) := by
  pointwise [chunks, row]

theorem values_at (r : Fin 64) (l : Fin 128) : values v (ix3 n r l) = v (ix3 0 (row n r) l) := by
  pointwise [values, row]

theorem keys_at (r : Fin 64) (i : Fin 64) : keys (gate z lb) (ix3 n r (lane d i)) = (chunk n d q z v lb).k r i := by
  pointwise [keys]
  rw [gate_at]
  rfl

/-- The chunk's logarithms are below ⊤ where the lower bounds are. -/
theorem g_ne_top (hlb : ∀ l, lb (ix2 0 l) ≠ ⊤) (r i : Fin 64) : (chunk n d q z v lb).g r i ≠ ⊤ :=
  log_ne_top _ (gate_ne_top _ _ (hlb _))

/-- The block's running sums are those of its chunks. -/
theorem sums_at (le : Fin 64 → Fin 64 → Bool) (m : IVec S4x64x64 1) (hm : ∀ n r s, m (ix3 n r s) = BitVec.ofBool (le s r))
    (hlb : ∀ l, lb (ix2 0 l) ≠ ⊤) (r : Fin 64) (i : Fin 64) :
    sums m (gate z lb) (ix3 n r (lane d i)) = (chunk n d q z v lb).b le r i := by
  rw [sums_eq n le m (hm n) _ _ _ fun s => by rw [gate_at]; exact g_ne_top n d q z v lb hlb s i]
  simp only [gate_at]
  rfl

/-- What a concatenation of two half chunks holds in its first half. -/
theorem join_lo (x y : FVec 𝕀 S4x32x128 .f32) (r : Fin 32) (l : Fin 128) :
    concatenate S4x64x128 1 [⟨S4x32x128, x⟩, ⟨S4x32x128, y⟩] concatenates_S4x32x128_S4x32x128_S4x64x128_d1 (ix3 n (lo r) l) = x (ix3 n r l) := by
  pointwise [lo]

/-- And in its second. -/
theorem join_hi (x y : FVec 𝕀 S4x32x128 .f32) (r : Fin 32) (l : Fin 128) :
    concatenate S4x64x128 1 [⟨S4x32x128, x⟩, ⟨S4x32x128, y⟩] concatenates_S4x32x128_S4x32x128_S4x64x128_d1 (ix3 n (hi r) l) = y (ix3 n r l) := by
  pointwise [hi]

theorem row_cases (r : Fin 64) : (∃ s, r = lo s) ∨ ∃ s, r = hi s := by
  by_cases h : r.val < 32
  · exact .inl ⟨⟨r.val, h⟩, rfl⟩
  · exact .inr ⟨⟨r.val - 32, by omega⟩, Fin.ext (by simp [hi]; omega)⟩

theorem upTo_hi_lo : ∀ r s : Fin 32, upTo (hi s) (lo r) = false := by decide +kernel
theorem downTo_lo_hi : ∀ r s : Fin 32, downTo (lo s) (hi r) = false := by decide +kernel
theorem upTo_31 : ∀ (r : Fin 32) (s : Fin 64), upTo s 31 = true → upTo s (hi r) = true := by decide +kernel
theorem downTo_32 : ∀ (r : Fin 32) (s : Fin 64), downTo s 32 = true → downTo s (lo r) = true := by decide +kernel

/-- The forward direction's own part. -/
theorem intraF_at (hlb : ∀ l, lb (ix2 0 l) ≠ ⊤) (r j : Fin 64) :
    intraF (chunks q) (keys (gate z lb)) (sF z lb) (values v) (ix3 n r (lane d j)) = (chunk n d q z v lb).own upTo r j := by
  have hs : ∀ r i, sF z lb (ix3 n r (lane d i)) = (chunk n d q z v lb).b upTo r i := sums_at n d q z v lb upTo triF triF_at hlb
  have hk := keys_at n d q z v lb
  unfold intraF
  obtain ⟨r, rfl⟩ | ⟨r, rfl⟩ := row_cases r
  · rw [join_lo, intra1_at n d _ _ _ _ _ r j (mask1F_at n d r), Chunk.own_lo _ _ _ (upTo_hi_lo r)]
    refine Finset.sum_congr rfl fun s _ => ?_
    pointwise [up, low, z32]
    simp only [show ∀ (x : Fin 32) h, (⟨x.val, h⟩ : Fin 64) = lo x from fun _ _ => rfl, hs, hk, chunks_at, values_at]
    rfl
  · rw [join_hi, intra2_at n d _ _ _ _ _ r j (mask2F_at n d r), Chunk.own_mid _ 31 _ _ (g_ne_top n d q z v lb hlb) (upTo_31 r)]
    refine Finset.sum_congr rfl fun s _ => ?_
    pointwise [to_, from_, high, z32]
    simp only [show ∀ (x : Fin 32) h, (⟨32 + x.val, h⟩ : Fin 64) = hi x from fun _ _ => rfl, hs, hk, chunks_at, values_at]
    rfl

/-- The backward direction's own part. -/
theorem intraB_at (hlb : ∀ l, lb (ix2 0 l) ≠ ⊤) (r j : Fin 64) :
    intraB (chunks q) (keys (gate z lb)) (sB z lb) (values v) (ix3 n r (lane d j)) = (chunk n d q z v lb).own downTo r j := by
  have hs : ∀ r i, sB z lb (ix3 n r (lane d i)) = (chunk n d q z v lb).b downTo r i := sums_at n d q z v lb downTo triB triB_at hlb
  have hk := keys_at n d q z v lb
  unfold intraB
  obtain ⟨r, rfl⟩ | ⟨r, rfl⟩ := row_cases r
  · rw [join_lo, intra2_at n d _ _ _ _ _ r j (mask2B_at n d r), Chunk.own_mid _ 32 _ _ (g_ne_top n d q z v lb hlb) (downTo_32 r)]
    refine Finset.sum_congr rfl fun s _ => ?_
    pointwise [to_, from_, low, z32]
    simp only [show ∀ (x : Fin 32) h, (⟨x.val, h⟩ : Fin 64) = lo x from fun _ _ => rfl, hs, hk, chunks_at, values_at]
    rfl
  · rw [join_hi, intra1_at n d _ _ _ _ _ r j (mask1B_at n d r), Chunk.own_hi _ _ _ (downTo_lo_hi r)]
    refine Finset.sum_congr rfl fun s _ => ?_
    pointwise [up, high, z32]
    simp only [show ∀ (x : Fin 32) h, (⟨32 + x.val, h⟩ : Fin 64) = hi x from fun _ _ => rfl, hs, hk, chunks_at, values_at]
    rfl

end Arrays

/-! ## The state -/

/-- A pair's matrix holds the two heads' states on its diagonal blocks, transposed, and zero off them. -/
def Holds (h : FVec 𝕀 S128x128 .f32) (H : Fin 2 → Fin 64 → Fin 64 → EReal) : Prop :=
  ∀ d d' j i, h (ix2 (lane d j) (lane d' i)) = if d = d' then H d i j else 0

theorem next_at (e : Fin 64) (le : Fin 64 → Fin 64 → Bool) (C : Fin 2 → Chunk) (h : FVec 𝕀 S128x128 .f32) (H : Fin 2 → Fin 64 → Fin 64 → EReal)
    (hh : Holds h H) (x : FVec 𝕀 S1x1x128 .f32) (v k : FVec 𝕀 S1x64x128 .bf16)
    (hx : ∀ d i, x (ix3 0 0 (lane d i)) = Ideal.exp ((C d).b le e i))
    (hv : ∀ d s j, v (ix3 0 s (lane d j)) = (C d).v s j)
    (hk : ∀ d s i, k (ix3 0 s (lane d i)) = (C d).k s i * Ideal.exp ((C d).b le e i - (C d).b le s i)) :
    Holds (next h x v k) fun d => (C d).next le e (H d) := by
  intro d d' j i
  pointwise [next, z32]
  rw [hh d d' j i, diag_at, select_ofBool, hx]
  obtain rfl | hd := eq_or_ne d d'
  · simp only [beq_self_eq_true, if_true, hv, hk, Chunk.next]
    exact congrArg₂ (· + ·) (mul_comm _ _) (Finset.sum_congr rfl fun s _ => mul_comm _ _)
  · simp [hd]

section States
variable (q z v : Vec 𝕀 S1x256x128 .f32) (lb : Vec 𝕀 S1x128 .f32)

/-- One chunk's step of the forward state. -/
theorem stepF (hlb : ∀ l, lb (ix2 0 l) ≠ ⊤) (h : FVec 𝕀 S128x128 .f32) (H : Fin 2 → Fin 64 → Fin 64 → EReal) (hh : Holds h H)
    (x : FVec 𝕀 S1x1x128 .f32) (v' k' : FVec 𝕀 S1x64x128 .bf16) (hx : ∀ l, x (ix3 0 0 l) = dF z lb (ix3 n 0 l))
    (hv : ∀ s l, v' (ix3 0 s l) = values v (ix3 n s l)) (hk : ∀ s l, k' (ix3 0 s l) = eF z lb (ix3 n s l)) :
    Holds (next h x v' k') fun d => (chunk n d q z v lb).next upTo 63 (H d) := by
  have hs : ∀ d r i, sF z lb (ix3 n r (lane d i)) = (chunk n d q z v lb).b upTo r i := fun d => sums_at n d q z v lb upTo triF triF_at hlb
  refine next_at 63 upTo _ h H hh _ _ _ (fun d i => ?_) (fun d s j => ?_) fun d s i => ?_
  · rw [hx]
    pointwise [dF, decays, lastF]
    rw [hs]
  · rw [hv, values_at]
    rfl
  · rw [hk]
    pointwise [eF, endKeys, from_, lastF]
    rw [keys_at n d q z v lb, hs, hs]

/-- One chunk's step of the backward state. -/
theorem stepB (hlb : ∀ l, lb (ix2 0 l) ≠ ⊤) (h : FVec 𝕀 S128x128 .f32) (H : Fin 2 → Fin 64 → Fin 64 → EReal) (hh : Holds h H)
    (x : FVec 𝕀 S1x1x128 .f32) (v' k' : FVec 𝕀 S1x64x128 .bf16) (hx : ∀ l, x (ix3 0 0 l) = dB z lb (ix3 n 0 l))
    (hv : ∀ s l, v' (ix3 0 s l) = values v (ix3 n s l)) (hk : ∀ s l, k' (ix3 0 s l) = eB z lb (ix3 n s l)) :
    Holds (next h x v' k') fun d => (chunk n d q z v lb).next downTo 0 (H d) := by
  have hs : ∀ d r i, sB z lb (ix3 n r (lane d i)) = (chunk n d q z v lb).b downTo r i := fun d => sums_at n d q z v lb downTo triB triB_at hlb
  refine next_at 0 downTo _ h H hh _ _ _ (fun d i => ?_) (fun d s j => ?_) fun d s i => ?_
  · rw [hx]
    pointwise [dB, decays, lastB]
    rw [hs]
  · rw [hv, values_at]
    rfl
  · rw [hk]
    pointwise [eB, endKeys, from_, lastB]
    rw [keys_at n d q z v lb, hs, hs]

end States

/-- The forward states of a block's chunks, from the state before the block. -/
def fwd (C : Fin 4 → Chunk) (H : Fin 64 → Fin 64 → EReal) : ℕ → Fin 64 → Fin 64 → EReal
  | 0 => H
  | n + 1 => (C (Fin.ofNat 4 n)).next upTo 63 (fwd C H n)

/-- The backward states of a block's chunks, the last chunk first. -/
def bwd (C : Fin 4 → Chunk) (H : Fin 64 → Fin 64 → EReal) : ℕ → Fin 64 → Fin 64 → EReal
  | 0 => H
  | n + 1 => (C (Fin.ofNat 4 n).rev).next downTo 0 (bwd C H n)

section Blocks
variable (q z v : Vec 𝕀 S1x256x128 .f32) (lb : Vec 𝕀 S1x128 .f32) (h : Vec 𝕀 S1x128x128 .f32) (H : Fin 2 → Fin 64 → Fin 64 → EReal)
  (hlb : ∀ l, lb (ix2 0 l) ≠ ⊤) (hh : Holds (state h) H)

include hlb hh

theorem hF1_holds : Holds (hF1 z lb v h) fun d => fwd (chunk · d q z v lb) (H d) 1 :=
  stepF 0 q z v lb hlb _ _ hh _ _ _ (fun l => by pointwise) (fun s l => by pointwise) fun s l => by pointwise
theorem hF2_holds : Holds (hF2 z lb v h) fun d => fwd (chunk · d q z v lb) (H d) 2 :=
  stepF 1 q z v lb hlb _ _ (hF1_holds q z v lb h H hlb hh) _ _ _ (fun l => by pointwise) (fun s l => by pointwise) fun s l => by pointwise
theorem hF3_holds : Holds (hF3 z lb v h) fun d => fwd (chunk · d q z v lb) (H d) 3 :=
  stepF 2 q z v lb hlb _ _ (hF2_holds q z v lb h H hlb hh) _ _ _ (fun l => by pointwise) (fun s l => by pointwise) fun s l => by pointwise
/-- The forward state after the block. -/
theorem hF4_holds : Holds (hF4 z lb v h) fun d => fwd (chunk · d q z v lb) (H d) 4 :=
  stepF 3 q z v lb hlb _ _ (hF3_holds q z v lb h H hlb hh) _ _ _ (fun l => by pointwise) (fun s l => by pointwise) fun s l => by pointwise

theorem hB1_holds : Holds (hB1 z lb v h) fun d => bwd (chunk · d q z v lb) (H d) 1 :=
  stepB 3 q z v lb hlb _ _ hh _ _ _ (fun l => by pointwise) (fun s l => by pointwise) fun s l => by pointwise
theorem hB2_holds : Holds (hB2 z lb v h) fun d => bwd (chunk · d q z v lb) (H d) 2 :=
  stepB 2 q z v lb hlb _ _ (hB1_holds q z v lb h H hlb hh) _ _ _ (fun l => by pointwise) (fun s l => by pointwise) fun s l => by pointwise
theorem hB3_holds : Holds (hB3 z lb v h) fun d => bwd (chunk · d q z v lb) (H d) 3 :=
  stepB 1 q z v lb hlb _ _ (hB2_holds q z v lb h H hlb hh) _ _ _ (fun l => by pointwise) (fun s l => by pointwise) fun s l => by pointwise
/-- The backward state after the block. -/
theorem hB4_holds : Holds (hB4 z lb v h) fun d => bwd (chunk · d q z v lb) (H d) 4 :=
  stepB 0 q z v lb hlb _ _ (hB3_holds q z v lb h H hlb hh) _ _ _ (fun l => by pointwise) (fun s l => by pointwise) fun s l => by pointwise

end Blocks

/-- A block's outputs from the chunks' own parts and the states before the chunks. -/
theorem result_at (o q b : FVec 𝕀 S4x64x128 .f32) (h : Fin 4 → FVec 𝕀 S128x128 .f32) (r : Fin 64) (l : Fin 128) :
    result o q b (h 0) (h 1) (h 2) (h 3) (ix3 0 (row n r) l)
      = o (ix3 n r l) + ∑ k, q (ix3 n r k) * Ideal.exp (b (ix3 n r k)) * h n (ix2 l k) := by
  pointwise [result, slab, up]
  have h1 : (⟨(row n r).val / 64, by omega⟩ : Fin 4) = n := Fin.ext (by simp only [row]; omega)
  have h2 : (⟨(row n r).val % 64, by omega⟩ : Fin 64) = r := Fin.ext (by simp only [row]; omega)
  have h3 : (row n r).val / 64 = n.val := congrArg Fin.val h1
  simp only [h1, h2, h3]
  congr 1
  refine Finset.sum_congr rfl fun k _ => congrArg _ ?_
  fin_cases n <;> rfl

/-- What the state before a chunk adds to a row. -/
theorem carry_at (le : Fin 64 → Fin 64 → Bool) (C : Chunk) (q b : FVec 𝕀 S4x64x128 .f32) (h : FVec 𝕀 S128x128 .f32)
    (H : Fin 2 → Fin 64 → Fin 64 → EReal) (hh : Holds h H) (r j : Fin 64) (hq : ∀ i, q (ix3 n r (lane d i)) = C.q r i)
    (hb : ∀ i, b (ix3 n r (lane d i)) = C.b le r i) :
    ∑ k, q (ix3 n r k) * Ideal.exp (b (ix3 n r k)) * h (ix2 (lane d j) k) = C.carry le (H d) r j := by
  rw [sum_head d _ fun d' i hd => by rw [hh d d' j i, if_neg hd.symm, mul_zero]]
  simp only [hh d d j, if_true, hq, hb]
  rfl

section Outputs
variable (q z v : Vec 𝕀 S1x256x128 .f32) (lb : Vec 𝕀 S1x128 .f32) (h : Vec 𝕀 S1x128x128 .f32) (H : Fin 2 → Fin 64 → Fin 64 → EReal)
  (hlb : ∀ l, lb (ix2 0 l) ≠ ⊤) (hh : Holds (state h) H) (r j : Fin 64)

include hlb hh

/-- What a forward block stores at row `r` of chunk `n`: the chunk's own part plus what the state before the chunk adds. -/
theorem outF_at : outF z lb v h q (ix3 0 (row n r) (lane d j))
    = (chunk n d q z v lb).carry upTo (fwd (chunk · d q z v lb) (H d) n) r j + (chunk n d q z v lb).own upTo r j := by
  unfold outF
  refine (result_at n _ _ _ ![state h, hF1 z lb v h, hF2 z lb v h, hF3 z lb v h] r _).trans ?_
  have hS : Holds (![state h, hF1 z lb v h, hF2 z lb v h, hF3 z lb v h] n) fun d => fwd (chunk · d q z v lb) (H d) n := by
    fin_cases n
    · exact hh
    · exact hF1_holds q z v lb h H hlb hh
    · exact hF2_holds q z v lb h H hlb hh
    · exact hF3_holds q z v lb h H hlb hh
  rw [intraF_at n d q z v lb hlb, add_comm]
  exact congrArg (· + _) (carry_at n d upTo (chunk n d q z v lb) _ (sF z lb) _ _ hS r j (fun i => chunks_at n q r _)
    fun i => sums_at n d q z v lb upTo triF triF_at hlb r i)

/-- What a backward block stores at row `r` of chunk `n`. -/
theorem outB_at : outB z lb v h q (ix3 0 (row n r) (lane d j))
    = (chunk n d q z v lb).carry downTo (bwd (chunk · d q z v lb) (H d) n.rev) r j + (chunk n d q z v lb).own downTo r j := by
  unfold outB
  refine (result_at n _ _ _ ![hB3 z lb v h, hB2 z lb v h, hB1 z lb v h, state h] r _).trans ?_
  have hS : Holds (![hB3 z lb v h, hB2 z lb v h, hB1 z lb v h, state h] n) fun d => bwd (chunk · d q z v lb) (H d) n.rev := by
    fin_cases n
    · exact hB3_holds q z v lb h H hlb hh
    · exact hB2_holds q z v lb h H hlb hh
    · exact hB1_holds q z v lb h H hlb hh
    · exact hh
  rw [intraB_at n d q z v lb hlb, add_comm]
  exact congrArg (· + _) (carry_at n d downTo (chunk n d q z v lb) _ (sB z lb) _ _ hS r j (fun i => chunks_at n q r _)
    fun i => sums_at n d q z v lb downTo triB triB_at hlb r i)

/-- What a forward block leaves as its state. -/
theorem newF_holds : Holds (state (newF z lb v h)) fun d => fwd (chunk · d q z v lb) (H d) 4 := by
  unfold state newF
  rw [show shapeCast S128x128 (shapeCast S1x128x128 (hF4 z lb v h) shapeCasts_S128x128_S1x128x128) shapeCasts_S1x128x128_S128x128 = hF4 z lb v h from
    funext fun y => by idx_vars y; pointwise]
  exact hF4_holds q z v lb h H hlb hh

/-- What a backward block leaves as its state. -/
theorem newB_holds : Holds (state (newB z lb v h)) fun d => bwd (chunk · d q z v lb) (H d) 4 := by
  unfold state newB
  rw [show shapeCast S128x128 (shapeCast S1x128x128 (hB4 z lb v h) shapeCasts_S128x128_S1x128x128) shapeCasts_S1x128x128_S128x128 = hB4 z lb v h from
    funext fun y => by idx_vars y; pointwise]
  exact hB4_holds q z v lb h H hlb hh

end Outputs

end Cert.KernelIdeal.Read

end
-- ==== Proof.Seq.lean ====
/-
  The recurrence over a whole sequence: 68 chunks of one head, in the order of time, cut from the projected inputs; the
  backward direction's time runs through the context rows from the last to the first and then through the other rows likewise.
-/
module

public import proofs.«01_k».proof.Proof.Math

@[expose] public section

noncomputable section

namespace Cert.Math

open Idealize.ShloMosaic

/-- The states before the chunks of a sequence, from the zero state. -/
def states (S : ℕ → Chunk) : ℕ → Fin 64 → Fin 64 → EReal
  | 0 => fun _ _ => 0
  | c + 1 => (S c).next upTo 63 (states S c)

/-- The outputs of chunk `c` of a sequence. -/
def outputs (S : ℕ → Chunk) (c : ℕ) (r j : Fin 64) : EReal := (S c).carry upTo (states S c) r j + (S c).own upTo r j

/-- The row of the inputs that a direction meets at row `r` of its chunk `c`. -/
def timeRow (dir : Fin 2) (c : Fin 68) (r : Fin 64) : Fin 4352 :=
  if dir = 0 then ⟨c.val * 64 + r.val, by omega⟩
  else if h : c.val < 4 then ⟨(3 - c.val) * 64 + (63 - r.val), by omega⟩ else ⟨(71 - c.val) * 64 + (63 - r.val), by omega⟩

/-- The column of the inputs where part `a` of the five holds lane `i` of head `h`. -/
def col (a : Fin 5) (h : Fin 6) (i : Fin 64) : Fin 1920 := ⟨a.val * 384 + (h.val * 64 + i.val), by omega⟩

/-- Lane `i` of head `h`. -/
def headLane (h : Fin 6) (i : Fin 64) : Fin 384 := ⟨h.val * 64 + i.val, by omega⟩

/-- The projected inputs: batch, row, and the five parts side by side. -/
abbrev Inputs := (⟨3, ![8, 4352, 1920]⟩ : Shape).Idx → EReal
/-- The lower bounds of the two directions. -/
abbrev Bounds := (⟨2, ![2, 384]⟩ : Shape).Idx → EReal

/-- A forget gate of a direction. -/
def forget (hg : Inputs) (lb : Bounds) (dir : Fin 2) (b : Fin 8) (h : Fin 6) (t : Fin 4352) (i : Fin 64) : EReal :=
  lb (ix2 dir (headLane h i)) + (1 - lb (ix2 dir (headLane h i))) * Ideal.logistic (hg (ix3 b t (col (if dir = 0 then 1 else 2) h i)))

/-- The chunks of head `h` of sequence `b` in the time of a direction. -/
def seq (hg : Inputs) (lb : Bounds) (dir : Fin 2) (b : Fin 8) (h : Fin 6) (c : ℕ) : Chunk where
  q r i := hg (ix3 b (timeRow dir (Fin.ofNat 68 c) r) (col 0 h i))
  k r i := 1 - forget hg lb dir b h (timeRow dir (Fin.ofNat 68 c) r) i
  g r i := Ideal.log (forget hg lb dir b h (timeRow dir (Fin.ofNat 68 c) r) i)
  v r i := hg (ix3 b (timeRow dir (Fin.ofNat 68 c) r) (col 3 h i))

end Cert.Math

end
-- ==== Proof.Blocks.lean ====
/-
  One grid point in the terms of the recurrence: from blocks that hold four chunks of every head and states that hold the
  recurrence's states before them, the point stores the chunks' outputs and the states after them.
-/
module

public import proofs.«01_k».proof.Proof.Pieces
public import proofs.«01_k».proof.Proof.Read
public import proofs.«01_k».proof.Proof.Seq
import Idealize.ShloMosaic.Lib.Pipeline.Value

@[expose] public section

set_option maxRecDepth 16384

noncomputable section

namespace Cert.KernelIdeal.Blocks

open Idealize.ShloMosaic Cert.KernelIdeal Cert.KernelIdeal.Gen Cert.KernelIdeal.Block Cert.KernelIdeal.Pieces Cert.KernelIdeal.Read Cert.Math

local notation "𝕀" => Idealize.ShloMosaic.Ideal

/-- Lane `l` of pair `p`. -/
def pairLane (p : Fin 3) (l : Fin 128) : Fin 384 := ⟨p.val * 128 + l.val, by omega⟩

/-- The lanes of pair `p` of a block. -/
def lanesOf (x : Vec 𝕀 S1x256x384 .f32) (p : Fin 3) : Vec 𝕀 S1x256x128 .f32 := fun y => x (ix3 0 (y 1) (pairLane p (y 2)))
/-- The lower bounds of pair `p` of a direction. -/
def boundsOf (x : Vec 𝕀 S2x384 .f32) (dir : Fin 2) (p : Fin 3) : Vec 𝕀 S1x128 .f32 := fun y => x (ix2 dir (pairLane p (y 1)))
/-- The state of pair `p`. -/
def slabOf (x : Vec 𝕀 S3x128x128 .f32) (p : Fin 3) : Vec 𝕀 S1x128x128 .f32 := fun y => x (ix3 p (y 1) (y 2))

theorem ld_r0 (x : Vec 𝕀 S1x256x384 .f32) : View.ld x r0 = lanesOf x 0 := by
  funext y; idx_vars y; pointwise [lanesOf, pairLane]
theorem ld_r1 (x : Vec 𝕀 S1x256x384 .f32) : View.ld x r1 = lanesOf x 1 := by
  funext y; idx_vars y; pointwise [lanesOf, pairLane]
theorem ld_r2 (x : Vec 𝕀 S1x256x384 .f32) : View.ld x r2 = lanesOf x 2 := by
  funext y; idx_vars y; pointwise [lanesOf, pairLane]
theorem ld_w00 (x : Vec 𝕀 S2x384 .f32) : View.ld x w00 = boundsOf x 0 0 := by
  funext y; idx_vars y; pointwise [boundsOf, pairLane]
theorem ld_w01 (x : Vec 𝕀 S2x384 .f32) : View.ld x w01 = boundsOf x 0 1 := by
  funext y; idx_vars y; pointwise [boundsOf, pairLane]
theorem ld_w02 (x : Vec 𝕀 S2x384 .f32) : View.ld x w02 = boundsOf x 0 2 := by
  funext y; idx_vars y; pointwise [boundsOf, pairLane]
theorem ld_w10 (x : Vec 𝕀 S2x384 .f32) : View.ld x w10 = boundsOf x 1 0 := by
  funext y; idx_vars y; pointwise [boundsOf, pairLane]
theorem ld_w11 (x : Vec 𝕀 S2x384 .f32) : View.ld x w11 = boundsOf x 1 1 := by
  funext y; idx_vars y; pointwise [boundsOf, pairLane]
theorem ld_w12 (x : Vec 𝕀 S2x384 .f32) : View.ld x w12 = boundsOf x 1 2 := by
  funext y; idx_vars y; pointwise [boundsOf, pairLane]
theorem ld_s0 (x : Vec 𝕀 S3x128x128 .f32) : View.ld x s0 = slabOf x 0 := by
  funext y; idx_vars y; pointwise [slabOf]
theorem ld_s1 (x : Vec 𝕀 S3x128x128 .f32) : View.ld x s1 = slabOf x 1 := by
  funext y; idx_vars y; pointwise [slabOf]
theorem ld_s2 (x : Vec 𝕀 S3x128x128 .f32) : View.ld x s2 = slabOf x 2 := by
  funext y; idx_vars y; pointwise [slabOf]

/-- Three pieces of lanes read at an index: the piece of the index's pair. -/
theorem canon_lanes (a : Fin 3 → Vec 𝕀 S1x256x128 .f32) (p : Fin 3) (R : Fin 256) (l : Fin 128) :
    View.canon (Val := Elt 𝕀) (e := .f32) [⟨r2, a 2⟩, ⟨r1, a 1⟩, ⟨r0, a 0⟩] (ix3 0 R (pairLane p l)) = a p (ix3 0 R l) := by
  have e0 : r0.emb (ix3 0 R l) = ix3 0 R (pairLane 0 l) := by
    funext a; apply Fin.ext; fin_cases a <;> simp [pairLane, ix3]
  have e1 : r1.emb (ix3 0 R l) = ix3 0 R (pairLane 1 l) := by
    funext a; apply Fin.ext; fin_cases a <;> simp [pairLane, ix3]
  have e2 : r2.emb (ix3 0 R l) = ix3 0 R (pairLane 2 l) := by
    funext a; apply Fin.ext; fin_cases a <;> simp [pairLane, ix3]
  have n2 : ∀ p : Fin 3, p.val < 2 → ix3 0 R (pairLane p l) ∉ r2.set := fun p hp h => by
    have := (Rect.mem_set_unit.mp h 2).1; simp [pairLane, ix3] at this; omega
  have n1 : ix3 0 R (pairLane 0 l) ∉ r1.set := fun h => by
    have := (Rect.mem_set_unit.mp h 2).1; simp [pairLane, ix3] at this; omega
  obtain rfl | rfl | rfl : p = 0 ∨ p = 1 ∨ p = 2 := by omega
  · exact (View.canon_cons_of_not_mem ⟨r2, a 2⟩ [⟨r1, a 1⟩, ⟨r0, a 0⟩] (n2 0 (by decide))).trans
      ((View.canon_cons_of_not_mem ⟨r1, a 1⟩ [⟨r0, a 0⟩] n1).trans
        ((congrArg (View.canon [⟨r0, a 0⟩]) e0.symm).trans (View.canon_cons_emb r0 (a 0) [] (ix3 0 R l))))
  · exact (View.canon_cons_of_not_mem ⟨r2, a 2⟩ [⟨r1, a 1⟩, ⟨r0, a 0⟩] (n2 1 (by decide))).trans
      ((congrArg (View.canon [⟨r1, a 1⟩, ⟨r0, a 0⟩]) e1.symm).trans (View.canon_cons_emb r1 (a 1) [⟨r0, a 0⟩] (ix3 0 R l)))
  · exact (congrArg (View.canon [⟨r2, a 2⟩, ⟨r1, a 1⟩, ⟨r0, a 0⟩]) e2.symm).trans
      (View.canon_cons_emb r2 (a 2) [⟨r1, a 1⟩, ⟨r0, a 0⟩] (ix3 0 R l))

/-- Three pieces of the state, over any earlier ones, read at a pair: the piece of the pair. -/
theorem canon_slabs (a : Fin 3 → Vec 𝕀 S1x128x128 .f32) (T : List (View.Piece (Elt 𝕀) S3x128x128 .f32)) (p : Fin 3) :
    slabOf (View.canon (⟨s2, a 2⟩ :: ⟨s1, a 1⟩ :: ⟨s0, a 0⟩ :: T)) p = a p := by
  funext y
  idx_vars y
  show View.canon (Val := Elt 𝕀) (e := .f32) _ (ix3 p y1 y2) = _
  have e0 : s0.emb (ix3 0 y1 y2) = ix3 0 y1 y2 := by
    funext a; apply Fin.ext; fin_cases a <;> simp [ix3]
  have e1 : s1.emb (ix3 0 y1 y2) = ix3 1 y1 y2 := by
    funext a; apply Fin.ext; fin_cases a <;> simp [ix3]
  have e2 : s2.emb (ix3 0 y1 y2) = ix3 2 y1 y2 := by
    funext a; apply Fin.ext; fin_cases a <;> simp [ix3]
  have n2 : ∀ p : Fin 3, p.val < 2 → ix3 p y1 y2 ∉ s2.set := fun p hp h => by
    have := (Rect.mem_set_unit.mp h 0).1; simp [ix3] at this; omega
  have n1 : ix3 0 y1 y2 ∉ s1.set := fun h => by
    have := (Rect.mem_set_unit.mp h 0).1; simp [ix3] at this
  have hy : y0 = 0 := by omega
  subst hy
  obtain rfl | rfl | rfl : p = 0 ∨ p = 1 ∨ p = 2 := by omega
  · exact (View.canon_cons_of_not_mem ⟨s2, a 2⟩ (⟨s1, a 1⟩ :: ⟨s0, a 0⟩ :: T) (n2 0 (by decide))).trans
      ((View.canon_cons_of_not_mem ⟨s1, a 1⟩ (⟨s0, a 0⟩ :: T) n1).trans
        ((congrArg (View.canon (⟨s0, a 0⟩ :: T)) e0.symm).trans (View.canon_cons_emb s0 (a 0) T (ix3 0 y1 y2))))
  · exact (View.canon_cons_of_not_mem ⟨s2, a 2⟩ (⟨s1, a 1⟩ :: ⟨s0, a 0⟩ :: T) (n2 1 (by decide))).trans
      ((congrArg (View.canon (⟨s1, a 1⟩ :: ⟨s0, a 0⟩ :: T)) e1.symm).trans (View.canon_cons_emb s1 (a 1) (⟨s0, a 0⟩ :: T) (ix3 0 y1 y2)))
  · exact (congrArg (View.canon (⟨s2, a 2⟩ :: ⟨s1, a 1⟩ :: ⟨s0, a 0⟩ :: T)) e2.symm).trans
      (View.canon_cons_emb s2 (a 2) (⟨s1, a 1⟩ :: ⟨s0, a 0⟩ :: T) (ix3 0 y1 y2))

section Point
variable (q z v : Vec 𝕀 S1x256x384 .f32) (lb : Vec 𝕀 S2x384 .f32) (xs : Vec 𝕀 S3x128x128 .f32) (T : List (View.Piece (Elt 𝕀) S3x128x128 .f32)) (p : Fin 3)

theorem outsF_at (R : Fin 256) (l : Fin 128) : View.canon (outsF q z v lb xs) (ix3 0 R (pairLane p l))
    = outF (lanesOf z p) (boundsOf lb 0 p) (lanesOf v p) (slabOf xs p) (lanesOf q p) (ix3 0 R l) := by
  unfold outsF
  simp only [ld_r0, ld_r1, ld_r2, ld_w00, ld_w01, ld_w02, ld_s0, ld_s1, ld_s2]
  exact canon_lanes (fun p => outF (lanesOf z p) (boundsOf lb 0 p) (lanesOf v p) (slabOf xs p) (lanesOf q p)) p R l

theorem outsB_at (R : Fin 256) (l : Fin 128) : View.canon (outsB q z v lb xs) (ix3 0 R (pairLane p l))
    = outB (lanesOf z p) (boundsOf lb 1 p) (lanesOf v p) (slabOf xs p) (lanesOf q p) (ix3 0 R l) := by
  unfold outsB
  simp only [ld_r0, ld_r1, ld_r2, ld_w10, ld_w11, ld_w12, ld_s0, ld_s1, ld_s2]
  exact canon_lanes (fun p => outB (lanesOf z p) (boundsOf lb 1 p) (lanesOf v p) (slabOf xs p) (lanesOf q p)) p R l

theorem newsF_at : slabOf (View.canon (newsF z v lb xs ++ T)) p = newF (lanesOf z p) (boundsOf lb 0 p) (lanesOf v p) (slabOf xs p) := by
  unfold newsF
  simp only [ld_r0, ld_r1, ld_r2, ld_w00, ld_w01, ld_w02, ld_s0, ld_s1, ld_s2]
  exact canon_slabs (fun p => newF (lanesOf z p) (boundsOf lb 0 p) (lanesOf v p) (slabOf xs p)) T p

theorem newsB_at : slabOf (View.canon (newsB z v lb xs ++ T)) p = newB (lanesOf z p) (boundsOf lb 1 p) (lanesOf v p) (slabOf xs p) := by
  unfold newsB
  simp only [ld_r0, ld_r1, ld_r2, ld_w10, ld_w11, ld_w12, ld_s0, ld_s1, ld_s2]
  exact canon_slabs (fun p => newB (lanesOf z p) (boundsOf lb 1 p) (lanesOf v p) (slabOf xs p)) T p

end Point

/-- The head of a pair. -/
def headOf (p : Fin 3) (d : Fin 2) : Fin 6 := ⟨2 * p.val + d.val, by omega⟩

/-- The carried states hold the recurrence's states before chunk `c` of every head. -/
def Carried (xs : Vec 𝕀 S3x128x128 .f32) (S : Fin 6 → ℕ → Chunk) (c : ℕ) : Prop :=
  ∀ p, Holds (state (slabOf xs p)) fun d => states (S (headOf p d)) c

/-- The zero states are those before the first chunk. -/
theorem carried_zeros (S : Fin 6 → ℕ → Chunk) : Carried zeros S 0 := by
  intro p d d' j i
  pointwise [state, slabOf, zeros, z32, states]
  simp

/-- The forward states of a block are the sequence's. -/
theorem fwd_states (S : ℕ → Chunk) (C : Fin 4 → Chunk) (c : ℕ) (hC : ∀ n : Fin 4, C n = S (c + n.val)) :
    ∀ n ≤ 4, fwd C (states S c) n = states S (c + n)
  | 0, _ => rfl
  | n + 1, h => by
    rw [← add_assoc, fwd, fwd_states S C c hC n (by omega), states, hC, Fin.val_ofNat, Nat.mod_eq_of_lt (by omega)]

/-- The backward states of a block are the sequence's, whose chunks are the block's in the opposite order, reversed. -/
theorem bwd_states (S : ℕ → Chunk) (C : Fin 4 → Chunk) (c : ℕ) (hC : ∀ n : Fin 4, C n.rev = (S (c + n.val)).rev) :
    ∀ n ≤ 4, bwd C (states S c) n = states S (c + n)
  | 0, _ => rfl
  | n + 1, h => by
    rw [← add_assoc, bwd, bwd_states S C c hC n (by omega), states, hC, Chunk.next_rev, Fin.val_ofNat, Nat.mod_eq_of_lt (by omega)]

section Forward
variable (q z v : Vec 𝕀 S1x256x384 .f32) (lb : Vec 𝕀 S2x384 .f32) (xs : Vec 𝕀 S3x128x128 .f32) (S : Fin 6 → ℕ → Chunk) (c : ℕ)
  (hlb : ∀ p l, boundsOf lb 0 p (ix2 0 l) ≠ ⊤) (hxs : Carried xs S c)
  (hC : ∀ p d n, chunk n d (lanesOf q p) (lanesOf z p) (lanesOf v p) (boundsOf lb 0 p) = S (headOf p d) (c + n.val))

include hlb hxs hC

/-- The forward outputs of a point. -/
theorem forward_at (n : Fin 4) (p : Fin 3) (d : Fin 2) (r j : Fin 64) :
    View.canon (outsF q z v lb xs) (ix3 0 (row n r) (pairLane p (lane d j))) = outputs (S (headOf p d)) (c + n.val) r j := by
  rw [outsF_at, outF_at n d _ _ _ _ _ _ (hlb p) (hxs p), fwd_states (S (headOf p d)) _ c (hC p d) _ (by omega), hC]
  rfl

/-- The forward state after a point. -/
theorem forward_carried (T : List (View.Piece (Elt 𝕀) S3x128x128 .f32)) : Carried (View.canon (newsF z v lb xs ++ T)) S (c + 4) := by
  intro p
  rw [newsF_at]
  have h := newF_holds (lanesOf q p) (lanesOf z p) (lanesOf v p) (boundsOf lb 0 p) (slabOf xs p) _ (hlb p) (hxs p)
  simpa only [fun d => fwd_states (S (headOf p d)) _ c (hC p d) 4 le_rfl] using h

end Forward

section Backward
variable (q z v : Vec 𝕀 S1x256x384 .f32) (lb : Vec 𝕀 S2x384 .f32) (xs : Vec 𝕀 S3x128x128 .f32) (S : Fin 6 → ℕ → Chunk) (c : ℕ)
  (hlb : ∀ p l, boundsOf lb 1 p (ix2 0 l) ≠ ⊤) (hxs : Carried xs S c)
  (hC : ∀ p d (n : Fin 4), chunk n.rev d (lanesOf q p) (lanesOf z p) (lanesOf v p) (boundsOf lb 1 p) = (S (headOf p d) (c + n.val)).rev)

include hlb hxs hC

/-- The backward outputs of a point. -/
theorem backward_at (n : Fin 4) (p : Fin 3) (d : Fin 2) (r j : Fin 64) :
    View.canon (outsB q z v lb xs) (ix3 0 (row n.rev r.rev) (pairLane p (lane d j))) = outputs (S (headOf p d)) (c + n.val) r j := by
  rw [outsB_at, outB_at n.rev d _ _ _ _ _ _ (hlb p) (hxs p), bwd_states (S (headOf p d)) _ c (hC p d) _ (by omega), hC, Fin.rev_rev,
    Chunk.carry_rev, Chunk.own_rev]
  rfl

/-- The backward state after a point. -/
theorem backward_carried (T : List (View.Piece (Elt 𝕀) S3x128x128 .f32)) : Carried (View.canon (newsB z v lb xs ++ T)) S (c + 4) := by
  intro p
  rw [newsB_at]
  have h := newB_holds (lanesOf q p) (lanesOf z p) (lanesOf v p) (boundsOf lb 1 p) (slabOf xs p) _ (hlb p) (hxs p)
  simpa only [fun d => bwd_states (S (headOf p d)) (chunk · d (lanesOf q p) (lanesOf z p) (lanesOf v p) (boundsOf lb 1 p)) c (hC p d) 4 le_rfl] using h

end Backward

end Cert.KernelIdeal.Blocks

end
-- ==== Proof.Grid.lean ====
/-
  The kernel over its grid: point `17 * b + j` holds the four chunks `4 * j …` of every head of sequence `b` in both
  directions' time, so the scratches carry the recurrence's states and the two results hold the recurrence's outputs.
-/
module

public import proofs.«01_k».proof.Proof.Blocks
public import proofs.«01_k».proof.Proof.Gen.KernelIdeal.Value
public import Idealize.ShloMosaic.Lib.Pipeline.ValueKit

@[expose] public section

set_option maxRecDepth 16384

noncomputable section

namespace Cert.KernelIdeal.Grid

open Idealize.ShloMosaic Idealize.ShloMosaic.TcCoe Idealize.SL.Sem
open Cert.KernelIdeal Cert.KernelIdeal.Gen Cert.KernelIdeal.Block Cert.KernelIdeal.Pieces Cert.KernelIdeal.Read Cert.KernelIdeal.Blocks Cert.Math

local notation "𝕀" => Idealize.ShloMosaic.Ideal

variable (m : (ℓ : Loc nD τ sig) → Buf (Elt 𝕀) ℓ) (ρ : Dev nD → PrngReg) (c : Dev nD)

/-- The projected inputs. -/
abbrev hgOf : Inputs := m ((c : Thread nD τ).loc main_arg0)
/-- The lower bounds. -/
abbrev lbOf : Bounds := m ((c : Thread nD τ).loc main_arg1)

/-- Grid point `j` of sequence `b`. -/
def point (b : Fin 8) (j : Fin 17) : Fin cfg0.N := ⟨17 * b.val + j.val, by have h : cfg0.N = 136 := N_0; omega⟩

theorem exists_point (t : Fin cfg0.N) : ∃ b j, t = point b j := by
  have h := t.isLt
  have hN : cfg0.N = 136 := N_0
  exact ⟨⟨t.val / 17, by omega⟩, ⟨t.val % 17, by omega⟩, Fin.ext (by simp only [point]; omega)⟩

/-- The block of rows that the backward direction meets at point `j`. -/
def back (j : Fin 17) : Fin 17 := ⟨(17 - j.val) % 17, Nat.mod_lt _ (by omega)⟩

/-- Row `R` of block `j`. -/
def blockRow (j : Fin 17) (R : Fin 256) : Fin 4352 := ⟨j.val * 256 + R.val, by omega⟩

theorem idx0 : ∀ (b : Fin 8) (j : Fin 17), win0_0.index (point b j) 0 = b.val ∧ win0_0.index (point b j) 1 = j.val ∧ win0_0.index (point b j) 2 = 0 := by decide +kernel
theorem idx1 : ∀ (b : Fin 8) (j : Fin 17), win0_1.index (point b j) 0 = b.val ∧ win0_1.index (point b j) 1 = j.val ∧ win0_1.index (point b j) 2 = 1 := by decide +kernel
theorem idx2 : ∀ (b : Fin 8) (j : Fin 17), win0_2.index (point b j) 0 = b.val ∧ win0_2.index (point b j) 1 = j.val ∧ win0_2.index (point b j) 2 = 3 := by decide +kernel
theorem idx3 : ∀ (b : Fin 8) (j : Fin 17), win0_3.index (point b j) 0 = b.val ∧ win0_3.index (point b j) 1 = (back j).val ∧ win0_3.index (point b j) 2 = 0 := by decide +kernel
theorem idx4 : ∀ (b : Fin 8) (j : Fin 17), win0_4.index (point b j) 0 = b.val ∧ win0_4.index (point b j) 1 = (back j).val ∧ win0_4.index (point b j) 2 = 2 := by decide +kernel
theorem idx5 : ∀ (b : Fin 8) (j : Fin 17), win0_5.index (point b j) 0 = b.val ∧ win0_5.index (point b j) 1 = (back j).val ∧ win0_5.index (point b j) 2 = 3 := by decide +kernel
theorem idx6 : ∀ (b : Fin 8) (j : Fin 17), win0_6.index (point b j) 0 = 0 ∧ win0_6.index (point b j) 1 = 0 := by decide +kernel
theorem idx7 : ∀ (b : Fin 8) (j : Fin 17), win0_7.index (point b j) 0 = b.val ∧ win0_7.index (point b j) 1 = j.val ∧ win0_7.index (point b j) 2 = 0 := by decide +kernel
theorem idx8 : ∀ (b : Fin 8) (j : Fin 17), win0_8.index (point b j) 0 = b.val ∧ win0_8.index (point b j) 1 = (back j).val ∧ win0_8.index (point b j) 2 = 0 := by decide +kernel

/-- Column `L` of part `a` of the inputs. -/
def partCol (a : Fin 5) (L : Fin 384) : Fin 1920 := ⟨a.val * 384 + L.val, by omega⟩

section Reads
variable (b : Fin 8) (j : Fin 17) (R : Fin 256) (L : Fin 384)

theorem read0 : iblk m c 0 (point b j) (ix3 0 R L) = hgOf m c (ix3 b (blockRow j R) (partCol 0 L)) := by
  have h := idx0 b j
  blk_ext! [iblk, V, h, blockRow, partCol]
theorem read1 : iblk m c 1 (point b j) (ix3 0 R L) = hgOf m c (ix3 b (blockRow j R) (partCol 1 L)) := by
  have h := idx1 b j
  blk_ext! [iblk, V, h, blockRow, partCol]
theorem read2 : iblk m c 2 (point b j) (ix3 0 R L) = hgOf m c (ix3 b (blockRow j R) (partCol 3 L)) := by
  have h := idx2 b j
  blk_ext! [iblk, V, h, blockRow, partCol]
theorem read3 : iblk m c 3 (point b j) (ix3 0 R L) = hgOf m c (ix3 b (blockRow (back j) R) (partCol 0 L)) := by
  have h := idx3 b j
  blk_ext! [iblk, V, h, blockRow, partCol]
theorem read4 : iblk m c 4 (point b j) (ix3 0 R L) = hgOf m c (ix3 b (blockRow (back j) R) (partCol 2 L)) := by
  have h := idx4 b j
  blk_ext! [iblk, V, h, blockRow, partCol]
theorem read5 : iblk m c 5 (point b j) (ix3 0 R L) = hgOf m c (ix3 b (blockRow (back j) R) (partCol 3 L)) := by
  have h := idx5 b j
  blk_ext! [iblk, V, h, blockRow, partCol]
theorem read6 (dir : Fin 2) : iblk m c 6 (point b j) (ix2 dir L) = lbOf m c (ix2 dir L) := by
  have h := idx6 b j
  blk_ext! [iblk, V, h]

/-- Row `R`, lane `L` of the block of result 7 that point `j` of sequence `b` writes, in the array. -/
theorem emb7 : ((cfg0.win 7).blk (point b j)).view.emb (ix3 0 R L) = ix3 b (blockRow j R) L := by
  obtain ⟨h0, h1, h2⟩ := idx7 b j
  funext a
  apply Fin.ext
  match a with
  | ⟨0, _⟩ => show win0_7.index (point b j) 0 * 1 + 1 * 0 = b.val; rw [h0]; omega
  | ⟨1, _⟩ => show win0_7.index (point b j) 1 * 256 + 1 * R.val = j.val * 256 + R.val; rw [h1]; omega
  | ⟨2, _⟩ => show win0_7.index (point b j) 2 * 384 + 1 * L.val = L.val; rw [h2]; omega

theorem emb8 : ((cfg0.win 8).blk (point b j)).view.emb (ix3 0 R L) = ix3 b (blockRow (back j) R) L := by
  obtain ⟨h0, h1, h2⟩ := idx8 b j
  funext a
  apply Fin.ext
  match a with
  | ⟨0, _⟩ => show win0_8.index (point b j) 0 * 1 + 1 * 0 = b.val; rw [h0]; omega
  | ⟨1, _⟩ => show win0_8.index (point b j) 1 * 256 + 1 * R.val = (back j).val * 256 + R.val; rw [h1]; omega
  | ⟨2, _⟩ => show win0_8.index (point b j) 2 * 384 + 1 * L.val = L.val; rw [h2]; omega

theorem result7_at : (dats m 0 c).arrAt 7 cfg0.N (ix3 b (blockRow j R) L) = (outsAt0 m c (point b j).val (point b j).isLt).1 (ix3 0 R L) := by
  have h := congrFun (Value.blocks7 m c (point b j) (flush0_7 _)) (ix3 0 R L)
  rw [View.read_apply, emb7, Value.flushed7] at h
  exact h

theorem result8_at : (dats m 0 c).arrAt 8 cfg0.N (ix3 b (blockRow (back j) R) L) = (outsAt0 m c (point b j).val (point b j).isLt).2.1 (ix3 0 R L) := by
  have h := congrFun (Value.blocks8 m c (point b j) (flush0_8 _)) (ix3 0 R L)
  rw [View.read_apply, emb8, Value.flushed8] at h
  exact h

end Reads

/-! ## What a point stores -/

section Stores
variable (i : grid0.Coords)
  (arg2 : Memref sig .tc .vmem S1x256x384 .f32) (harg2 : arg2.IsWhole)
  (arg3 : Memref sig .tc .vmem S1x256x384 .f32) (harg3 : arg3.IsWhole)
  (arg4 : Memref sig .tc .vmem S1x256x384 .f32) (harg4 : arg4.IsWhole)
  (arg5 : Memref sig .tc .vmem S1x256x384 .f32) (harg5 : arg5.IsWhole)
  (arg6 : Memref sig .tc .vmem S1x256x384 .f32) (harg6 : arg6.IsWhole)
  (arg7 : Memref sig .tc .vmem S1x256x384 .f32) (harg7 : arg7.IsWhole)
  (arg8 : Memref sig .tc .vmem S2x384 .f32) (harg8 : arg8.IsWhole)
  (arg9 : Memref sig .tc .vmem S1x256x384 .f32) (harg9 : arg9.IsWhole)
  (arg10 : Memref sig .tc .vmem S1x256x384 .f32) (harg10 : arg10.IsWhole)
  (arg11 : Memref sig .tc .vmem S3x128x128 .f32) (harg11 : arg11.IsWhole)
  (arg12 : Memref sig .tc .vmem S3x128x128 .f32) (harg12 : arg12.IsWhole)
  (x0 x1 x2 x3 x4 x5 : Vec 𝕀 S1x256x384 .f32) (x6 : Vec 𝕀 S2x384 .f32)

theorem out0_7_A_canon (hc0 : cond0_0 i) :
    out0_A_7 c i arg2 harg2 arg3 harg3 arg4 harg4 arg5 harg5 arg6 harg6 arg7 harg7 arg8 harg8 arg9 harg9 arg10 harg10 arg11 harg11 arg12 harg12 hc0
      x0 x1 x2 x3 x4 x5 x6 = View.canon (outsF x0 x1 x2 x6 zeros) :=
  (View.read_writes_junk_eq_canon VO0_7 _).trans (congrArg View.canon (runA_outsF c i arg2 harg2 arg3 harg3 arg4 harg4 arg5 harg5 arg6 harg6 arg7 harg7 arg8 harg8 arg9 harg9 arg10 harg10 arg11 harg11 arg12 harg12 x0 x1 x2 x3 x4 x5 x6 hc0))
theorem out0_8_A_canon (hc0 : cond0_0 i) :
    out0_A_8 c i arg2 harg2 arg3 harg3 arg4 harg4 arg5 harg5 arg6 harg6 arg7 harg7 arg8 harg8 arg9 harg9 arg10 harg10 arg11 harg11 arg12 harg12 hc0
      x0 x1 x2 x3 x4 x5 x6 = View.canon (outsB x3 x4 x5 x6 zeros) :=
  (View.read_writes_junk_eq_canon VO0_8 _).trans (congrArg View.canon (runA_outsB c i arg2 harg2 arg3 harg3 arg4 harg4 arg5 harg5 arg6 harg6 arg7 harg7 arg8 harg8 arg9 harg9 arg10 harg10 arg11 harg11 arg12 harg12 x0 x1 x2 x3 x4 x5 x6 hc0))
theorem sout0_0_A_canon (hc0 : cond0_0 i) :
    sout0_A_0 c i arg2 harg2 arg3 harg3 arg4 harg4 arg5 harg5 arg6 harg6 arg7 harg7 arg8 harg8 arg9 harg9 arg10 harg10 arg11 harg11 arg12 harg12 hc0
      x0 x1 x2 x3 x4 x5 x6 = View.canon (newsF x1 x2 x6 zeros ++ [⟨sAll, zeros⟩]) :=
  (View.read_writes_junk_eq_canon VS0_0 _).trans (congrArg View.canon (runA_newsF c i arg2 harg2 arg3 harg3 arg4 harg4 arg5 harg5 arg6 harg6 arg7 harg7 arg8 harg8 arg9 harg9 arg10 harg10 arg11 harg11 arg12 harg12 x0 x1 x2 x3 x4 x5 x6 hc0))
theorem sout0_1_A_canon (hc0 : cond0_0 i) :
    sout0_A_1 c i arg2 harg2 arg3 harg3 arg4 harg4 arg5 harg5 arg6 harg6 arg7 harg7 arg8 harg8 arg9 harg9 arg10 harg10 arg11 harg11 arg12 harg12 hc0
      x0 x1 x2 x3 x4 x5 x6 = View.canon (newsB x4 x5 x6 zeros ++ [⟨sAll, zeros⟩]) :=
  (View.read_writes_junk_eq_canon VS0_1 _).trans (congrArg View.canon (runA_newsB c i arg2 harg2 arg3 harg3 arg4 harg4 arg5 harg5 arg6 harg6 arg7 harg7 arg8 harg8 arg9 harg9 arg10 harg10 arg11 harg11 arg12 harg12 x0 x1 x2 x3 x4 x5 x6 hc0))
theorem out0_7_B_canon (hc0 : ¬cond0_0 i) (xs0 xs1 : Vec 𝕀 S3x128x128 .f32) :
    out0_B_7 c i arg2 harg2 arg3 harg3 arg4 harg4 arg5 harg5 arg6 harg6 arg7 harg7 arg8 harg8 arg9 harg9 arg10 harg10 arg11 harg11 arg12 harg12 hc0
      x0 x1 x2 x3 x4 x5 x6 xs0 xs1 = View.canon (outsF x0 x1 x2 x6 xs0) :=
  (View.read_writes_junk_eq_canon VO0_7 _).trans (congrArg View.canon (runB_outsF c i arg2 harg2 arg3 harg3 arg4 harg4 arg5 harg5 arg6 harg6 arg7 harg7 arg8 harg8 arg9 harg9 arg10 harg10 arg11 harg11 arg12 harg12 x0 x1 x2 x3 x4 x5 x6 hc0 xs0 xs1))
theorem out0_8_B_canon (hc0 : ¬cond0_0 i) (xs0 xs1 : Vec 𝕀 S3x128x128 .f32) :
    out0_B_8 c i arg2 harg2 arg3 harg3 arg4 harg4 arg5 harg5 arg6 harg6 arg7 harg7 arg8 harg8 arg9 harg9 arg10 harg10 arg11 harg11 arg12 harg12 hc0
      x0 x1 x2 x3 x4 x5 x6 xs0 xs1 = View.canon (outsB x3 x4 x5 x6 xs1) :=
  (View.read_writes_junk_eq_canon VO0_8 _).trans (congrArg View.canon (runB_outsB c i arg2 harg2 arg3 harg3 arg4 harg4 arg5 harg5 arg6 harg6 arg7 harg7 arg8 harg8 arg9 harg9 arg10 harg10 arg11 harg11 arg12 harg12 x0 x1 x2 x3 x4 x5 x6 hc0 xs0 xs1))
theorem sout0_0_B_canon (hc0 : ¬cond0_0 i) (xs0 xs1 : Vec 𝕀 S3x128x128 .f32) :
    sout0_B_0 c i arg2 harg2 arg3 harg3 arg4 harg4 arg5 harg5 arg6 harg6 arg7 harg7 arg8 harg8 arg9 harg9 arg10 harg10 arg11 harg11 arg12 harg12 hc0
      x0 x1 x2 x3 x4 x5 x6 xs0 xs1 = View.canon (newsF x1 x2 x6 xs0) :=
  (View.read_writes_junk_eq_canon VS0_0 _).trans (congrArg View.canon (runB_newsF c i arg2 harg2 arg3 harg3 arg4 harg4 arg5 harg5 arg6 harg6 arg7 harg7 arg8 harg8 arg9 harg9 arg10 harg10 arg11 harg11 arg12 harg12 x0 x1 x2 x3 x4 x5 x6 hc0 xs0 xs1))
theorem sout0_1_B_canon (hc0 : ¬cond0_0 i) (xs0 xs1 : Vec 𝕀 S3x128x128 .f32) :
    sout0_B_1 c i arg2 harg2 arg3 harg3 arg4 harg4 arg5 harg5 arg6 harg6 arg7 harg7 arg8 harg8 arg9 harg9 arg10 harg10 arg11 harg11 arg12 harg12 hc0
      x0 x1 x2 x3 x4 x5 x6 xs0 xs1 = View.canon (newsB x4 x5 x6 xs1) :=
  (View.read_writes_junk_eq_canon VS0_1 _).trans (congrArg View.canon (runB_newsB c i arg2 harg2 arg3 harg3 arg4 harg4 arg5 harg5 arg6 harg6 arg7 harg7 arg8 harg8 arg9 harg9 arg10 harg10 arg11 harg11 arg12 harg12 x0 x1 x2 x3 x4 x5 x6 hc0 xs0 xs1))

end Stores

theorem first_point (t : Fin cfg0.N) (h0 : t.val % 17 = 0) : outsAt0 m c t.val t.isLt
    = (View.canon (outsF (iblk m c 0 t) (iblk m c 1 t) (iblk m c 2 t) (iblk m c 6 t) zeros), View.canon (outsB (iblk m c 3 t) (iblk m c 4 t) (iblk m c 5 t) (iblk m c 6 t) zeros),
      View.canon (newsF (iblk m c 1 t) (iblk m c 2 t) (iblk m c 6 t) zeros ++ [⟨sAll, zeros⟩]), View.canon (newsB (iblk m c 4 t) (iblk m c 5 t) (iblk m c 6 t) zeros ++ [⟨sAll, zeros⟩])) := by
  rw [outsAt0_A m c t h0]
  rw [out0_7_A_canon, out0_8_A_canon, sout0_0_A_canon, sout0_1_A_canon]

theorem next_point (t : Fin cfg0.N) (h0 : ¬t.val % 17 = 0) (xf xb : Vec 𝕀 S3x128x128 .f32)
    (hf : (outsAt0 m c (t.val - 1) (Nat.lt_of_le_of_lt (Nat.sub_le _ _) t.isLt)).2.2.1 = xf) (hb : (outsAt0 m c (t.val - 1) (Nat.lt_of_le_of_lt (Nat.sub_le _ _) t.isLt)).2.2.2 = xb) :
    outsAt0 m c t.val t.isLt
    = (View.canon (outsF (iblk m c 0 t) (iblk m c 1 t) (iblk m c 2 t) (iblk m c 6 t) xf), View.canon (outsB (iblk m c 3 t) (iblk m c 4 t) (iblk m c 5 t) (iblk m c 6 t) xb),
      View.canon (newsF (iblk m c 1 t) (iblk m c 2 t) (iblk m c 6 t) xf ++ []), View.canon (newsB (iblk m c 4 t) (iblk m c 5 t) (iblk m c 6 t) xb ++ [])) := by
  rw [outsAt0_B m c t h0, hf, hb, List.append_nil, List.append_nil]
  rw [out0_7_B_canon, out0_8_B_canon, sout0_0_B_canon, sout0_1_B_canon]

/-! ## The point's blocks are the sequence's chunks -/

theorem timeRow_fwd (j : Fin 17) (n : Fin 4) (r : Fin 64) : timeRow 0 (Fin.ofNat 68 (4 * j.val + n.val)) r = blockRow j (row n r) := by
  apply Fin.ext
  have : (4 * j.val + n.val) % 68 = 4 * j.val + n.val := Nat.mod_eq_of_lt (by omega)
  simp only [timeRow, blockRow, row, Fin.ofNat, this, if_true]
  omega

theorem timeRow_bwd (j : Fin 17) (n : Fin 4) (r : Fin 64) : timeRow 1 (Fin.ofNat 68 (4 * j.val + n.val)) r = blockRow (back j) (row n.rev r.rev) := by
  apply Fin.ext
  have : (4 * j.val + n.val) % 68 = 4 * j.val + n.val := Nat.mod_eq_of_lt (by omega)
  simp only [timeRow, blockRow, row, Fin.ofNat, this, back, Fin.rev]
  rw [if_neg (by decide)]
  by_cases h : j.val = 0
  · rw [dif_pos (by omega)]; simp only [h]; omega
  · rw [dif_neg (by omega)]
    have : (17 - j.val) % 17 = 17 - j.val := Nat.mod_eq_of_lt (by omega)
    simp only [this]; omega

theorem partCol_pair (a : Fin 5) (p : Fin 3) (d : Fin 2) (i : Fin 64) : partCol a (pairLane p (lane d i)) = col a (headOf p d) i := by
  apply Fin.ext; simp only [partCol, pairLane, lane, col, headOf]; omega
theorem pairLane_head (p : Fin 3) (d : Fin 2) (i : Fin 64) : pairLane p (lane d i) = headLane (headOf p d) i := by
  apply Fin.ext; simp only [pairLane, lane, headLane, headOf]; omega

theorem chunk_fwd (b : Fin 8) (j : Fin 17) (p : Fin 3) (d : Fin 2) (n : Fin 4) :
    chunk n d (lanesOf (iblk m c 0 (point b j)) p) (lanesOf (iblk m c 1 (point b j)) p) (lanesOf (iblk m c 2 (point b j)) p) (boundsOf (iblk m c 6 (point b j)) 0 p)
      = seq (hgOf m c) (lbOf m c) 0 b (headOf p d) (4 * j.val + n.val) := by
  unfold chunk seq forget
  simp only [timeRow_fwd]
  have e0 : ∀ r i, lanesOf (iblk m c 0 (point b j)) p (ix3 0 (row n r) (lane d i)) = hgOf m c (ix3 b (blockRow j (row n r)) (col 0 (headOf p d) i)) :=
    fun r i => (read0 m c b j (row n r) (pairLane p (lane d i))).trans (by rw [partCol_pair])
  have e1 : ∀ r i, lanesOf (iblk m c 1 (point b j)) p (ix3 0 (row n r) (lane d i)) = hgOf m c (ix3 b (blockRow j (row n r)) (col 1 (headOf p d) i)) :=
    fun r i => (read1 m c b j (row n r) (pairLane p (lane d i))).trans (by rw [partCol_pair])
  have e2 : ∀ r i, lanesOf (iblk m c 2 (point b j)) p (ix3 0 (row n r) (lane d i)) = hgOf m c (ix3 b (blockRow j (row n r)) (col 3 (headOf p d) i)) :=
    fun r i => (read2 m c b j (row n r) (pairLane p (lane d i))).trans (by rw [partCol_pair])
  have e6 : ∀ i, boundsOf (iblk m c 6 (point b j)) 0 p (ix2 0 (lane d i)) = lbOf m c (ix2 0 (headLane (headOf p d) i)) :=
    fun i => (read6 m c b j (pairLane p (lane d i)) 0).trans (by rw [pairLane_head])
  simp only [e0, e1, e2, e6, if_true]

theorem chunk_bwd (b : Fin 8) (j : Fin 17) (p : Fin 3) (d : Fin 2) (n : Fin 4) :
    chunk n.rev d (lanesOf (iblk m c 3 (point b j)) p) (lanesOf (iblk m c 4 (point b j)) p) (lanesOf (iblk m c 5 (point b j)) p) (boundsOf (iblk m c 6 (point b j)) 1 p)
      = (seq (hgOf m c) (lbOf m c) 1 b (headOf p d) (4 * j.val + n.val)).rev := by
  unfold chunk seq forget Chunk.rev
  simp only [timeRow_bwd, Fin.rev_rev]
  have e0 : ∀ r i, lanesOf (iblk m c 3 (point b j)) p (ix3 0 (row n.rev r) (lane d i)) = hgOf m c (ix3 b (blockRow (back j) (row n.rev r)) (col 0 (headOf p d) i)) :=
    fun r i => (read3 m c b j (row n.rev r) (pairLane p (lane d i))).trans (by rw [partCol_pair])
  have e1 : ∀ r i, lanesOf (iblk m c 4 (point b j)) p (ix3 0 (row n.rev r) (lane d i)) = hgOf m c (ix3 b (blockRow (back j) (row n.rev r)) (col 2 (headOf p d) i)) :=
    fun r i => (read4 m c b j (row n.rev r) (pairLane p (lane d i))).trans (by rw [partCol_pair])
  have e2 : ∀ r i, lanesOf (iblk m c 5 (point b j)) p (ix3 0 (row n.rev r) (lane d i)) = hgOf m c (ix3 b (blockRow (back j) (row n.rev r)) (col 3 (headOf p d) i)) :=
    fun r i => (read5 m c b j (row n.rev r) (pairLane p (lane d i))).trans (by rw [partCol_pair])
  have e6 : ∀ i, boundsOf (iblk m c 6 (point b j)) 1 p (ix2 0 (lane d i)) = lbOf m c (ix2 1 (headLane (headOf p d) i)) :=
    fun i => (read6 m c b j (pairLane p (lane d i)) 1).trans (by rw [pairLane_head])
  simp only [e0, e1, e2, e6, if_neg (show ¬(1 : Fin 2) = 0 by decide)]

/-! ## Along the points of a sequence -/

section Run
variable (hlb : ∀ y, lbOf m c y ≠ ⊤)
include hlb

theorem bounds_ne_top (b : Fin 8) (j : Fin 17) (dir : Fin 2) (p : Fin 3) (l : Fin 128) : boundsOf (iblk m c 6 (point b j)) dir p (ix2 0 l) ≠ ⊤ := by
  rw [show boundsOf (iblk m c 6 (point b j)) dir p (ix2 0 l) = lbOf m c (ix2 dir (pairLane p l)) from read6 m c b j (pairLane p l) dir]
  exact hlb _

/-- Before point `j` of a sequence there are states that hold the recurrence's, over which the point stores what it stores. -/
theorem point_eq (b : Fin 8) : ∀ (k : ℕ) (hk : k < 17), ∃ xf xb T U,
    Carried xf (seq (hgOf m c) (lbOf m c) 0 b) (4 * k) ∧ Carried xb (seq (hgOf m c) (lbOf m c) 1 b) (4 * k) ∧
    outsAt0 m c (point b ⟨k, hk⟩).val (point b ⟨k, hk⟩).isLt
      = (View.canon (outsF (iblk m c 0 (point b ⟨k, hk⟩)) (iblk m c 1 (point b ⟨k, hk⟩)) (iblk m c 2 (point b ⟨k, hk⟩)) (iblk m c 6 (point b ⟨k, hk⟩)) xf),
        View.canon (outsB (iblk m c 3 (point b ⟨k, hk⟩)) (iblk m c 4 (point b ⟨k, hk⟩)) (iblk m c 5 (point b ⟨k, hk⟩)) (iblk m c 6 (point b ⟨k, hk⟩)) xb),
        View.canon (newsF (iblk m c 1 (point b ⟨k, hk⟩)) (iblk m c 2 (point b ⟨k, hk⟩)) (iblk m c 6 (point b ⟨k, hk⟩)) xf ++ T),
        View.canon (newsB (iblk m c 4 (point b ⟨k, hk⟩)) (iblk m c 5 (point b ⟨k, hk⟩)) (iblk m c 6 (point b ⟨k, hk⟩)) xb ++ U))
  | 0, hk => ⟨zeros, zeros, _, _, carried_zeros _, carried_zeros _, first_point m c _ (by simp [point])⟩
  | k + 1, hk => by
    obtain ⟨xf, xb, T, U, hf, hb, e⟩ := point_eq b k (by omega)
    refine ⟨_, _, [], [], ?_, ?_, next_point m c (point b ⟨k + 1, hk⟩) (by simp only [point]; omega) _ _
      (congrArg (·.2.2.1) e) (congrArg (·.2.2.2) e)⟩
    · exact forward_carried _ _ _ _ xf _ (4 * k) (bounds_ne_top m c hlb b ⟨k, by omega⟩ 0) hf (chunk_fwd m c b ⟨k, by omega⟩) T
    · exact backward_carried _ _ _ _ xb _ (4 * k) (bounds_ne_top m c hlb b ⟨k, by omega⟩ 1) hb (chunk_bwd m c b ⟨k, by omega⟩) U

omit hlb in
/-- Every chunk is one of the four of a point, -/
theorem chunk_of (k : Fin 68) : ∃ (j : Fin 17) (n : Fin 4), k = Fin.ofNat 68 (4 * j.val + n.val) ∧ k.val = 4 * j.val + n.val :=
  ⟨⟨k.val / 4, by omega⟩, ⟨k.val % 4, by omega⟩, Fin.ext (by simp only [Fin.ofNat]; omega), by dsimp only; omega⟩

omit hlb in
/-- and every head one of the two of a pair. -/
theorem head_of (h : Fin 6) : ∃ p d, h = headOf p d :=
  ⟨⟨h.val / 2, by omega⟩, ⟨h.val % 2, by omega⟩, Fin.ext (by simp only [headOf]; omega)⟩

theorem forward_point (b : Fin 8) (j : Fin 17) (n : Fin 4) (p : Fin 3) (d : Fin 2) (r i : Fin 64) :
    (dats m 0 c).arrAt 7 cfg0.N (ix3 b (blockRow j (row n r)) (pairLane p (lane d i))) = outputs (seq (hgOf m c) (lbOf m c) 0 b (headOf p d)) (4 * j.val + n.val) r i := by
  obtain ⟨xf, xb, T, U, hf, hb, eq⟩ := point_eq m c hlb b j.val j.isLt
  refine (result7_at m c b j (row n r) (pairLane p (lane d i))).trans ?_
  rw [show (⟨j.val, j.isLt⟩ : Fin 17) = j from rfl] at eq
  rw [eq]
  exact forward_at _ _ _ _ xf _ (4 * j.val) (bounds_ne_top m c hlb b j 0) hf (chunk_fwd m c b j) n p d r i

/-- The first result: the outputs of the forward recurrence. -/
theorem forward (b : Fin 8) (h : Fin 6) (k : Fin 68) (r i : Fin 64) :
    (dats m 0 c).arrAt 7 cfg0.N (ix3 b (timeRow 0 k r) (headLane h i)) = outputs (seq (hgOf m c) (lbOf m c) 0 b h) k.val r i := by
  obtain ⟨j, n, e, ev⟩ := chunk_of k
  obtain ⟨p, d, rfl⟩ := head_of h
  rw [ev, show timeRow 0 k r = blockRow j (row n r) from (congrArg (timeRow 0 · r) e).trans (timeRow_fwd j n r), ← pairLane_head]
  exact forward_point m c hlb b j n p d r i

theorem backward_point (b : Fin 8) (j : Fin 17) (n : Fin 4) (p : Fin 3) (d : Fin 2) (r i : Fin 64) :
    (dats m 0 c).arrAt 8 cfg0.N (ix3 b (blockRow (back j) (row n.rev r.rev)) (pairLane p (lane d i))) = outputs (seq (hgOf m c) (lbOf m c) 1 b (headOf p d)) (4 * j.val + n.val) r i := by
  obtain ⟨xf, xb, T, U, hf, hb, eq⟩ := point_eq m c hlb b j.val j.isLt
  refine (result8_at m c b j (row n.rev r.rev) (pairLane p (lane d i))).trans ?_
  rw [show (⟨j.val, j.isLt⟩ : Fin 17) = j from rfl] at eq
  rw [eq]
  exact backward_at _ _ _ _ xb _ (4 * j.val) (bounds_ne_top m c hlb b j 1) hb (chunk_bwd m c b j) n p d r i

/-- The second result: the outputs of the backward recurrence. -/
theorem backward (b : Fin 8) (h : Fin 6) (k : Fin 68) (r i : Fin 64) :
    (dats m 0 c).arrAt 8 cfg0.N (ix3 b (timeRow 1 k r) (headLane h i)) = outputs (seq (hgOf m c) (lbOf m c) 1 b h) k.val r i := by
  obtain ⟨j, n, e, ev⟩ := chunk_of k
  obtain ⟨p, d, rfl⟩ := head_of h
  rw [ev, show timeRow 1 k r = blockRow (back j) (row n.rev r.rev) from (congrArg (timeRow 1 · r) e).trans (timeRow_bwd j n r), ← pairLane_head]
  exact backward_point m c hlb b j n p d r i

end Run

end Cert.KernelIdeal.Grid

end
-- ==== Proof.Cumsum.lean ====
/-
  The reference's running sum: a window sum of 64 rows that ends at the row, read as the sum of the rows up to it.
-/
module

public import proofs.«01_k».proof.Proof.Math
public import proofs.«01_k».proof.Proof.Gen.ReferenceIdeal.Step
public import Idealize.ShloMosaic.Lib.Pointwise

@[expose] public section

set_option maxRecDepth 16384

noncomputable section

namespace Cert.ReferenceIdeal.Cumsum

open Idealize.ShloMosaic Cert.ReferenceIdeal Cert.ReferenceIdeal.Gen Cert.Math

local notation "𝕀" => Idealize.ShloMosaic.Ideal

/-- Adding the elements of a list one after the other is adding their sum. -/
theorem foldl_add {α : Type} (g : α → EReal) : ∀ (l : List α) (v : EReal), l.foldl (fun r n => r + g n) v = v + (l.map g).sum
  | [], v => by simp
  | a :: l, v => by rw [List.foldl_cons, foldl_add g l, List.map_cons, List.sum_cons, add_assoc]

/-- A sum over the window's positions is a sum over its 64 rows. -/
theorem sum_window (G : (⟨4, ![1, 1, 64, 1]⟩ : Shape).Idx → EReal) : ∑ w, G w = ∑ n : Fin 64, G (ix4 0 0 n 0) := by
  rw [sum_idx4]
  simp

/-- The window's rows, in the order of the rows they meet. -/
theorem sum_shift (t : Fin 64) (f : Fin 64 → EReal) :
    (∑ n : Fin 64, if h : 63 ≤ t.val + n.val then f ⟨t.val + n.val - 63, by omega⟩ else 0) = ∑ s, if upTo s t = true then f s else 0 := by
  have e : 63 - t.val < 64 := by omega
  rw [← Equiv.sum_comp (Equiv.addRight (⟨63 - t.val, e⟩ : Fin 64))]
  refine Finset.sum_congr rfl fun s _ => ?_
  have hv : ((Equiv.addRight (⟨63 - t.val, e⟩ : Fin 64)) s).val = (s.val + (63 - t.val)) % 64 := by simp [Fin.val_add]
  by_cases h : s ≤ t
  · have h' : s.val ≤ t.val := h
    rw [dif_pos (by rw [hv]; omega), if_pos (by simpa [upTo] using h)]
    exact congrArg f (Fin.ext (by simp only [hv]; omega))
  · have h' : ¬s.val ≤ t.val := h
    rw [dif_neg (by rw [hv]; omega), if_neg (by simpa [upTo] using h)]

/-- What the window's position `w` adds to the running sum at row `t`: the element it meets, if it meets one. -/
def met (x : FVec 𝕀 S16x6x64x64 .f32) (y : S16x6x64x64.Idx) (w : (⟨4, ![1, 1, 64, 1]⟩ : Shape).Idx) : EReal :=
  if hin : ∀ a : Fin 4, (![0, 0, 63, 0] : Fin 4 → Nat) a ≤ (y a).val * (![1, 1, 1, 1] : Fin 4 → Nat) a + (w a).val
      ∧ (y a).val * (![1, 1, 1, 1] : Fin 4 → Nat) a + (w a).val - (![0, 0, 63, 0] : Fin 4 → Nat) a < S16x6x64x64.size a
    then x (fun a => ⟨(y a).val * (![1, 1, 1, 1] : Fin 4 → Nat) a + (w a).val - (![0, 0, 63, 0] : Fin 4 → Nat) a, (hin a).2⟩) else 0

theorem met_at (x : FVec 𝕀 S16x6x64x64 .f32) (b : Fin 16) (h : Fin 6) (t i n : Fin 64) :
    met x (ix4 b h t i) (ix4 0 0 n 0) = if hn : 63 ≤ t.val + n.val then x (ix4 b h ⟨t.val + n.val - 63, by omega⟩ i) else 0 := by
  unfold met
  by_cases hn : 63 ≤ t.val + n.val
  · rw [dif_pos hn, dif_pos]
    · congr 1
      funext a
      apply Fin.ext
      fin_cases a <;> simp [ix4]
    · intro a
      fin_cases a <;> simp [ix4] <;> omega
  · rw [dif_neg hn, dif_neg]
    intro H
    have := (H 2).1
    simp [ix4] at this
    omega

/-- The running sum at a row is the sum of the rows up to it. -/
theorem cumsum_at (x : FVec 𝕀 S16x6x64x64 .f32) (z : FVec 𝕀 S_ .f32) (hz : z (Shape.Idx.first h_S_) = 0) (b : Fin 16) (h : Fin 6) (t i : Fin 64) :
    Host.reduceWindowAdd ![1, 1, 64, 1] ![1, 1, 1, 1] ![0, 0, 63, 0] ![0, 0, 0, 0] x z
      reduceWindows_S16x6x64x64_S16x6x64x64_w1s1p0_0_w1s1p0_0_w64s1p63_0_w1s1p0_0 h_S_ (ix4 b h t i)
      = ∑ s, if upTo s t = true then x (ix4 b h s i) else 0 := by
  unfold Host.reduceWindowAdd
  rw [Ideal.hostReduceWindowAdd_def, hz]
  unfold Ideal.hostReduceWindowAdd Host.reduceWindow
  dsimp only
  rw [foldl_add, zero_add, ← Fin.sum_univ_def]
  refine (Finset.sum_congr rfl fun n _ => show _ = met x (ix4 b h t i) ((⟨4, ![1, 1, 64, 1]⟩ : Shape).rowMajor.symm n) from ?_).trans ?_
  · unfold met
    exact dite_congr rfl (fun _ => rfl) fun _ => rfl
  rw [Equiv.sum_comp (⟨4, ![1, 1, 64, 1]⟩ : Shape).rowMajor.symm (met x (ix4 b h t i)), sum_window]
  simp only [met_at]
  exact sum_shift t fun s => x (ix4 b h s i)

end Cert.ReferenceIdeal.Cumsum

end
-- ==== Proof.Trip.lean ====
/-
  One trip of the reference's scan read at an index: the outputs it stores and the state it carries on are the recurrence's.
-/
module

public import proofs.«01_k».proof.Proof.Cumsum
public import proofs.«01_k».proof.Proof.Seq

@[expose] public section

set_option maxRecDepth 16384

noncomputable section

namespace Cert.ReferenceIdeal.Trip

open Idealize.ShloMosaic Cert.ReferenceIdeal Cert.ReferenceIdeal.Gen Cert.ReferenceIdeal.Step Cert.ReferenceIdeal.Cumsum Cert.Math

local notation "𝕀" => Idealize.ShloMosaic.Ideal

/-- Chunk `j` of head `h` of batch row `b`, as the scan's stacks hold it. -/
def chunkOf (s : State 𝕀) (j : Fin 68) (b : Fin 16) (h : Fin 6) : Chunk where
  q r i := s.main_v87_0 (ix5 j b h r i)
  k r i := s.main_v87_1 (ix5 j b h r i)
  g r i := s.main_v87_3 (ix5 j b h r i)
  v r i := s.main_v87_2 (ix5 j b h r i)

/-- The carried state of a head. -/
def stateOf (s : State 𝕀) (b : Fin 16) (h : Fin 6) (i j : Fin 64) : EReal := s.main_v87_6 (ix4 b h i j)

/-- The start indices of the trip's slices: its number on the stacks' first axis, zero on the others. -/
abbrev starts (c : Fin 68) (k : Fin 5) : Int :=
  BitVec.toInt ((![constantI S_ 32 (BitVec.ofNat 32 c.val), constantI S_ 32 0#32, constantI S_ 32 0#32, constantI S_ 32 0#32, constantI S_ 32 0#32]
    : Fin 5 → IVec S_ 32) k (Shape.Idx.first h_S_))

theorem start0 (c : Fin 68) (h : S1x16x6x64x64.rank = S68x16x6x64x64.rank) : Host.clampedStart S68x16x6x64x64 S1x16x6x64x64 h (starts c) 0 = c.val :=
  Host.clampedStart_of_le h _ 0 c.val ((by decide +kernel : ∀ c : Fin 68, (BitVec.ofNat 32 c.val).toInt = c.val) c) (by show c.val + 1 ≤ 68; omega)
theorem start1 (c : Fin 68) (h : S1x16x6x64x64.rank = S68x16x6x64x64.rank) : Host.clampedStart S68x16x6x64x64 S1x16x6x64x64 h (starts c) 1 = 0 :=
  Host.clampedStart_of_le h _ 1 0 rfl (by show 0 + 16 ≤ 16; omega)
theorem start2 (c : Fin 68) (h : S1x16x6x64x64.rank = S68x16x6x64x64.rank) : Host.clampedStart S68x16x6x64x64 S1x16x6x64x64 h (starts c) 2 = 0 :=
  Host.clampedStart_of_le h _ 2 0 rfl (by show 0 + 6 ≤ 6; omega)
theorem start3 (c : Fin 68) (h : S1x16x6x64x64.rank = S68x16x6x64x64.rank) : Host.clampedStart S68x16x6x64x64 S1x16x6x64x64 h (starts c) 3 = 0 :=
  Host.clampedStart_of_le h _ 3 0 rfl (by show 0 + 64 ≤ 64; omega)
theorem start4 (c : Fin 68) (h : S1x16x6x64x64.rank = S68x16x6x64x64.rank) : Host.clampedStart S68x16x6x64x64 S1x16x6x64x64 h (starts c) 4 = 0 :=
  Host.clampedStart_of_le h _ 4 0 rfl (by show 0 + 64 ≤ 64; omega)

section
variable (s : State 𝕀) (c : Fin 68) (b : Fin 16) (h : Fin 6) (r i j : Fin 64)

theorem q_at : b5 c.val s (ix4 b h r i) = (chunkOf s c b h).q r i := by
  pointwise [b5, b4, b0, b1, b2, b3, chunkOf]
  simp only [start0, start1, start2, start3, start4, zero_add]
theorem k_at : b11 c.val s (ix4 b h r i) = (chunkOf s c b h).k r i := by
  pointwise [b11, b10, b6, b7, b8, b9, chunkOf]
  simp only [start0, start1, start2, start3, start4, zero_add]
theorem v_at : b17 c.val s (ix4 b h r i) = (chunkOf s c b h).v r i := by
  pointwise [b17, b16, b12, b13, b14, b15, chunkOf]
  simp only [start0, start1, start2, start3, start4, zero_add]
theorem g_at : b23 c.val s (ix4 b h r i) = (chunkOf s c b h).g r i := by
  pointwise [b23, b22, b18, b19, b20, b21, chunkOf]
  simp only [start0, start1, start2, start3, start4, zero_add]

/-- The running sums. -/
theorem sums_at : b26 c.val s (ix4 b h r i) = (chunkOf s c b h).b upTo r i := by
  unfold b26
  refine (cumsum_at _ _ ?_ b h r i).trans ?_
  · unfold b25 b24
    generalize Shape.Idx.first h_S_ = y
    pointwise
  · simp only [g_at]
    rfl

/-- The mask of the rows up to a row. -/
theorem mask_at (t s : Fin 64) : K_main_v76 (F := 𝕀) (ix2 t s) = BitVec.ofBool (upTo s t) := by
  pointwise [K_main_v76, K_main_v75, K_main_v74, K_main_v73, K_main_v72, K_main_v71]
  revert t s
  decide +kernel

/-- The masked decay. -/
theorem decay (t s : Fin 64) (x : EReal) : Ideal.exp (Scalar.select (K_main_v76 (F := 𝕀) (ix2 t s)) x (Ideal.ofBits FTy.f32 0xFF800000#32))
    = if upTo s t = true then Ideal.exp x else 0 := by
  rw [mask_at, show Ideal.ofBits FTy.f32 0xFF800000#32 = ⊥ from rfl]
  cases upTo s t
  · exact Ideal.exp_bot
  · rfl

theorem carry_at : b29 c.val s (ix4 b h r j) = (chunkOf s c b h).carry upTo (stateOf s b h) r j := by
  pointwise [b29, b28, b27]
  simp only [q_at, sums_at]
  rfl

theorem own_at : b50 c.val s (ix4 b h r j) = (chunkOf s c b h).own upTo r j := by
  pointwise [b50, b49, b48, b47, b46, b45, b44, b43, b42, b41, b40, b39, b38, b37, b36, b35, b34, b33, b32, b31, b30]
  simp only [q_at, k_at, v_at, sums_at, decay]
  rfl

/-- The outputs. -/
theorem outputs_at : b51 c.val s (ix4 b h r j) = (chunkOf s c b h).carry upTo (stateOf s b h) r j + (chunkOf s c b h).own upTo r j := by
  rw [← carry_at, ← own_at]
  pointwise [b51]

/-- The state handed on. -/
theorem next_at : b63 c.val s (ix4 b h i j) = (chunkOf s c b h).next upTo 63 (stateOf s b h) i j := by
  pointwise [b63, b62, b61, b60, b59, b58, b57, b56, b55, b54, b53, b52]
  simp only [k_at, v_at, sums_at]
  rfl

/-- The stack of outputs after the trip: the trip's own slab, and the others as they were. -/
theorem stack_at (c' : Fin 68) : b69 c.val s (ix5 c' b h r j) = if c' = c then b51 c.val s (ix4 b h r j) else s.main_v87_7 (ix5 c' b h r j) := by
  pointwise [b69, b64, b65, b66, b67, b68]
  simp only [start0, start1, start2, start3, start4, Nat.sub_zero]
  by_cases e : c' = c
  · subst e
    rw [if_pos rfl, dif_pos (by omega)]
  · rw [if_neg e, dif_neg (fun H => e (Fin.ext (by omega)))]

end

end Cert.ReferenceIdeal.Trip

end
-- ==== Proof.Stacks.lean ====
/-
  The arrays around the reference's scan read at an index: the stacks it starts from hold the chunks of the two directions'
  sequences, the forward direction's in batch rows 0 to 7 and the backward direction's in rows 8 to 15, and the results are
  read back from its stack of outputs in the same order.
-/
module

public import proofs.«01_k».proof.Proof.Trip

@[expose] public section

set_option maxRecDepth 16384

noncomputable section

namespace Cert.ReferenceIdeal.Stacks

open Idealize.ShloMosaic Cert.ReferenceIdeal Cert.ReferenceIdeal.Gen Cert.ReferenceIdeal.Step Cert.ReferenceIdeal.Trip Cert.Math

local notation "𝕀" => Idealize.ShloMosaic.Ideal

/-- The batch row of the scan that holds sequence `b` in a direction. -/
def batch (dir : Fin 2) (b : Fin 8) : Fin 16 := ⟨dir.val * 8 + b.val, by omega⟩

/-- The row that the backward direction meets at its time `t`. -/
def flip (t : Fin 4352) : Fin 4352 := if h : t.val < 256 then ⟨255 - t.val, by omega⟩ else ⟨4607 - t.val, by omega⟩

/-- The time of row `r` of chunk `c`. -/
def time (c : Fin 68) (r : Fin 64) : Fin 4352 := ⟨c.val * 64 + r.val, by omega⟩

theorem timeRow_zero (c : Fin 68) (r : Fin 64) : timeRow 0 c r = time c r := rfl

theorem timeRow_one (c : Fin 68) (r : Fin 64) : timeRow 1 c r = flip (time c r) := by
  unfold timeRow flip time
  apply Fin.ext
  rw [if_neg (by decide)]
  have hr := r.isLt
  dsimp only
  split <;> split <;> dsimp only <;> omega

theorem flip_flip (t : Fin 4352) : flip (flip t) = t := by
  have ht := t.isLt
  apply Fin.ext
  by_cases h : t.val < 256
  · have h' : 255 - t.val < 256 := by omega
    simp only [flip, h, h', dif_pos]
    omega
  · have h' : ¬ 4607 - t.val < 256 := by omega
    simp only [flip, h, h', dif_neg, not_false_eq_true]
    omega

/-- A sequence's rows in the order in which the backward direction meets them. -/
def flips (x : FVec 𝕀 S8x4352x6x64 .f32) : FVec 𝕀 S8x4352x6x64 .f32 :=
  concatenate S8x4352x6x64 1 [⟨S8x256x6x64, Host.reverse [1] (extractStridedSlice S8x256x6x64 ![0, 0, 0, 0] x slices_S8x4352x6x64_S8x256x6x64_0_0_0_0)⟩,
    ⟨S8x4096x6x64, Host.reverse [1] (extractStridedSlice S8x4096x6x64 ![0, 256, 0, 0] x slices_S8x4352x6x64_S8x4096x6x64_0_256_0_0)⟩]
    concatenates_S8x256x6x64_S8x4096x6x64_S8x4352x6x64_d1

/-- The two directions one above the other on the batch axis, cut into chunks. -/
def stack (x y : FVec 𝕀 S8x4352x6x64 .f32) : FVec 𝕀 S68x16x6x64x64 .f32 :=
  transpose S68x16x6x64x64 [1, 0, 3, 2, 4]
    (shapeCast S16x68x64x6x64
      (concatenate S16x4352x6x64 0 [⟨S8x4352x6x64, x⟩, ⟨S8x4352x6x64, flips y⟩] concatenates_S8x4352x6x64_S8x4352x6x64_S16x4352x6x64_d0)
      shapeCasts_S16x4352x6x64_S16x68x64x6x64)
    transposes_S16x68x64x6x64_S68x16x6x64x64_1_0_3_2_4

section
variable (x y : FVec 𝕀 S8x4352x6x64 .f32) (z : FVec 𝕀 S16x4352x6x64 .f32) (w : FVec 𝕀 S16x68x64x6x64 .f32)
  (c : Fin 68) (b : Fin 8) (b' : Fin 16) (h : Fin 6) (r i : Fin 64) (t : Fin 4352)

theorem flips_at : flips x (ix4 b t h i) = x (ix4 b (flip t) h i) := by
  pointwise [flips]
  unfold flip
  split
  · refine congrArg x (congrArg (fun k : Fin 4352 => ix4 b k h i) (Fin.ext ?_))
    show 256 - (t.val + 1) = 255 - t.val
    omega
  · refine congrArg x (congrArg (fun k : Fin 4352 => ix4 b k h i) (Fin.ext ?_))
    show 256 + (4096 - (t.val - 256 + 1)) = 4607 - t.val
    omega

theorem cut_at : shapeCast S16x68x64x6x64 z shapeCasts_S16x4352x6x64_S16x68x64x6x64 (ix5 b' c r h i) = z (ix4 b' (time c r) h i) := by
  pointwise [time]

theorem turn_at : transpose S68x16x6x64x64 [1, 0, 3, 2, 4] w transposes_S16x68x64x6x64_S68x16x6x64x64_1_0_3_2_4 (ix5 c b' h r i) = w (ix5 b' c r h i) := by
  pointwise

theorem pair_at (dir : Fin 2) :
    concatenate S16x4352x6x64 0 [⟨S8x4352x6x64, x⟩, ⟨S8x4352x6x64, y⟩] concatenates_S8x4352x6x64_S8x4352x6x64_S16x4352x6x64_d0 (ix4 (batch dir b) t h i)
      = (if dir = 0 then x else y) (ix4 b t h i) := by
  pointwise [batch]
  match dir with
  | 0 => simp
  | 1 => simp

/-- The stack at an index, by direction. -/
theorem stack_at (dir : Fin 2) : stack x y (ix5 c (batch dir b) h r i) = (if dir = 0 then x else y) (ix4 b (timeRow dir c r) h i) := by
  refine (turn_at _ c (batch dir b) h r i).trans ((cut_at _ c (batch dir b) h r i).trans ((pair_at x (flips y) b h i _ dir).trans ?_))
  match dir with
  | 0 => rfl
  | 1 => exact (flips_at y b h i _).trans (by rw [timeRow_one]; rfl)
end

section
variable (hg : Inputs) (lb : Bounds) (c : Fin 68) (b : Fin 8) (h : Fin 6) (r i j : Fin 64) (t : Fin 4352)

theorem q_at : A_main_v45 (F := 𝕀) hg lb (ix4 b t h i) = hg (ix3 b t (col 0 h i)) := by
  pointwise [A_main_v45, A_main_v0, col]

theorem v_at : A_main_v46 (F := 𝕀) hg lb (ix4 b t h i) = hg (ix3 b t (col 3 h i)) := by
  pointwise [A_main_v46, A_main_v3, col]

theorem f_at : A_main_v21 (F := 𝕀) hg lb (ix4 b t h i) = forget hg lb 0 b h t i := by
  pointwise [A_main_v21, A_main_v20, A_main_v19, A_main_v18, A_main_v17, A_main_v16, A_main_v15, A_main_v14, A_main_v12, A_main_v10, A_main_v9,
    A_main_v8, A_main_v6, A_main_v5, A_main_v1, K_main_v7, K_main_v11, K_main_v13, K_main_cst, K_main_cst_0, K_main_cst_1, forget, col, headLane, Ideal.logistic]

theorem f_at' : A_main_v41 (F := 𝕀) hg lb (ix4 b t h i) = forget hg lb 1 b h t i := by
  pointwise [A_main_v41, A_main_v40, A_main_v39, A_main_v38, A_main_v37, A_main_v36, A_main_v35, A_main_v34, A_main_v32, A_main_v30, A_main_v29,
    A_main_v28, A_main_v26, A_main_v25, A_main_v2, K_main_v27, K_main_v31, K_main_v33, K_main_cst_3, K_main_cst_4, K_main_cst_5, forget, col, headLane, Ideal.logistic]

theorem g_at : A_main_v22 (F := 𝕀) hg lb (ix4 b t h i) = Ideal.log (forget hg lb 0 b h t i) := by
  rw [← f_at]; pointwise [A_main_v22]

theorem g_at' : A_main_v42 (F := 𝕀) hg lb (ix4 b t h i) = Ideal.log (forget hg lb 1 b h t i) := by
  rw [← f_at']; pointwise [A_main_v42]

theorem k_at : A_main_v24 (F := 𝕀) hg lb (ix4 b t h i) = 1 - forget hg lb 0 b h t i := by
  rw [← f_at]; pointwise [A_main_v24, K_main_v23, K_main_cst_2]

theorem k_at' : A_main_v44 (F := 𝕀) hg lb (ix4 b t h i) = 1 - forget hg lb 1 b h t i := by
  rw [← f_at']; pointwise [A_main_v44, K_main_v43, K_main_cst_6]

theorem stack_q : A_main_v79 (F := 𝕀) hg lb = stack (A_main_v45 (F := 𝕀) hg lb) (A_main_v45 (F := 𝕀) hg lb) := rfl
theorem stack_k : A_main_v81 (F := 𝕀) hg lb = stack (A_main_v24 (F := 𝕀) hg lb) (A_main_v44 (F := 𝕀) hg lb) := rfl
theorem stack_v : A_main_v83 (F := 𝕀) hg lb = stack (A_main_v46 (F := 𝕀) hg lb) (A_main_v46 (F := 𝕀) hg lb) := rfl
theorem stack_g : A_main_v85 (F := 𝕀) hg lb = stack (A_main_v22 (F := 𝕀) hg lb) (A_main_v42 (F := 𝕀) hg lb) := rfl

/-- The scan starts from the two directions' sequences. -/
theorem init_chunk (dir : Fin 2) : chunkOf (init (F := 𝕀) hg lb) c (batch dir b) h = seq hg lb dir b h c.val := by
  have e : Fin.ofNat 68 c.val = c := Fin.ext (Nat.mod_eq_of_lt c.isLt)
  unfold chunkOf seq
  rw [e]
  congr 1 <;> funext r i
  · exact (congrFun (stack_q hg lb) _).trans ((stack_at _ _ c b h r i dir).trans (by match dir with | 0 => exact q_at .. | 1 => exact q_at ..))
  · exact (congrFun (stack_k hg lb) _).trans ((stack_at _ _ c b h r i dir).trans (by match dir with | 0 => exact k_at .. | 1 => exact k_at' ..))
  · exact (congrFun (stack_g hg lb) _).trans ((stack_at _ _ c b h r i dir).trans (by match dir with | 0 => exact g_at .. | 1 => exact g_at' ..))
  · exact (congrFun (stack_v hg lb) _).trans ((stack_at _ _ c b h r i dir).trans (by match dir with | 0 => exact v_at .. | 1 => exact v_at ..))

/-- And from the zero state. -/
theorem init_state (b : Fin 16) : stateOf (init (F := 𝕀) hg lb) b h i j = 0 := by
  show K_main_v77 (F := 𝕀) (ix4 b h i j) = 0
  pointwise [K_main_v77, K_main_cst_7]
end

section
variable (w : FVec 𝕀 S68x16x6x64x64 .f32) (u : FVec 𝕀 S16x68x64x6x64 .f32) (z : FVec 𝕀 S16x4352x6x64 .f32) (x : FVec 𝕀 S8x4352x6x64 .f32)
  (s : State 𝕀) (c : Fin 68) (b : Fin 8) (b' : Fin 16) (h : Fin 6) (r i : Fin 64) (t : Fin 4352)

/-- The outputs of all chunks laid end to end. -/
def whole (w : FVec 𝕀 S68x16x6x64x64 .f32) : FVec 𝕀 S16x4352x6x64 .f32 :=
  shapeCast S16x4352x6x64 (transpose S16x68x64x6x64 [1, 0, 3, 2, 4] w transposes_S68x16x6x64x64_S16x68x64x6x64_1_0_3_2_4) shapeCasts_S16x68x64x6x64_S16x4352x6x64

theorem turn_back_at : transpose S16x68x64x6x64 [1, 0, 3, 2, 4] w transposes_S68x16x6x64x64_S16x68x64x6x64_1_0_3_2_4 (ix5 b' c r h i) = w (ix5 c b' h r i) := by
  pointwise

theorem join_at : shapeCast S16x4352x6x64 u shapeCasts_S16x68x64x6x64_S16x4352x6x64 (ix4 b' (time c r) h i) = u (ix5 b' c r h i) := by
  pointwise [time]

theorem whole_at : whole w (ix4 b' (time c r) h i) = w (ix5 c b' h r i) :=
  (join_at _ c b' h r i).trans (turn_back_at w c b' h r i)

theorem flat_at : shapeCast S8x4352x384 x shapeCasts_S8x4352x6x64_S8x4352x384 (ix3 b t (headLane h i)) = x (ix4 b t h i) := by
  pointwise [headLane]

theorem fwd_at : extractStridedSlice S8x4352x6x64 ![0, 0, 0, 0] z slices_S16x4352x6x64_S8x4352x6x64_0_0_0_0 (ix4 b t h i) = z (ix4 (batch 0 b) t h i) := by
  pointwise [batch]

theorem bwd_at : extractStridedSlice S8x4352x6x64 ![8, 0, 0, 0] z slices_S16x4352x6x64_S8x4352x6x64_8_0_0_0 (ix4 b t h i) = z (ix4 (batch 1 b) t h i) := by
  pointwise [batch]

/-- The forward result at a row of chunk `c`: the scan's output there. -/
theorem forward_at : R_main_v91 s (ix3 b (timeRow 0 c r) (headLane h i)) = s.main_v87_7 (ix5 c (batch 0 b) h r i) :=
  (flat_at _ b h i _).trans ((fwd_at (whole s.main_v87_7) b h i _).trans (whole_at _ c (batch 0 b) h r i))

theorem backward_eq : R_main_v98 s = shapeCast S8x4352x384
    (flips (extractStridedSlice S8x4352x6x64 ![8, 0, 0, 0] (whole s.main_v87_7) slices_S16x4352x6x64_S8x4352x6x64_8_0_0_0))
    shapeCasts_S8x4352x6x64_S8x4352x384 := rfl

theorem flips_flip_at : flips x (ix4 b (flip t) h i) = x (ix4 b t h i) :=
  (flips_at x b h i (flip t)).trans (by rw [flip_flip])

/-- The backward result at a row of its chunk `c`: the scan's output there. -/
theorem backward_at : R_main_v98 s (ix3 b (timeRow 1 c r) (headLane h i)) = s.main_v87_7 (ix5 c (batch 1 b) h r i) := by
  rw [timeRow_one, backward_eq]
  generalize hz : whole s.main_v87_7 = z
  refine (flat_at _ b h i _).trans ((flips_flip_at _ b h i _).trans ((bwd_at z b h i _).trans ?_))
  rw [← hz]
  exact whole_at _ c (batch 1 b) h r i
end

/-- Every index of a result is a row of a chunk of a direction, and a lane of a head. -/
theorem index_cases (dir : Fin 2) (y : S8x4352x384.Idx) : ∃ (b : Fin 8) (c : Fin 68) (r : Fin 64) (h : Fin 6) (i : Fin 64),
    y = ix3 b (timeRow dir c r) (headLane h i) := by
  idx_vars y
  have hl : headLane ⟨y2.val / 64, by omega⟩ ⟨y2.val % 64, by omega⟩ = y2 := Fin.ext (by show y2.val / 64 * 64 + y2.val % 64 = y2.val; omega)
  have ht : ∀ t : Fin 4352, time ⟨t.val / 64, by omega⟩ ⟨t.val % 64, by omega⟩ = t :=
    fun t => Fin.ext (by show t.val / 64 * 64 + t.val % 64 = t.val; omega)
  match dir with
  | 0 => exact ⟨y0, _, _, _, _, by rw [timeRow_zero, ht y1, hl]⟩
  | 1 => exact ⟨y0, _, _, _, _, by rw [timeRow_one, ht (flip y1), flip_flip, hl]⟩

end Cert.ReferenceIdeal.Stacks

end
-- ==== Proof.Scan.lean ====
/-
  The reference's scan by induction over its trips: after `n` trips it carries every sequence's state before chunk `n`, and
  its stack of outputs holds the outputs of the chunks before `n`.
-/
module

public import proofs.«01_k».proof.Proof.Stacks

@[expose] public section

set_option maxRecDepth 16384

noncomputable section

namespace Cert.ReferenceIdeal.Scan

open Idealize.ShloMosaic Cert.ReferenceIdeal Cert.ReferenceIdeal.Gen Cert.ReferenceIdeal.Step Cert.ReferenceIdeal.Stacks Cert.Math

local notation "𝕀" => Idealize.ShloMosaic.Ideal

/-- The scan's states, from the inputs and the lower bounds. -/
def it (hg : Inputs) (lb : Bounds) : ℕ → State 𝕀
  | 0 => init (F := 𝕀) hg lb
  | n + 1 => step n (it hg lb n)

variable (hg : Inputs) (lb : Bounds)

/-- A trip leaves the stacks it reads as they are. -/
theorem chunk_it (c : Fin 68) (b : Fin 16) (h : Fin 6) : ∀ n, Trip.chunkOf (it hg lb n) c b h = Trip.chunkOf (init (F := 𝕀) hg lb) c b h
  | 0 => rfl
  | n + 1 => Eq.trans rfl (chunk_it c b h n)

variable (dir : Fin 2) (b : Fin 8) (h : Fin 6)

/-- The chunk that trip `n` reads. -/
theorem chunk_at (n : ℕ) (c : Fin 68) : Trip.chunkOf (it hg lb n) c (batch dir b) h = seq hg lb dir b h c.val :=
  (chunk_it hg lb c (batch dir b) h n).trans (init_chunk hg lb c b h dir)

/-- The state carried into trip `n`. -/
theorem state_at : ∀ n, n ≤ 68 → Trip.stateOf (it hg lb n) (batch dir b) h = states (seq hg lb dir b h) n
  | 0, _ => funext fun i => funext fun j => init_state hg lb h i j (batch dir b)
  | n + 1, hn => by
    funext i j
    have e := Trip.next_at (it hg lb n) ⟨n, hn⟩ (batch dir b) h i j
    rw [chunk_at, state_at n (by omega)] at e
    exact (congrFun (step_main_v87_6 n (it hg lb n)) _).trans e

/-- The outputs of a chunk whose trip is over. -/
theorem output_at (c : Fin 68) (r j : Fin 64) : ∀ n, n ≤ 68 → c.val < n →
    (it hg lb n).main_v87_7 (ix5 c (batch dir b) h r j) = outputs (seq hg lb dir b h) c.val r j
  | n + 1, hn, hc => by
    refine (congrFun (step_main_v87_7 n (it hg lb n)) _).trans ((Trip.stack_at (it hg lb n) ⟨n, hn⟩ (batch dir b) h r j c).trans ?_)
    by_cases e : c = ⟨n, hn⟩
    · subst e
      rw [if_pos rfl, Trip.outputs_at, chunk_at, state_at hg lb dir b h n (by omega)]
      rfl
    · rw [if_neg e]
      exact output_at c r j n (by omega) (by have : c.val ≠ n := fun h => e (Fin.ext h); omega)

/-- The forward result after the scan. -/
theorem forward (c : Fin 68) (r i : Fin 64) : R_main_v91 (it hg lb 68) (ix3 b (timeRow 0 c r) (headLane h i)) = outputs (seq hg lb 0 b h) c.val r i :=
  (forward_at (it hg lb 68) c b h r i).trans (output_at hg lb 0 b h c r i 68 le_rfl c.isLt)

/-- The backward result after the scan. -/
theorem backward (c : Fin 68) (r i : Fin 64) : R_main_v98 (it hg lb 68) (ix3 b (timeRow 1 c r) (headLane h i)) = outputs (seq hg lb 1 b h) c.val r i :=
  (backward_at (it hg lb 68) c b h r i).trans (output_at hg lb 1 b h c r i 68 le_rfl c.isLt)

end Cert.ReferenceIdeal.Scan

end
-- ==== Proof.Project.lean ====
/-
  The normalised, modulated input projection as sums over the model's 1024 channels, and the reference's results read as
  entries of it.
-/
module

public import proofs.«01_k».proof.Proof.Gen.Reference2Ideal.Run
public import Idealize.ShloMosaic.Lib.Pointwise

@[expose] public section

set_option maxRecDepth 16384

noncomputable section

namespace Cert.Project

open Idealize.ShloMosaic

local notation "𝕀" => Idealize.ShloMosaic.Ideal

/-! ## The mathematics -/

/-- A row divided by its root mean square, times the weights `g` and one plus `scale`, plus `shift`, at channel `k`. -/
def modulated (v g scale shift : Fin 1024 → EReal) (k : Fin 1024) : EReal :=
  v k * Ideal.rsqrt (Ideal.div (∑ q, v q * v q) (Ideal.ofBits .f32 0x44800000#32) + Ideal.ofBits .f32 0x358637BD#32) * g k
    * (Ideal.ofBits .f32 0x3F800000#32 + scale k) + shift k

/-- The latent rows, the context's rows, the norm's weights, the two modulation tables and the weights of four layers. -/
structure Inputs where
  x : Vec 𝕀 ⟨3, ![8, 4096, 1024]⟩ .f32
  ctx : Vec 𝕀 ⟨3, ![8, 256, 1024]⟩ .f32
  g : Vec 𝕀 ⟨1, ![1024]⟩ .f32
  modL : Vec 𝕀 ⟨3, ![8, 6, 1024]⟩ .f32
  modC : Vec 𝕀 ⟨3, ![1, 6, 1024]⟩ .f32
  w : Vec 𝕀 ⟨3, ![4, 1024, 6784]⟩ .f32

namespace Inputs
variable (I : Inputs)

/-- Row `n` of the context of sequence `b`, modulated by the context's table. -/
def ctxRow (b : Fin 8) (n : Fin 256) (k : Fin 1024) : EReal :=
  modulated (fun q => I.ctx (ix3 b n q)) (fun q => I.g (ix1 q)) (fun q => I.modC (ix3 0 1 q)) (fun q => I.modC (ix3 0 0 q)) k
/-- Latent row `n` of sequence `b`, modulated by the sequence's table. -/
def latRow (b : Fin 8) (n : Fin 4096) (k : Fin 1024) : EReal :=
  modulated (fun q => I.x (ix3 b n q)) (fun q => I.g (ix1 q)) (fun q => I.modL (ix3 b 1 q)) (fun q => I.modL (ix3 b 0 q)) k

/-- Row `n` of sequence `b`: the context comes first. -/
def row (b : Fin 8) (n : Fin 4352) (k : Fin 1024) : EReal :=
  if h : n.val < 256 then I.ctxRow b ⟨n.val, h⟩ k else I.latRow b ⟨n.val - 256, by omega⟩ k

/-- Column `col` of the projection of row `n` of sequence `b` by the second layer's weights. -/
def proj (b : Fin 8) (n : Fin 4352) (col : Fin 6784) : EReal := ∑ k, I.row b n k * I.w (ix3 1 k col)

end Inputs

/-- Row `n` of sequence `b` among the rows of all sequences. -/
def flat (b : Fin 8) (n : Fin 4352) : Fin 34816 := ⟨b.val * 4352 + n.val, by omega⟩

theorem exists_flat (R : Fin 34816) : ∃ b n, R = flat b n :=
  ⟨⟨R.val / 4352, by omega⟩, ⟨R.val % 4352, by omega⟩, Fin.ext (by simp only [flat]; omega)⟩

/-! ## The reference's stages -/

section Reference
open Cert.Reference2Ideal Cert.Reference2Ideal.Gen

/-- The inverse root mean squares of the context's rows. -/
def ctxInv (x : Vec 𝕀 S8x256x1024 .f32) : FVec 𝕀 S8x256x1 .f32 :=
  Host.rsqrt (addf (Host.divf (broadcastInDim S8x256x1 ![0, 1] bcast_S8x256_S8x256x1_0_1 (Host.reduceAdd (mulf x x) (constant S_ .f32 0x00000000#32) reducesTo_S8x256x1024_S8x256_d2 h_S_))
    (broadcastInDim S8x256x1 ![] bcast_S_S8x256x1 (constant S_ .f32 0x44800000#32))) (broadcastInDim S8x256x1 ![] bcast_S_S8x256x1 (constant S_ .f32 0x358637BD#32)))

theorem ctxInv_at (x : Vec 𝕀 S8x256x1024 .f32) (b : Fin 8) (n : Fin 256) :
    ctxInv x (ix3 b n 0) = Ideal.rsqrt (Ideal.div (∑ q, x (ix3 b n q) * x (ix3 b n q)) (Ideal.ofBits .f32 0x44800000#32) + Ideal.ofBits .f32 0x358637BD#32) := by
  pointwise [ctxInv]

/-- The inverse root mean squares of the latent rows. -/
def latInv (x : Vec 𝕀 S8x4096x1024 .f32) : FVec 𝕀 S8x4096x1 .f32 :=
  Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32)))

theorem latInv_at (x : Vec 𝕀 S8x4096x1024 .f32) (b : Fin 8) (n : Fin 4096) :
    latInv x (ix3 b n 0) = Ideal.rsqrt (Ideal.div (∑ q, x (ix3 b n q) * x (ix3 b n q)) (Ideal.ofBits .f32 0x44800000#32) + Ideal.ofBits .f32 0x358637BD#32) := by
  pointwise [latInv]

/-- Row `a` of the context's modulation table. -/
def ctxTable (off : Fin 2 → ℕ) (h : S6x1024.Slices off S1x1024) (modC : Vec 𝕀 S1x6x1024 .f32) : FVec 𝕀 S1024 .f32 :=
  shapeCast S1024 (extractStridedSlice S1x1024 off (shapeCast S6x1024 modC shapeCasts_S1x6x1024_S6x1024) h) shapeCasts_S1x1024_S1024

variable (I : Inputs)

/-- The context's rows, normalised and modulated. -/
def ctxRows : FVec 𝕀 S8x256x1024 .f32 :=
  addf (mulf (mulf (mulf I.ctx (broadcastInDim S8x256x1024 ![0, 1, 2] bcast_S8x256x1_S8x256x1024_0_1_2 (ctxInv I.ctx)))
      (broadcastInDim S8x256x1024 ![0, 1, 2] bcast_S1x1x1024_S8x256x1024_0_1_2 (broadcastInDim S1x1x1024 ![2] bcast_S1024_S1x1x1024_2 I.g)))
      (broadcastInDim S8x256x1024 ![0, 1, 2] bcast_S1x1x1024_S8x256x1024_0_1_2 (broadcastInDim S1x1x1024 ![2] bcast_S1024_S1x1x1024_2
        (addf (broadcastInDim S1024 ![] bcast_S_S1024 (constant S_ .f32 0x3F800000#32)) (ctxTable ![1, 0] slices_S6x1024_S1x1024_1_0 I.modC)))))
    (broadcastInDim S8x256x1024 ![0, 1, 2] bcast_S1x1x1024_S8x256x1024_0_1_2 (broadcastInDim S1x1x1024 ![2] bcast_S1024_S1x1x1024_2
      (ctxTable ![0, 0] slices_S6x1024_S1x1024_0_0 I.modC)))

theorem ctxRows_at (b : Fin 8) (n : Fin 256) (k : Fin 1024) : ctxRows I (ix3 b n k) = I.ctxRow b n k := by
  pointwise [ctxRows, ctxTable, ctxInv_at, Inputs.ctxRow, modulated]

/-- A row of the sequences' modulation tables. -/
def latTable (off : Fin 4 → ℕ) (h : S8x6x1x1024.Slices off S8x1x1x1024) (modL : Vec 𝕀 S8x6x1024 .f32) : FVec 𝕀 S8x1x1024 .f32 :=
  shapeCast S8x1x1024 (extractStridedSlice S8x1x1x1024 off (broadcastInDim S8x6x1x1024 ![0, 1, 3] bcast_S8x6x1024_S8x6x1x1024_0_1_3 modL) h) shapeCasts_S8x1x1x1024_S8x1x1024

/-- The latent rows, normalised and modulated. -/
def latRows : FVec 𝕀 S8x4096x1024 .f32 :=
  addf (mulf (mulf (mulf I.x (broadcastInDim S8x4096x1024 ![0, 1, 2] bcast_S8x4096x1_S8x4096x1024_0_1_2 (latInv I.x)))
      (broadcastInDim S8x4096x1024 ![0, 1, 2] bcast_S1x1x1024_S8x4096x1024_0_1_2 (broadcastInDim S1x1x1024 ![2] bcast_S1024_S1x1x1024_2 I.g)))
      (broadcastInDim S8x4096x1024 ![0, 1, 2] bcast_S8x1x1024_S8x4096x1024_0_1_2
        (addf (broadcastInDim S8x1x1024 ![] bcast_S_S8x1x1024 (constant S_ .f32 0x3F800000#32)) (latTable ![0, 1, 0, 0] slices_S8x6x1x1024_S8x1x1x1024_0_1_0_0 I.modL))))
    (broadcastInDim S8x4096x1024 ![0, 1, 2] bcast_S8x1x1024_S8x4096x1024_0_1_2 (latTable ![0, 0, 0, 0] slices_S8x6x1x1024_S8x1x1x1024_0_0_0_0 I.modL))

theorem latRows_at (b : Fin 8) (n : Fin 4096) (k : Fin 1024) : latRows I (ix3 b n k) = I.latRow b n k := by
  pointwise [latRows, latTable, latInv_at, Inputs.latRow, modulated]

/-- All rows. -/
def rows (u : FVec 𝕀 S8x256x1024 .f32) (v : FVec 𝕀 S8x4096x1024 .f32) : FVec 𝕀 S8x4352x1024 .f32 :=
  concatenate S8x4352x1024 1 [⟨S8x256x1024, u⟩, ⟨S8x4096x1024, v⟩] concatenates_S8x256x1024_S8x4096x1024_S8x4352x1024_d1

theorem rows_at (u : FVec 𝕀 S8x256x1024 .f32) (v : FVec 𝕀 S8x4096x1024 .f32) (b : Fin 8) (n : Fin 4352) (k : Fin 1024) :
    rows u v (ix3 b n k) = if h : n.val < 256 then u (ix3 b ⟨n.val, h⟩ k) else v (ix3 b ⟨n.val - 256, by omega⟩ k) := by
  pointwise [rows]

/-- The products of all rows with the second layer's weights, the rows of all sequences on one axis. -/
def products (h : FVec 𝕀 S8x4352x1024 .f32) (w : FVec 𝕀 S4x1024x6784 .f32) : FVec 𝕀 S34816x6784 .f32 :=
  shapeCast S34816x6784 (Host.dotGeneral dot_S8x4352x1024_S1024x6784_S8x4352x6784_2_0_01_1_n_n none h
    (shapeCast S1024x6784 (extractStridedSlice S1x1024x6784 ![1, 0, 0] w slices_S4x1024x6784_S1x1024x6784_1_0_0) shapeCasts_S1x1024x6784_S1024x6784)) shapeCasts_S8x4352x6784_S34816x6784

theorem products_at (h : FVec 𝕀 S8x4352x1024 .f32) (w : FVec 𝕀 S4x1024x6784 .f32) (b : Fin 8) (n : Fin 4352) (col : Fin 6784) :
    products h w (ix2 (flat b n) col) = ∑ k, h (ix3 b n k) * w (ix3 1 k col) := by
  pointwise [products, flat]

/-- The reference's projection, before it is split. -/
def whole : FVec 𝕀 S34816x6784 .f32 := products (rows (ctxRows I) (latRows I)) I.w

theorem whole_at (b : Fin 8) (n : Fin 4352) (col : Fin 6784) : whole I (ix2 (flat b n) col) = I.proj b n col := by
  refine (products_at _ _ b n col).trans (Finset.sum_congr rfl fun k _ => congrArg (· * I.w (ix3 1 k col)) ?_)
  refine (rows_at _ _ b n k).trans ?_
  unfold Inputs.row
  split
  · exact ctxRows_at I b _ k
  · exact latRows_at I b _ k

/-- The reference's first result. -/
def first : FVec 𝕀 S34816x256 .f32 := extractStridedSlice S34816x256 ![0, 0] (whole I) slices_S34816x6784_S34816x256_0_0

theorem first_at (b : Fin 8) (n : Fin 4352) (col : Fin 256) : first I (ix2 (flat b n) col) = I.proj b n ⟨0 + col.val, by omega⟩ := by
  refine Eq.trans ?_ (whole_at I b n _)
  pointwise [first]

/-- The reference's second result. -/
def second : FVec 𝕀 S34816x1920 .f32 := extractStridedSlice S34816x1920 ![0, 256] (whole I) slices_S34816x6784_S34816x1920_0_256

theorem second_at (b : Fin 8) (n : Fin 4352) (col : Fin 1920) : second I (ix2 (flat b n) col) = I.proj b n ⟨256 + col.val, by omega⟩ := by
  refine Eq.trans ?_ (whole_at I b n _)
  pointwise [second]

/-- The reference's third result. -/
def third : FVec 𝕀 S34816x1536 .bf16 := truncf .bf16 (extractStridedSlice S34816x1536 ![0, 2176] (whole I) slices_S34816x6784_S34816x1536_0_2176) bitsLt_bf16_f32

theorem third_at (b : Fin 8) (n : Fin 4352) (col : Fin 1536) : third I (ix2 (flat b n) col) = I.proj b n ⟨2176 + col.val, by omega⟩ := by
  refine Eq.trans ?_ (whole_at I b n _)
  pointwise [third]

/-- The reference's fourth result. -/
def fourth : FVec 𝕀 S34816x3072 .bf16 := truncf .bf16 (extractStridedSlice S34816x3072 ![0, 3712] (whole I) slices_S34816x6784_S34816x3072_0_3712) bitsLt_bf16_f32

theorem fourth_at (b : Fin 8) (n : Fin 4352) (col : Fin 3072) : fourth I (ix2 (flat b n) col) = I.proj b n ⟨3712 + col.val, by omega⟩ := by
  refine Eq.trans ?_ (whole_at I b n _)
  pointwise [fourth]

/-- The reference's inputs. -/
def refInputs (m : (ℓ : Loc nD τ sig) → Buf (Elt 𝕀) ℓ) (c : Dev nD) : Inputs where
  x := m ((c.tc : Thread nD τ).loc main_arg0)
  ctx := m ((c.tc : Thread nD τ).loc main_arg1)
  g := m ((c.tc : Thread nD τ).loc main_arg2)
  modL := m ((c.tc : Thread nD τ).loc main_arg3)
  modC := m ((c.tc : Thread nD τ).loc main_arg4)
  w := m ((c.tc : Thread nD τ).loc main_arg5)

open Idealize.SL.Sem in
/-- The reference ends with the four results and its arguments as they were. -/
theorem ref_run (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v55) = first (refInputs m c)
      ∧ r.2.mem ((c.tc : Thread nD τ).loc main_v56) = second (refInputs m c)
      ∧ r.2.mem ((c.tc : Thread nD τ).loc main_v59) = third (refInputs m c)
      ∧ r.2.mem ((c.tc : Thread nD τ).loc main_v60) = fourth (refInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2.1.trans rfl, (h c).2.2.2.2⟩)
    (Cert.Reference2Ideal.Value.run m ρ)

end Reference

end Cert.Project

end
-- ==== Proof.ProjectKernel.lean ====
/-
  The projection kernel over its grid: point `8 * b + j` holds rows `544 * j …` of sequence `b`, and stores their entries of the
  projection in the four results.
-/
module

public import proofs.«01_k».proof.Proof.Project
public import proofs.«01_k».proof.Proof.Words
public import proofs.«01_k».proof.Proof.Gen.Kernel2Ideal.Value
public import Idealize.ShloMosaic.Lib.Pipeline.ValueKit

@[expose] public section

set_option maxRecDepth 16384

noncomputable section

namespace Cert.Project

open Idealize.ShloMosaic Idealize.ShloMosaic.TcCoe Idealize.SL.Sem
open Cert.Kernel2Ideal Cert.Kernel2Ideal.Gen

local notation "𝕀" => Idealize.ShloMosaic.Ideal

/-- Grid point `j` of sequence `b`. -/
def point (b j : Fin 8) : Fin cfg0.N := ⟨8 * b.val + j.val, by have h : cfg0.N = 64 := N_0; omega⟩

/-- Row `r` of tile `j` of a sequence. -/
def tileRow (j : Fin 8) (r : Fin 544) : Fin 4352 := ⟨j.val * 544 + r.val, by omega⟩

theorem exists_tileRow (n : Fin 4352) : ∃ j r, n = tileRow j r :=
  ⟨⟨n.val / 544, by omega⟩, ⟨n.val % 544, by omega⟩, Fin.ext (by simp only [tileRow]; omega)⟩

/-! ## The mask of the context's rows -/

/-- Whether row `r` of tile `j` is one of the context's. -/
def isCtx (j : Fin 8) (r : Fin 544) : Bool := decide ((tileRow j r).val < 256)

/-- The word of a tile's first row, as the kernel computes it from the grid point. -/
def tileWord (arg0 : BitVec 32) : BitVec 32 :=
  let v1 : BitVec 32 := Scalar.select (Scalar.cmpi .eq 8#32 0#32) 1#32 8#32
  let v2 : BitVec 32 := Scalar.remsi arg0 v1
  Scalar.muli (Scalar.select (Scalar.andi (Scalar.xori (Scalar.cmpi .slt v2 0#32) (Scalar.cmpi .slt v1 0#32)) (Scalar.cmpi .ne v2 0#32)) (Scalar.addi v2 v1) v2) 544#32

theorem tileWord_point : ∀ b j : Fin 8, tileWord (BitVec.ofNat 32 (grid0.coords (point b j) 0).val) = BitVec.ofNat 32 (j.val * 544) := by
  decide +kernel

theorem mask_at (b j : Fin 8) (r : Fin 544) : k0_pay2 (grid0.coords (point b j)) (ix2 r 0) = BitVec.ofBool (isCtx j r) := by
  have h := tileWord_point b j
  pointwise [k0_pay2]
  show IntOp.cmpi .slt (IntOp.addi (tileWord (BitVec.ofNat 32 (grid0.coords (point b j) 0).val)) (BitVec.ofNat 32 r.val)) 256#32 = _
  rw [h]
  clear h
  revert j r
  decide +kernel

theorem wideMask_at (b j : Fin 8) (r : Fin 544) (k : Fin 1024) : k0_pay6 (grid0.coords (point b j)) (ix2 r k) = BitVec.ofBool (isCtx j r) := by
  refine Eq.trans ?_ (mask_at b j r)
  pointwise [k0_pay6]

/-! ## A tile's hidden rows -/

/-- A tile's rows, normalised. -/
theorem normed_at (x : Vec 𝕀 S544x1024 .f32) (g : Vec 𝕀 S1x1024 .f32) (r : Fin 544) (k : Fin 1024) :
    k0_pay3 x g (ix2 r k) = x (ix2 r k) * Ideal.rsqrt (Ideal.div (∑ q, x (ix2 r q) * x (ix2 r q)) (Ideal.ofBits .f32 0x44800000#32) + Ideal.ofBits .f32 0x358637BD#32) * g (ix2 0 k) := by
  pointwise [k0_pay3]

/-- A tile's rows, modulated by the table that the mask chooses. -/
theorem hidden_at (p : IVec S544x1 1) (v : FVec 𝕀 S544x1024 .f32) (sc sl : FVec 𝕀 S1x1024 .f32) (q : IVec S544x1024 1) (hc hl : Vec 𝕀 S1x1x1024 .f32) (c : Bool)
    (r : Fin 544) (k : Fin 1024) (hp : p (ix2 r 0) = BitVec.ofBool c) (hq : q (ix2 r k) = BitVec.ofBool c) :
    k0_pay7 p v sc sl q hc hl (ix2 r k)
      = v (ix2 r k) * (Ideal.ofBits .f32 0x3F800000#32 + if c = true then sc (ix2 0 k) else sl (ix2 0 k)) + if c = true then hc (ix3 0 0 k) else hl (ix3 0 0 k) := by
  pointwise [k0_pay7]
  rw [hp, hq, Cert.KernelIdeal.Read.select_ofBool, Cert.KernelIdeal.Read.select_ofBool]

section Tile
variable (i : grid0.Coords) (x0 : Vec 𝕀 S544x1024 .f32) (x1 : Vec 𝕀 S1x1024 .f32) (x2 x3 : Vec 𝕀 S1x6x1024 .f32) (x4 : Vec 𝕀 S1x1024x6784 .bf16)

/-- A tile's hidden rows from the rows, the norm's weights and the two tables. -/
def hiddenTile : FVec 𝕀 S544x1024 .bf16 :=
  k0_pay7 (k0_pay2 i) (k0_pay3 (View.ld x0 r0_0) (View.ld x1 r0_1)) (k0_pay4 (View.ld x3 r0_2)) (k0_pay5 (View.ld x2 r0_2)) (k0_pay6 i) (View.ld x3 r0_3) (View.ld x2 r0_3)

theorem hiddenTile_at (b j : Fin 8) (r : Fin 544) (k : Fin 1024) :
    hiddenTile (grid0.coords (point b j)) x0 x1 x2 x3 (ix2 r k)
      = if isCtx j r = true then modulated (fun q => x0 (ix2 r q)) (fun q => x1 (ix2 0 q)) (fun q => x3 (ix3 0 1 q)) (fun q => x3 (ix3 0 0 q)) k
        else modulated (fun q => x0 (ix2 r q)) (fun q => x1 (ix2 0 q)) (fun q => x2 (ix3 0 1 q)) (fun q => x2 (ix3 0 0 q)) k := by
  refine (hidden_at _ _ _ _ _ _ _ (isCtx j r) r k (mask_at b j r) (wideMask_at b j r k)).trans ?_
  have e0 : View.ld x0 r0_0 = x0 := by funext y; idx_vars y; pointwise
  have e1 : View.ld x1 r0_1 = x1 := by funext y; idx_vars y; obtain rfl : y0 = 0 := Subsingleton.elim _ _; pointwise
  rw [e0, e1, normed_at]
  split <;> pointwise [k0_pay4, k0_pay5, modulated]

variable (h : FVec 𝕀 S544x1024 .bf16) (r : Fin 544)

theorem stored5_at (p : IVec S544x1 1) (v : FVec 𝕀 S544x1024 .f32) (sc sl : FVec 𝕀 S1x1024 .f32) (q : IVec S544x1024 1) (hc hl : Vec 𝕀 S1x1x1024 .f32)
    (w : Vec 𝕀 S1x1024x256 .bf16) (col : Fin 256) : k0_pay8 p v sc sl q hc hl w (ix2 r col) = ∑ k, k0_pay7 p v sc sl q hc hl (ix2 r k) * w (ix3 0 k col) := by
  unfold k0_pay8
  generalize k0_pay7 p v sc sl q hc hl = u
  pointwise

theorem weights5_at (k : Fin 1024) (col : Fin 256) : View.ld x4 r0_4 (ix3 0 k col) = x4 (ix3 0 k ⟨0 + col.val, by omega⟩) := by
  pointwise

theorem out5_at (col : Fin 256) : out0_5 i x0 x1 x2 x3 x4 (ix2 r col) = ∑ k, hiddenTile i x0 x1 x2 x3 (ix2 r k) * x4 (ix3 0 k ⟨0 + col.val, by omega⟩) := by
  have e : r0_5.emb (ix2 r col) = ix2 r col := by
    funext a; apply Fin.ext; fin_cases a <;> simp [ix2]
  unfold_out out0_5
  refine (congrArg (View.canon _) e.symm).trans ((View.canon_cons_emb r0_5 _ [] (ix2 r col)).trans ((stored5_at r _ _ _ _ _ _ _ _ col).trans ?_))
  exact Finset.sum_congr rfl fun k _ => congrArg (hiddenTile i x0 x1 x2 x3 (ix2 r k) * ·) (weights5_at x4 k col)

theorem stored6_at (p : IVec S544x1 1) (v : FVec 𝕀 S544x1024 .f32) (sc sl : FVec 𝕀 S1x1024 .f32) (q : IVec S544x1024 1) (hc hl : Vec 𝕀 S1x1x1024 .f32)
    (w : Vec 𝕀 S1x1024x1920 .bf16) (col : Fin 1920) : k0_pay9 p v sc sl q hc hl w (ix2 r col) = ∑ k, k0_pay7 p v sc sl q hc hl (ix2 r k) * w (ix3 0 k col) := by
  unfold k0_pay9
  generalize k0_pay7 p v sc sl q hc hl = u
  pointwise

theorem weights6_at (k : Fin 1024) (col : Fin 1920) : View.ld x4 r0_6 (ix3 0 k col) = x4 (ix3 0 k ⟨256 + col.val, by omega⟩) := by
  pointwise

theorem out6_at (col : Fin 1920) : out0_6 i x0 x1 x2 x3 x4 (ix2 r col) = ∑ k, hiddenTile i x0 x1 x2 x3 (ix2 r k) * x4 (ix3 0 k ⟨256 + col.val, by omega⟩) := by
  have e : r0_7.emb (ix2 r col) = ix2 r col := by
    funext a; apply Fin.ext; fin_cases a <;> simp [ix2]
  unfold_out out0_6
  refine (congrArg (View.canon _) e.symm).trans ((View.canon_cons_emb r0_7 _ [] (ix2 r col)).trans ((stored6_at r _ _ _ _ _ _ _ _ col).trans ?_))
  exact Finset.sum_congr rfl fun k _ => congrArg (hiddenTile i x0 x1 x2 x3 (ix2 r k) * ·) (weights6_at x4 k col)

theorem stored7_at (p : IVec S544x1 1) (v : FVec 𝕀 S544x1024 .f32) (sc sl : FVec 𝕀 S1x1024 .f32) (q : IVec S544x1024 1) (hc hl : Vec 𝕀 S1x1x1024 .f32)
    (w : Vec 𝕀 S1x1024x1536 .bf16) (col : Fin 1536) : k0_pay10 p v sc sl q hc hl w (ix2 r col) = ∑ k, k0_pay7 p v sc sl q hc hl (ix2 r k) * w (ix3 0 k col) := by
  unfold k0_pay10
  generalize k0_pay7 p v sc sl q hc hl = u
  pointwise

theorem weights7_at (k : Fin 1024) (col : Fin 1536) : View.ld x4 r0_8 (ix3 0 k col) = x4 (ix3 0 k ⟨2176 + col.val, by omega⟩) := by
  pointwise

theorem out7_at (col : Fin 1536) : out0_7 i x0 x1 x2 x3 x4 (ix2 r col) = ∑ k, hiddenTile i x0 x1 x2 x3 (ix2 r k) * x4 (ix3 0 k ⟨2176 + col.val, by omega⟩) := by
  have e : r0_9.emb (ix2 r col) = ix2 r col := by
    funext a; apply Fin.ext; fin_cases a <;> simp [ix2]
  unfold_out out0_7
  refine (congrArg (View.canon _) e.symm).trans ((View.canon_cons_emb r0_9 _ [] (ix2 r col)).trans ((stored7_at r _ _ _ _ _ _ _ _ col).trans ?_))
  exact Finset.sum_congr rfl fun k _ => congrArg (hiddenTile i x0 x1 x2 x3 (ix2 r k) * ·) (weights7_at x4 k col)

theorem stored8_at (w : Vec 𝕀 S1x1024x3072 .bf16) (col : Fin 3072) : k0_pay1 h w (ix2 r col) = ∑ k, h (ix2 r k) * w (ix3 0 k col) := by
  pointwise [k0_pay1]

theorem weights8_at (k : Fin 1024) (col : Fin 3072) : View.ld x4 r0_10 (ix3 0 k col) = x4 (ix3 0 k ⟨3712 + col.val, by omega⟩) := by
  pointwise

theorem out8_at (col : Fin 3072) : out0_8 i x0 x1 x2 x3 x4 (ix2 r col) = ∑ k, hiddenTile i x0 x1 x2 x3 (ix2 r k) * x4 (ix3 0 k ⟨3712 + col.val, by omega⟩) := by
  have e : r0_11.emb (ix2 r col) = ix2 r col := by
    funext a; apply Fin.ext; fin_cases a <;> simp [ix2]
  unfold_out out0_8
  refine (congrArg (View.canon _) e.symm).trans ((View.canon_cons_emb r0_11 _ [] (ix2 r col)).trans ((stored8_at _ r _ col).trans ?_))
  exact Finset.sum_congr rfl fun k _ => congrArg (hiddenTile i x0 x1 x2 x3 (ix2 r k) * ·) (weights8_at x4 k col)

end Tile

/-! ## The blocks -/

variable (m : (ℓ : Loc nD τ sig) → Buf (Elt 𝕀) ℓ) (c : Dev nD)

/-- The kernel's inputs. -/
def inputs : Inputs where
  x := m ((c.tc : Thread nD τ).loc main_arg0)
  ctx := m ((c.tc : Thread nD τ).loc main_arg1)
  g := m ((c.tc : Thread nD τ).loc main_arg2)
  modL := m ((c.tc : Thread nD τ).loc main_arg3)
  modC := m ((c.tc : Thread nD τ).loc main_arg4)
  w := m ((c.tc : Thread nD τ).loc main_arg5)

theorem at0 : ∀ b j : Fin 8, win0_0.index (point b j) 0 = 8 * b.val + j.val ∧ win0_0.index (point b j) 1 = 0 := by decide +kernel
theorem at1 : ∀ b j : Fin 8, win0_1.index (point b j) 0 = 0 ∧ win0_1.index (point b j) 1 = 0 := by decide +kernel
theorem at2 : ∀ b j : Fin 8, win0_2.index (point b j) 0 = b.val ∧ win0_2.index (point b j) 1 = 0 ∧ win0_2.index (point b j) 2 = 0 := by decide +kernel
theorem at3 : ∀ b j : Fin 8, win0_3.index (point b j) 0 = 0 ∧ win0_3.index (point b j) 1 = 0 ∧ win0_3.index (point b j) 2 = 0 := by decide +kernel
theorem at4 : ∀ b j : Fin 8, win0_4.index (point b j) 0 = 1 ∧ win0_4.index (point b j) 1 = 0 ∧ win0_4.index (point b j) 2 = 0 := by decide +kernel

section Reads
variable (b j : Fin 8)

/-- The rows of all sequences on one axis, as the kernel finds them. -/
def flatRows (u : FVec 𝕀 S8x256x1024 .f32) (v : FVec 𝕀 S8x4096x1024 .f32) : FVec 𝕀 S34816x1024 .f32 :=
  shapeCast S34816x1024 (rows u v) shapeCasts_S8x4352x1024_S34816x1024

theorem flatRows_at (u : FVec 𝕀 S8x256x1024 .f32) (v : FVec 𝕀 S8x4096x1024 .f32) (n : Fin 4352) (k : Fin 1024) :
    flatRows u v (ix2 (flat b n) k) = rows u v (ix3 b n k) := by
  unfold flatRows
  generalize rows u v = z
  pointwise [flat]

theorem entry_rows : V m c main_v1 = flatRows (inputs m c).ctx (inputs m c).x := by
  rfl

theorem block0 (r : Fin 544) (k : Fin 1024) : iblk m c 0 (point b j) (ix2 r k) = V m c main_v1 (ix2 (flat b (tileRow j r)) k) := by
  have h := at0 b j
  blk_ext! [iblk, h, flat, tileRow]
theorem block1 (k : Fin 1024) : iblk m c 1 (point b j) (ix2 0 k) = (inputs m c).g (ix1 k) := by
  have h := at1 b j
  blk_ext! [iblk, V, h, inputs]
theorem block2 (a : Fin 6) (k : Fin 1024) : iblk m c 2 (point b j) (ix3 0 a k) = (inputs m c).modL (ix3 b a k) := by
  have h := at2 b j
  blk_ext! [iblk, V, h, inputs]
theorem block3 (a : Fin 6) (k : Fin 1024) : iblk m c 3 (point b j) (ix3 0 a k) = (inputs m c).modC (ix3 0 a k) := by
  have h := at3 b j
  blk_ext! [iblk, V, h, inputs]
theorem block4 (k : Fin 1024) (col : Fin 6784) : iblk m c 4 (point b j) (ix3 0 k col) = (inputs m c).w (ix3 1 k col) := by
  have h := at4 b j
  blk_ext! [iblk, V, h, inputs]

theorem atOut : ∀ b j : Fin 8, (win0_5.index (point b j) 0 = 8 * b.val + j.val ∧ win0_5.index (point b j) 1 = 0)
    ∧ (win0_6.index (point b j) 0 = 8 * b.val + j.val ∧ win0_6.index (point b j) 1 = 0)
    ∧ (win0_7.index (point b j) 0 = 8 * b.val + j.val ∧ win0_7.index (point b j) 1 = 0)
    ∧ (win0_8.index (point b j) 0 = 8 * b.val + j.val ∧ win0_8.index (point b j) 1 = 0) := by decide +kernel

theorem tile_val (j : Fin 8) (r : Fin 544) : (8 * b.val + j.val) * 544 + 1 * r.val = b.val * 4352 + (j.val * 544 + r.val) := by omega

/-- The kernel's hidden row is the model's. -/
theorem row_at (r : Fin 544) (k : Fin 1024) :
    hiddenTile (grid0.coords (point b j)) (iblk m c 0 (point b j)) (iblk m c 1 (point b j)) (iblk m c 2 (point b j)) (iblk m c 3 (point b j)) (ix2 r k)
      = (inputs m c).row b (tileRow j r) k := by
  refine (hiddenTile_at _ _ _ _ b j r k).trans ?_
  have e : ∀ q, iblk m c 0 (point b j) (ix2 r q) = rows (inputs m c).ctx (inputs m c).x (ix3 b (tileRow j r) q) := fun q =>
    (block0 m c b j r q).trans ((congrFun (entry_rows m c) _).trans (flatRows_at b _ _ _ q))
  simp only [e, block1, block2, block3, rows_at]
  unfold Inputs.row isCtx
  by_cases hn : (tileRow j r).val < 256
  · simp only [hn, decide_true, if_true, dif_pos]; rfl
  · simp only [hn, decide_false, Bool.false_eq_true, if_false, dif_neg, not_false_eq_true]; rfl

/-- A tile's product with a column of the second layer's weights is the projection's entry. -/
theorem proj_at (r : Fin 544) (col : Fin 6784) :
    ∑ k, hiddenTile (grid0.coords (point b j)) (iblk m c 0 (point b j)) (iblk m c 1 (point b j)) (iblk m c 2 (point b j)) (iblk m c 3 (point b j)) (ix2 r k)
        * iblk m c 4 (point b j) (ix3 0 k col) = (inputs m c).proj b (tileRow j r) col :=
  Finset.sum_congr rfl fun k _ => congrArg₂ (· * ·) (row_at m c b j r k) (block4 m c b j k col)

theorem emb5 (r : Fin 544) (col : Fin 256) : ((cfg0.win 5).blk (point b j)).view.emb (ix2 r col) = ix2 (flat b (tileRow j r)) col := by
  obtain ⟨h0, h1⟩ := (atOut b j).1
  funext a
  apply Fin.ext
  match a with
  | ⟨0, _⟩ => show win0_5.index (point b j) 0 * 544 + 1 * r.val = b.val * 4352 + (j.val * 544 + r.val); rw [h0]; exact tile_val b j r
  | ⟨1, _⟩ => show win0_5.index (point b j) 1 * 256 + 1 * col.val = col.val; rw [h1]; omega

/-- The kernel's first result. -/
theorem result5 : (dats m 0 c).arrAt 5 cfg0.N = first (inputs m c) := by
  funext y
  idx_vars y
  obtain ⟨b, n, rfl⟩ := exists_flat y0
  obtain ⟨j, r, rfl⟩ := exists_tileRow n
  refine Eq.trans ?_ (first_at (inputs m c) b (tileRow j r) y1).symm
  have h := congrFun (Value.blocks5 m c (point b j) (flush0_5 _)) (ix2 r y1)
  rw [View.read_apply, emb5, Value.flushed5] at h
  exact h.trans ((out5_at _ _ _ _ _ _ r y1).trans (proj_at m c b j r _))

theorem emb6 (r : Fin 544) (col : Fin 1920) : ((cfg0.win 6).blk (point b j)).view.emb (ix2 r col) = ix2 (flat b (tileRow j r)) col := by
  obtain ⟨h0, h1⟩ := (atOut b j).2.1
  funext a
  apply Fin.ext
  match a with
  | ⟨0, _⟩ => show win0_6.index (point b j) 0 * 544 + 1 * r.val = b.val * 4352 + (j.val * 544 + r.val); rw [h0]; exact tile_val b j r
  | ⟨1, _⟩ => show win0_6.index (point b j) 1 * 1920 + 1 * col.val = col.val; rw [h1]; omega

/-- The kernel's second result. -/
theorem result6 : (dats m 0 c).arrAt 6 cfg0.N = second (inputs m c) := by
  funext y
  idx_vars y
  obtain ⟨b, n, rfl⟩ := exists_flat y0
  obtain ⟨j, r, rfl⟩ := exists_tileRow n
  refine Eq.trans ?_ (second_at (inputs m c) b (tileRow j r) y1).symm
  have h := congrFun (Value.blocks6 m c (point b j) (flush0_6 _)) (ix2 r y1)
  rw [View.read_apply, emb6, Value.flushed6] at h
  exact h.trans ((out6_at _ _ _ _ _ _ r y1).trans (proj_at m c b j r _))

theorem emb7 (r : Fin 544) (col : Fin 1536) : ((cfg0.win 7).blk (point b j)).view.emb (ix2 r col) = ix2 (flat b (tileRow j r)) col := by
  obtain ⟨h0, h1⟩ := (atOut b j).2.2.1
  funext a
  apply Fin.ext
  match a with
  | ⟨0, _⟩ => show win0_7.index (point b j) 0 * 544 + 1 * r.val = b.val * 4352 + (j.val * 544 + r.val); rw [h0]; exact tile_val b j r
  | ⟨1, _⟩ => show win0_7.index (point b j) 1 * 1536 + 1 * col.val = col.val; rw [h1]; omega

/-- The kernel's third result. -/
theorem result7 : (dats m 0 c).arrAt 7 cfg0.N = third (inputs m c) := by
  funext y
  idx_vars y
  obtain ⟨b, n, rfl⟩ := exists_flat y0
  obtain ⟨j, r, rfl⟩ := exists_tileRow n
  refine Eq.trans ?_ (third_at (inputs m c) b (tileRow j r) y1).symm
  have h := congrFun (Value.blocks7 m c (point b j) (flush0_7 _)) (ix2 r y1)
  rw [View.read_apply, emb7, Value.flushed7] at h
  exact h.trans ((out7_at _ _ _ _ _ _ r y1).trans (proj_at m c b j r _))

theorem emb8 (r : Fin 544) (col : Fin 3072) : ((cfg0.win 8).blk (point b j)).view.emb (ix2 r col) = ix2 (flat b (tileRow j r)) col := by
  obtain ⟨h0, h1⟩ := (atOut b j).2.2.2
  funext a
  apply Fin.ext
  match a with
  | ⟨0, _⟩ => show win0_8.index (point b j) 0 * 544 + 1 * r.val = b.val * 4352 + (j.val * 544 + r.val); rw [h0]; exact tile_val b j r
  | ⟨1, _⟩ => show win0_8.index (point b j) 1 * 3072 + 1 * col.val = col.val; rw [h1]; omega

/-- The kernel's fourth result. -/
theorem result8 : (dats m 0 c).arrAt 8 cfg0.N = fourth (inputs m c) := by
  funext y
  idx_vars y
  obtain ⟨b, n, rfl⟩ := exists_flat y0
  obtain ⟨j, r, rfl⟩ := exists_tileRow n
  refine Eq.trans ?_ (fourth_at (inputs m c) b (tileRow j r) y1).symm
  have h := congrFun (Value.blocks8 m c (point b j) (flush0_8 _)) (ix2 r y1)
  rw [View.read_apply, emb8, Value.flushed8] at h
  exact h.trans ((out8_at _ _ _ _ _ _ r y1).trans (proj_at m c b j r _))

end Reads

end Cert.Project

end
-- ==== Proof.Tables.lean ====
/-
  The modulation tables of all layers: a row of the conditioning through silu, times a layer's weights, plus the layer's bias.
  Grid point `4 * l + j` holds the columns `1536 * j …` of layer `l`.
-/
module

public import proofs.«01_k».proof.Proof.Gen.Reference4Ideal.Run
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Tables

open Idealize.ShloMosaic Idealize.ShloMosaic.TcCoe Idealize.SL.Sem

local notation "𝕀" => Idealize.ShloMosaic.Ideal

/-- The sequences' conditioning, the context's, and the weights and biases of four layers. -/
structure Inputs where
  s : Vec 𝕀 ⟨2, ![8, 1024]⟩ .f32
  x : Vec 𝕀 ⟨1, ![1024]⟩ .f32
  w : Vec 𝕀 ⟨3, ![4, 1024, 6144]⟩ .f32
  b : Vec 𝕀 ⟨2, ![4, 6144]⟩ .f32

/-- Column `n` of a row `v` of the conditioning through silu and layer `l`'s weights, with its bias. -/
def Inputs.entry (I : Inputs) (v : Fin 1024 → EReal) (l : Fin 4) (n : Fin 6144) : EReal :=
  (∑ k, v k * Ideal.logistic (v k) * I.w (ix3 l k n)) + I.b (ix2 l n)

/-! ## The reference -/

section Reference
open Cert.Reference4Ideal Cert.Reference4Ideal.Gen

variable (I : Inputs)

/-- The rows of the conditioning: the sequences', the context's and rows of zeros. -/
def rows : FVec 𝕀 S16x1024 .f32 :=
  concatenate S16x1024 0 [⟨S8x1024, I.s⟩, ⟨S1x1024, broadcastInDim S1x1024 ![1] bcast_S1024_S1x1024_1 I.x⟩,
    ⟨S7x1024, broadcastInDim S7x1024 ![] bcast_S_S7x1024 (constant S_ .f32 0x00000000#32)⟩] concatenates_S8x1024_S1x1024_S7x1024_S16x1024_d0

/-- Rows through silu. -/
def silus (v : FVec 𝕀 S16x1024 .f32) : FVec 𝕀 S16x1024 .f32 :=
  mulf v (Host.divf (broadcastInDim S16x1024 ![] bcast_S_S16x1024 (constant S_ .f32 0x3F800000#32))
    (addf (broadcastInDim S16x1024 ![] bcast_S_S16x1024 (constant S_ .f32 0x3F800000#32)) (Host.exp (Host.negf v))))

theorem silus_at (v : FVec 𝕀 S16x1024 .f32) (r : Fin 16) (k : Fin 1024) : silus v (ix2 r k) = v (ix2 r k) * Ideal.logistic (v (ix2 r k)) := by
  pointwise [silus, Ideal.logistic]

/-- One layer's tables. -/
def table (o : Fin 3 → ℕ) (h : S4x1024x6144.Slices o S1x1024x6144) (p : Fin 2 → ℕ) (h' : S4x6144.Slices p S1x6144) (v : FVec 𝕀 S16x1024 .f32) : FVec 𝕀 S1x16x6144 .f32 :=
  broadcastInDim S1x16x6144 ![1, 2] bcast_S16x6144_S1x16x6144_1_2 (addf (Host.dotGeneral dot_S16x1024_S1024x6144_S16x6144_1_0_0_1_n_n none v
      (shapeCast S1024x6144 (extractStridedSlice S1x1024x6144 o (I.w : FVec 𝕀 S4x1024x6144 .f32) h : FVec 𝕀 S1x1024x6144 .f32) shapeCasts_S1x1024x6144_S1024x6144 : FVec 𝕀 S1024x6144 .f32))
    (broadcastInDim S16x6144 ![0, 1] bcast_S1x6144_S16x6144_0_1 (broadcastInDim S1x6144 ![1] bcast_S6144_S1x6144_1 (shapeCast S6144 (extractStridedSlice S1x6144 p (I.b : FVec 𝕀 S4x6144 .f32) h' : FVec 𝕀 S1x6144 .f32) shapeCasts_S1x6144_S6144))))

/-- Four layers' tables on one axis. -/
def stack (t0 t1 t2 t3 : FVec 𝕀 S1x16x6144 .f32) : FVec 𝕀 S4x16x6144 .f32 :=
  concatenate S4x16x6144 0 [⟨S1x16x6144, t0⟩, ⟨S1x16x6144, t1⟩, ⟨S1x16x6144, t2⟩, ⟨S1x16x6144, t3⟩] concatenates_S1x16x6144_S1x16x6144_S1x16x6144_S1x16x6144_S4x16x6144_d0

/-- The reference's result. -/
def result : FVec 𝕀 S4x16x6144 .f32 :=
  stack (table I ![0, 0, 0] slices_S4x1024x6144_S1x1024x6144_0_0_0 ![0, 0] slices_S4x6144_S1x6144_0_0 (silus (rows I)))
    (table I ![1, 0, 0] slices_S4x1024x6144_S1x1024x6144_1_0_0 ![1, 0] slices_S4x6144_S1x6144_1_0 (silus (rows I)))
    (table I ![2, 0, 0] slices_S4x1024x6144_S1x1024x6144_2_0_0 ![2, 0] slices_S4x6144_S1x6144_2_0 (silus (rows I)))
    (table I ![3, 0, 0] slices_S4x1024x6144_S1x1024x6144_3_0_0 ![3, 0] slices_S4x6144_S1x6144_3_0 (silus (rows I)))

theorem table_at (l : Fin 4) (h : S4x1024x6144.Slices ![l.val, 0, 0] S1x1024x6144) (h' : S4x6144.Slices ![l.val, 0] S1x6144) (v : FVec 𝕀 S16x1024 .f32)
    (r : Fin 16) (n : Fin 6144) : table I ![l.val, 0, 0] h ![l.val, 0] h' v (ix3 0 r n) = (∑ k, v (ix2 r k) * I.w (ix3 l k n)) + I.b (ix2 l n) := by
  pointwise [table]

theorem stack_at (t : Fin 4 → FVec 𝕀 S1x16x6144 .f32) (l : Fin 4) (r : Fin 16) (n : Fin 6144) :
    stack (t 0) (t 1) (t 2) (t 3) (ix3 l r n) = t l (ix3 0 r n) := by
  fin_cases l <;> pointwise [stack]

theorem result_at (l : Fin 4) (r : Fin 16) (n : Fin 6144) : result I (ix3 l r n) = I.entry (fun k => rows I (ix2 r k)) l n := by
  have e : ∀ l : Fin 4, ∀ h h', table I ![l.val, 0, 0] h ![l.val, 0] h' (silus (rows I)) (ix3 0 r n) = I.entry (fun k => rows I (ix2 r k)) l n := fun l h h' => by
    rw [table_at]
    simp only [silus_at, Inputs.entry]
  have s : ∀ l : Fin 4, S4x1024x6144.Slices ![l.val, 0, 0] S1x1024x6144 ∧ S4x6144.Slices ![l.val, 0] S1x6144 := by decide
  exact (stack_at (fun l => table I ![l.val, 0, 0] (s l).1 ![l.val, 0] (s l).2 (silus (rows I))) l r n).trans (e l _ _)

/-- The reference's inputs. -/
def refInputs (m : (ℓ : Loc nD τ sig) → Buf (Elt 𝕀) ℓ) (c : Dev nD) : Inputs where
  s := m ((c.tc : Thread nD τ).loc main_arg0)
  x := m ((c.tc : Thread nD τ).loc main_arg1)
  w := m ((c.tc : Thread nD τ).loc main_arg2)
  b := m ((c.tc : Thread nD τ).loc main_arg3)

/-- The reference ends with the tables and its arguments as they were. -/
theorem ref_run (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v43) = result (refInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Cert.Reference4Ideal.Value.run m ρ)

end Reference

/-! ## The kernel -/

section Kernel
open Cert.Kernel4Ideal Cert.Kernel4Ideal.Gen

/-- Grid point `j` of layer `l`. -/
def point (l j : Fin 4) : Fin cfg0.N := ⟨4 * l.val + j.val, by have h : cfg0.N = 16 := N_0; omega⟩

/-- Column `q` of tile `j`. -/
def tileCol (j : Fin 4) (q : Fin 1536) : Fin 6144 := ⟨j.val * 1536 + q.val, by omega⟩

theorem exists_tileCol (n : Fin 6144) : ∃ j q, n = tileCol j q :=
  ⟨⟨n.val / 1536, by omega⟩, ⟨n.val % 1536, by omega⟩, Fin.ext (by simp only [tileCol]; omega)⟩

theorem tile_at (v : Vec 𝕀 S16x1024 .f32) (w : Vec 𝕀 S1x1024x1536 .f32) (b : Vec 𝕀 S1x1x1536 .f32) (r : Fin 16) (q : Fin 1536) :
    k0_pay1 v w b (ix3 0 r q) = (∑ k, v (ix2 r k) * Ideal.logistic (v (ix2 r k)) * w (ix3 0 k q)) + b (ix3 0 0 q) := by
  pointwise [k0_pay1]

theorem out_at (v : Vec 𝕀 S16x1024 .f32) (w : Vec 𝕀 S1x1024x1536 .f32) (b : Vec 𝕀 S1x1x1536 .f32) (r : Fin 16) (q : Fin 1536) :
    out0_3 v w b (ix3 0 r q) = (∑ k, v (ix2 r k) * Ideal.logistic (v (ix2 r k)) * w (ix3 0 k q)) + b (ix3 0 0 q) := by
  have e : r0_3.emb (ix3 0 r q) = ix3 0 r q := by
    funext a; apply Fin.ext; fin_cases a <;> simp [ix3]
  have e0 : View.ld v r0_0 = v := by funext y; idx_vars y; pointwise
  have e1 : View.ld w r0_1 = w := by funext y; idx_vars y; obtain rfl : y0 = 0 := Subsingleton.elim _ _; pointwise
  have e2 : View.ld b r0_2 = b := by
    funext y; idx_vars y; obtain rfl : y0 = 0 := Subsingleton.elim _ _; obtain rfl : y1 = 0 := Subsingleton.elim _ _; pointwise
  unfold out0_3
  refine (congrArg (View.canon _) e.symm).trans ((View.canon_cons_emb r0_3 _ [] (ix3 0 r q)).trans ?_)
  rw [e0, e1, e2]
  exact tile_at v w b r q

theorem at0 : ∀ l j : Fin 4, win0_0.index (point l j) 0 = 0 ∧ win0_0.index (point l j) 1 = 0 := by decide +kernel
theorem at1 : ∀ l j : Fin 4, win0_1.index (point l j) 0 = l.val ∧ win0_1.index (point l j) 1 = 0 ∧ win0_1.index (point l j) 2 = j.val := by decide +kernel
theorem at2 : ∀ l j : Fin 4, win0_2.index (point l j) 0 = l.val ∧ win0_2.index (point l j) 1 = 0 ∧ win0_2.index (point l j) 2 = j.val := by decide +kernel
theorem at3 : ∀ l j : Fin 4, win0_3.index (point l j) 0 = l.val ∧ win0_3.index (point l j) 1 = 0 ∧ win0_3.index (point l j) 2 = j.val := by decide +kernel

variable (m : (ℓ : Loc nD τ sig) → Buf (Elt 𝕀) ℓ) (c : Dev nD) (l j : Fin 4)

/-- The kernel's inputs. -/
def inputs : Inputs where
  s := m ((c.tc : Thread nD τ).loc main_arg0)
  x := m ((c.tc : Thread nD τ).loc main_arg1)
  w := m ((c.tc : Thread nD τ).loc main_arg2)
  b := m ((c.tc : Thread nD τ).loc main_arg3)

theorem entry_rows : V m c main_v2 = rows (inputs m c) := by
  rfl

theorem block0 (r : Fin 16) (k : Fin 1024) : iblk m c 0 (point l j) (ix2 r k) = V m c main_v2 (ix2 r k) := by
  have h := at0 l j
  blk_ext! [iblk, h]

theorem block1 (k : Fin 1024) (q : Fin 1536) : iblk m c 1 (point l j) (ix3 0 k q) = (inputs m c).w (ix3 l k (tileCol j q)) := by
  have h := at1 l j
  blk_ext! [iblk, V, h, inputs, tileCol]

theorem block2 (q : Fin 1536) : iblk m c 2 (point l j) (ix3 0 0 q) = (inputs m c).b (ix2 l (tileCol j q)) := by
  have h := at2 l j
  blk_ext! [iblk, V, h, inputs, tileCol]

theorem emb3 (r : Fin 16) (q : Fin 1536) : ((cfg0.win 3).blk (point l j)).view.emb (ix3 0 r q) = ix3 l r (tileCol j q) := by
  obtain ⟨h0, h1, h2⟩ := at3 l j
  funext a
  apply Fin.ext
  match a with
  | ⟨0, _⟩ => show win0_3.index (point l j) 0 * 1 + 1 * 0 = l.val; rw [h0]; omega
  | ⟨1, _⟩ => show win0_3.index (point l j) 1 * 16 + 1 * r.val = r.val; rw [h1]; omega
  | ⟨2, _⟩ => show win0_3.index (point l j) 2 * 1536 + 1 * q.val = j.val * 1536 + q.val; rw [h2]; omega

/-- The kernel's result. -/
theorem result3 : (dats m 0 c).arrAt 3 cfg0.N = result (inputs m c) := by
  funext y
  idx_vars y
  obtain ⟨j, q, rfl⟩ := exists_tileCol y2
  refine Eq.trans ?_ (result_at (inputs m c) y0 y1 (tileCol j q)).symm
  have h := congrFun (Value.blocks3 m c (point y0 j) (flush0_3 _)) (ix3 0 y1 q)
  rw [View.read_apply, emb3, Value.flushed3] at h
  refine h.trans ((out_at _ _ _ y1 q).trans ?_)
  have e : ∀ k, iblk m c 0 (point y0 j) (ix2 y1 k) = rows (inputs m c) (ix2 y1 k) := fun k =>
    (block0 m c y0 j y1 k).trans (congrFun (entry_rows m c) _)
  simp only [e, block1, block2, Inputs.entry]

end Kernel

end Cert.Tables

end
-- ==== Proof.Combine.lean ====
/-
  The last call of a layer: each token's two experts' outputs, weighted, added up and, scaled by the modulation tables' last row,
  added to the token's row. Grid point `8 * b + j` holds rows `544 * j …` of sequence `b`; a token's outputs are sixteen lines of
  128 lanes, eight for each expert.
-/
module

public import proofs.«01_k».proof.Proof.ProjectKernel
public import proofs.«01_k».proof.Proof.Gen.Reference5Ideal.Run
public import proofs.«01_k».proof.Proof.Gen.Kernel5Ideal.Value

@[expose] public section

set_option maxRecDepth 16384

noncomputable section

namespace Cert.Combine

open Idealize.ShloMosaic Idealize.ShloMosaic.TcCoe Idealize.SL.Sem
open Cert.Project (flat exists_flat tileRow exists_tileRow isCtx tileWord tile_val)

local notation "𝕀" => Idealize.ShloMosaic.Ideal

/-! ## The mathematics -/

/-- The rows, the experts' outputs in lines of 128, the routing table and the two modulation tables. -/
structure Inputs where
  x : Vec 𝕀 ⟨2, ![34816, 1024]⟩ .f32
  y : Vec 𝕀 ⟨2, ![558848, 128]⟩ .f32
  rt : Vec 𝕀 ⟨2, ![34816, 128]⟩ .f32
  modL : Vec 𝕀 ⟨3, ![8, 6, 1024]⟩ .f32
  modC : Vec 𝕀 ⟨3, ![1, 6, 1024]⟩ .f32

/-- The line of the outputs that holds channel `k` of expert `a` of token `n`. -/
def line (n : Fin 34816) (a : Fin 2) (k : Fin 1024) : Fin 558848 := ⟨(n.val * 2 + a.val) * 8 + k.val / 128, by omega⟩
/-- The lane of a channel. -/
def lane (k : Fin 1024) : Fin 128 := ⟨k.val % 128, by omega⟩

namespace Inputs
variable (I : Inputs)

/-- Channel `k` of the output of expert `a` of token `n`. -/
def expert (n : Fin 34816) (a : Fin 2) (k : Fin 1024) : EReal := I.y (ix2 (line n a k) (lane k))
/-- The weighted outputs of a token's two experts. -/
def mixed (n : Fin 34816) (k : Fin 1024) : EReal := I.rt (ix2 n 0) * I.expert n 0 k + I.rt (ix2 n 1) * I.expert n 1 k
/-- The last row of the modulation table of row `n` of sequence `b`: the context comes first. -/
def scale (b : Fin 8) (n : Fin 4352) (k : Fin 1024) : EReal := if n.val < 256 then I.modC (ix3 0 5 k) else I.modL (ix3 b 5 k)
/-- The new row. -/
def new (b : Fin 8) (n : Fin 4352) (k : Fin 1024) : EReal := I.x (ix2 (flat b n) k) + I.scale b n k * I.mixed (flat b n) k

end Inputs

/-! ## The reference -/

section Reference
open Cert.Reference5Ideal Cert.Reference5Ideal.Gen

/-- The outputs, token by token and expert by expert. -/
def pairs (y : Vec 𝕀 S558848x128 .f32) : FVec 𝕀 S34816x2x1024 .f32 :=
  shapeCast S34816x2x1024 (extractStridedSlice S557056x128 ![0, 0] y slices_S558848x128_S557056x128_0_0) shapeCasts_S557056x128_S34816x2x1024

theorem pairs_at (y : Vec 𝕀 S558848x128 .f32) (n : Fin 34816) (a : Fin 2) (k : Fin 1024) : pairs y (ix3 n a k) = y (ix2 (line n a k) (lane k)) := by
  pointwise [pairs, line, lane]
  exact congrArg y (congrArg (ix2 · _) (Fin.ext (by simp only []; omega)))

/-- The weighted sums. -/
def sums (u : FVec 𝕀 S34816x2x1024 .f32) (rt : Vec 𝕀 S34816x128 .f32) : FVec 𝕀 S34816x1024 .f32 :=
  Host.reduceAdd (mulf u (broadcastInDim S34816x2x1024 ![0, 1, 2] bcast_S34816x2x1_S34816x2x1024_0_1_2 (broadcastInDim S34816x2x1 ![0, 1] bcast_S34816x2_S34816x2x1_0_1
    (extractStridedSlice S34816x2 ![0, 0] rt slices_S34816x128_S34816x2_0_0)))) (constant S_ .f32 0x00000000#32) reducesTo_S34816x2x1024_S34816x1024_d1 h_S_

theorem sums_at (u : FVec 𝕀 S34816x2x1024 .f32) (rt : Vec 𝕀 S34816x128 .f32) (n : Fin 34816) (k : Fin 1024) :
    sums u rt (ix2 n k) = ∑ a : Fin 2, u (ix3 n a k) * rt (ix2 n ⟨a.val, by omega⟩) := by
  pointwise [sums]

/-- Rows by sequence. -/
def seqs (v : FVec 𝕀 S34816x1024 .f32) : FVec 𝕀 S8x4352x1024 .f32 := shapeCast S8x4352x1024 v shapeCasts_S34816x1024_S8x4352x1024

theorem seqs_at (v : FVec 𝕀 S34816x1024 .f32) (b : Fin 8) (n : Fin 4352) (k : Fin 1024) : seqs v (ix3 b n k) = v (ix2 (flat b n) k) := by
  pointwise [seqs, flat]

/-- The context's new rows. -/
def ctxRows (x y : FVec 𝕀 S8x4352x1024 .f32) (modC : Vec 𝕀 S1x6x1024 .f32) : FVec 𝕀 S8x256x1024 .f32 :=
  addf (extractStridedSlice S8x256x1024 ![0, 0, 0] x slices_S8x4352x1024_S8x256x1024_0_0_0)
    (mulf (broadcastInDim S8x256x1024 ![0, 1, 2] bcast_S1x1x1024_S8x256x1024_0_1_2 (broadcastInDim S1x1x1024 ![2] bcast_S1024_S1x1x1024_2
        (shapeCast S1024 (extractStridedSlice S1x1024 ![5, 0] (shapeCast S6x1024 modC shapeCasts_S1x6x1024_S6x1024) slices_S6x1024_S1x1024_5_0) shapeCasts_S1x1024_S1024)))
      (extractStridedSlice S8x256x1024 ![0, 0, 0] y slices_S8x4352x1024_S8x256x1024_0_0_0))

theorem ctxRows_at (x y : FVec 𝕀 S8x4352x1024 .f32) (modC : Vec 𝕀 S1x6x1024 .f32) (b : Fin 8) (n : Fin 256) (k : Fin 1024) :
    ctxRows x y modC (ix3 b n k) = x (ix3 b ⟨n.val, by omega⟩ k) + modC (ix3 0 5 k) * y (ix3 b ⟨n.val, by omega⟩ k) := by
  pointwise [ctxRows]

/-- The latent new rows. -/
def latRows (x y : FVec 𝕀 S8x4352x1024 .f32) (modL : Vec 𝕀 S8x6x1024 .f32) : FVec 𝕀 S8x4096x1024 .f32 :=
  addf (extractStridedSlice S8x4096x1024 ![0, 256, 0] x slices_S8x4352x1024_S8x4096x1024_0_256_0)
    (mulf (broadcastInDim S8x4096x1024 ![0, 1, 2] bcast_S8x1x1024_S8x4096x1024_0_1_2
        (shapeCast S8x1x1024 (extractStridedSlice S8x1x1x1024 ![0, 5, 0, 0] (broadcastInDim S8x6x1x1024 ![0, 1, 3] bcast_S8x6x1024_S8x6x1x1024_0_1_3 modL) slices_S8x6x1x1024_S8x1x1x1024_0_5_0_0) shapeCasts_S8x1x1x1024_S8x1x1024))
      (extractStridedSlice S8x4096x1024 ![0, 256, 0] y slices_S8x4352x1024_S8x4096x1024_0_256_0))

theorem latRows_at (x y : FVec 𝕀 S8x4352x1024 .f32) (modL : Vec 𝕀 S8x6x1024 .f32) (b : Fin 8) (n : Fin 4096) (k : Fin 1024) :
    latRows x y modL (ix3 b n k) = x (ix3 b ⟨256 + n.val, by omega⟩ k) + modL (ix3 b 5 k) * y (ix3 b ⟨256 + n.val, by omega⟩ k) := by
  pointwise [latRows]

/-- Context and latent rows, the rows of all sequences on one axis. -/
def joined (u : FVec 𝕀 S8x256x1024 .f32) (v : FVec 𝕀 S8x4096x1024 .f32) : FVec 𝕀 S34816x1024 .f32 :=
  shapeCast S34816x1024 (concatenate S8x4352x1024 1 [⟨S8x256x1024, u⟩, ⟨S8x4096x1024, v⟩] concatenates_S8x256x1024_S8x4096x1024_S8x4352x1024_d1) shapeCasts_S8x4352x1024_S34816x1024

theorem joined_at (u : FVec 𝕀 S8x256x1024 .f32) (v : FVec 𝕀 S8x4096x1024 .f32) (b : Fin 8) (n : Fin 4352) (k : Fin 1024) :
    joined u v (ix2 (flat b n) k) = if h : n.val < 256 then u (ix3 b ⟨n.val, h⟩ k) else v (ix3 b ⟨n.val - 256, by omega⟩ k) := by
  pointwise [joined, flat]

variable (I : Inputs)

/-- The reference's result. -/
def result : FVec 𝕀 S34816x1024 .f32 :=
  joined (ctxRows (seqs I.x) (seqs (sums (pairs I.y) I.rt)) I.modC) (latRows (seqs I.x) (seqs (sums (pairs I.y) I.rt)) I.modL)

theorem mixed_at (n : Fin 34816) (k : Fin 1024) : sums (pairs I.y) I.rt (ix2 n k) = I.mixed n k := by
  rw [sums_at, Fin.sum_univ_two, pairs_at, pairs_at]
  unfold Inputs.mixed
  rw [mul_comm (I.rt (ix2 n 0)), mul_comm (I.rt (ix2 n 1))]
  rfl

theorem result_at (b : Fin 8) (n : Fin 4352) (k : Fin 1024) : result I (ix2 (flat b n) k) = I.new b n k := by
  refine (joined_at _ _ b n k).trans ?_
  unfold Inputs.new Inputs.scale
  by_cases h : n.val < 256
  · rw [dif_pos h, if_pos h, ctxRows_at, seqs_at, seqs_at, mixed_at]
  · have e : (⟨256 + (n.val - 256), by omega⟩ : Fin 4352) = n := Fin.ext (by simp only []; omega)
    rw [dif_neg h, if_neg h, latRows_at, e, seqs_at, seqs_at, mixed_at]

/-- The reference's inputs. -/
def refInputs (m : (ℓ : Loc nD τ sig) → Buf (Elt 𝕀) ℓ) (c : Dev nD) : Inputs where
  x := m ((c.tc : Thread nD τ).loc main_arg0)
  y := m ((c.tc : Thread nD τ).loc main_arg1)
  rt := m ((c.tc : Thread nD τ).loc main_arg2)
  modL := m ((c.tc : Thread nD τ).loc main_arg3)
  modC := m ((c.tc : Thread nD τ).loc main_arg4)

/-- The reference ends with the new rows and its arguments as they were. -/
theorem ref_run (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v27) = result (refInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.Reference5Ideal.Value.run m ρ)

end Reference

/-! ## The kernel's tile -/

section Kernel
open Cert.Kernel5Ideal Cert.Kernel5Ideal.Gen

/-- Grid point `j` of sequence `b`. -/
def point (b j : Fin 8) : Fin cfg0.N := ⟨8 * b.val + j.val, by have h : cfg0.N = 64 := N_0; omega⟩

theorem tileWord_point : ∀ b j : Fin 8, tileWord (BitVec.ofNat 32 (grid0.coords (point b j) 0).val) = BitVec.ofNat 32 (j.val * 544) := by
  decide +kernel

theorem mask_at (b j : Fin 8) (r : Fin 544) : k0_pay2 (grid0.coords (point b j)) (ix2 r 0) = BitVec.ofBool (isCtx j r) := by
  have h := tileWord_point b j
  pointwise [k0_pay2]
  show IntOp.cmpi .slt (IntOp.addi (tileWord (BitVec.ofNat 32 (grid0.coords (point b j) 0).val)) (BitVec.ofNat 32 r.val)) 256#32 = _
  rw [h]
  clear h
  revert j r
  decide +kernel

/-- Eight columns of 128 lanes side by side. -/
theorem side_at (v : Fin 8 → Vec 𝕀 S544x128 .f32) (r : Fin 544) (q : Fin 8) (l : Fin 128) :
    k0_pay3 (v 0) (v 1) (v 2) (v 3) (v 4) (v 5) (v 6) (v 7) (ix2 r ⟨q.val * 128 + l.val, by omega⟩) = v q (ix2 r l) := by
  fin_cases q <;> pointwise [k0_pay3] <;> try
    (repeat rw [dif_neg (by omega)]
     try rw [dif_pos (by omega)]
     exact congrArg (v _) (congrArg (ix2 r · ) (Fin.ext (by simp only []; omega))))

theorem tile_at (p : IVec S544x1 1) (rt : Vec 𝕀 S544x128 .f32) (u : FVec 𝕀 S544x1024 .f32) (v0 v1 v2 v3 v4 v5 v6 v7 : Vec 𝕀 S544x128 .f32) (x : Vec 𝕀 S544x1024 .f32)
    (hc hl : Vec 𝕀 S1x1x1024 .f32) (c : Bool) (r : Fin 544) (k : Fin 1024) (hp : p (ix2 r 0) = BitVec.ofBool c) :
    k0_pay1 p rt u v0 v1 v2 v3 v4 v5 v6 v7 x hc hl (ix2 r k)
      = x (ix2 r k) + (if c = true then hc (ix3 0 0 k) else hl (ix3 0 0 k)) * (rt (ix2 r 0) * u (ix2 r k) + rt (ix2 r 1) * k0_pay3 v0 v1 v2 v3 v4 v5 v6 v7 (ix2 r k)) := by
  unfold k0_pay1 k0_pay3
  generalize concatenate S544x1024 1 [⟨S544x128, v0⟩, ⟨S544x128, v1⟩, ⟨S544x128, v2⟩, ⟨S544x128, v3⟩, ⟨S544x128, v4⟩, ⟨S544x128, v5⟩, ⟨S544x128, v6⟩, ⟨S544x128, v7⟩] concatenates_S544x128_S544x128_S544x128_S544x128_S544x128_S544x128_S544x128_S544x128_S544x1024_d1 = w
  pointwise
  rw [hp, Cert.KernelIdeal.Read.select_ofBool]

/-! ## What a point stores -/

/-- The rectangle of every sixteenth line from line `o` on. -/
def stride (o : Fin 16) : LoadRect S8704x128 :=
  ⟨![o.val, 0], S544x128.size, ![16, 1], by revert o; decide⟩

/-- Every sixteenth line from line `o` on. -/
def lines (x : Vec 𝕀 S8704x128 .f32) (o : Fin 16) : Vec 𝕀 S544x128 .f32 := fun z => x ((stride o).idx z)

theorem lines_at (x : Vec 𝕀 S8704x128 .f32) (o : Fin 16) (r : Fin 544) (l : Fin 128) :
    lines x o (ix2 r l) = x (ix2 ⟨16 * r.val + o.val, by omega⟩ l) := by
  refine congrArg x (funext fun a => Fin.ext ?_)
  match a with
  | ⟨0, _⟩ => show o.val + 16 * r.val = 16 * r.val + o.val; omega
  | ⟨1, _⟩ => show 0 + 1 * l.val = l.val; omega

/-- The last row of a modulation table. -/
def lastRow (x : Vec 𝕀 S1x6x1024 .f32) : Vec 𝕀 S1x1x1024 .f32 :=
  fun z => x ((Rect.unit (s := S1x6x1024) ![0, 5, 0] S1x1x1024.size inb_S1x6x1024_S1x1x1024_0_5_0).toLoadRect.idx z)

theorem lastRow_at (x : Vec 𝕀 S1x6x1024 .f32) (k : Fin 1024) : lastRow x (ix3 0 0 k) = x (ix3 0 5 k) := by
  refine congrArg x (funext fun a => Fin.ext ?_)
  match a with
  | ⟨0, _⟩ => rfl
  | ⟨1, _⟩ => rfl
  | ⟨2, _⟩ => show 0 + 1 * k.val = k.val; omega

theorem canon_whole (p : Vec 𝕀 S544x1024 .f32) (r : Fin 544) (k : Fin 1024) :
    View.canon (Val := Elt 𝕀) [⟨Rect.unit (s := S544x1024) ![0, 0] S544x1024.size inb_S544x1024_S544x1024_0_0, p⟩] (ix2 r k) = p (ix2 r k) := by
  have e : (Rect.unit (s := S544x1024) ![0, 0] S544x1024.size inb_S544x1024_S544x1024_0_0).emb (ix2 r k) = ix2 r k := by
    funext a; apply Fin.ext; fin_cases a <;> simp [ix2]
  exact (congrArg (View.canon (Val := Elt 𝕀) [⟨Rect.unit (s := S544x1024) ![0, 0] S544x1024.size inb_S544x1024_S544x1024_0_0, p⟩]) e.symm).trans
    (View.canon_cons_emb (Val := Elt 𝕀) (Rect.unit (s := S544x1024) ![0, 0] S544x1024.size inb_S544x1024_S544x1024_0_0) p [] (ix2 r k))

section Stores
variable (c : Dev nD) (i : grid0.Coords)
  (arg1 : Memref sig .tc .vmem S544x1024 .f32) (harg1 : arg1.IsWhole)
  (arg2 : Memref sig .tc .vmem S8704x128 .f32) (harg2 : arg2.IsWhole)
  (arg3 : Memref sig .tc .vmem S544x128 .f32) (harg3 : arg3.IsWhole)
  (arg4 : Memref sig .tc .vmem S1x6x1024 .f32) (harg4 : arg4.IsWhole)
  (arg5 : Memref sig .tc .vmem S1x6x1024 .f32) (harg5 : arg5.IsWhole)
  (arg6 : Memref sig .tc .vmem S544x1024 .f32) (harg6 : arg6.IsWhole)
  (x0 : Vec 𝕀 S544x1024 .f32) (x1 : Vec 𝕀 S8704x128 .f32) (x2 : Vec 𝕀 S544x128 .f32) (x3 x4 : Vec 𝕀 S1x6x1024 .f32)

theorem read_lines (o : Fin 16) : arg2.view.readAt (Elt 𝕀) (stride o) (harg2.unread x1) = lines x1 o := by
  funext z; rw [View.readAt_apply, harg2.read_unread]; rfl

theorem stores_eq : (kernelRun0_A c i arg1 harg1 arg2 harg2 arg3 harg3 arg4 harg4 arg5 harg5 arg6 harg6 x0 x1 x2 x3 x4).1
    = [⟨Rect.unit (s := S544x1024) ![0, 0] S544x1024.size inb_S544x1024_S544x1024_0_0,
        k0_pay1 (k0_pay2 i) (arg3.view.readAt (Elt 𝕀) (Rect.unit (s := S544x128) ![0, 0] S544x128.size inb_S544x128_S544x128_0_0).toLoadRect (harg3.unread x2))
          (k0_pay3 (arg2.view.readAt (Elt 𝕀) (stride 0) (harg2.unread x1)) (arg2.view.readAt (Elt 𝕀) (stride 1) (harg2.unread x1)) (arg2.view.readAt (Elt 𝕀) (stride 2) (harg2.unread x1)) (arg2.view.readAt (Elt 𝕀) (stride 3) (harg2.unread x1)) (arg2.view.readAt (Elt 𝕀) (stride 4) (harg2.unread x1)) (arg2.view.readAt (Elt 𝕀) (stride 5) (harg2.unread x1)) (arg2.view.readAt (Elt 𝕀) (stride 6) (harg2.unread x1)) (arg2.view.readAt (Elt 𝕀) (stride 7) (harg2.unread x1)))
          (arg2.view.readAt (Elt 𝕀) (stride 8) (harg2.unread x1)) (arg2.view.readAt (Elt 𝕀) (stride 9) (harg2.unread x1)) (arg2.view.readAt (Elt 𝕀) (stride 10) (harg2.unread x1)) (arg2.view.readAt (Elt 𝕀) (stride 11) (harg2.unread x1)) (arg2.view.readAt (Elt 𝕀) (stride 12) (harg2.unread x1)) (arg2.view.readAt (Elt 𝕀) (stride 13) (harg2.unread x1)) (arg2.view.readAt (Elt 𝕀) (stride 14) (harg2.unread x1)) (arg2.view.readAt (Elt 𝕀) (stride 15) (harg2.unread x1))
          (arg1.view.readAt (Elt 𝕀) (Rect.unit (s := S544x1024) ![0, 0] S544x1024.size inb_S544x1024_S544x1024_0_0).toLoadRect (harg1.unread x0))
          (arg5.view.readAt (Elt 𝕀) (Rect.unit (s := S1x6x1024) ![0, 5, 0] S1x1x1024.size inb_S1x6x1024_S1x1x1024_0_5_0).toLoadRect (harg5.unread x4))
          (arg4.view.readAt (Elt 𝕀) (Rect.unit (s := S1x6x1024) ![0, 5, 0] S1x1x1024.size inb_S1x6x1024_S1x1x1024_0_5_0).toLoadRect (harg4.unread x3))⟩] := by
  unfold kernelRun0_A
  rfl

theorem stored_at (r : Fin 544) (k : Fin 1024) : out0_A_5 c i arg1 harg1 arg2 harg2 arg3 harg3 arg4 harg4 arg5 harg5 arg6 harg6 x0 x1 x2 x3 x4 (ix2 r k)
    = k0_pay1 (k0_pay2 i) x2 (k0_pay3 (lines x1 0) (lines x1 1) (lines x1 2) (lines x1 3) (lines x1 4) (lines x1 5) (lines x1 6) (lines x1 7)) (lines x1 8) (lines x1 9) (lines x1 10) (lines x1 11) (lines x1 12) (lines x1 13) (lines x1 14) (lines x1 15) x0 (lastRow x4) (lastRow x3) (ix2 r k) := by
  have e1 : arg1.view.readAt (Elt 𝕀) (Rect.unit (s := S544x1024) ![0, 0] S544x1024.size inb_S544x1024_S544x1024_0_0).toLoadRect (harg1.unread x0) = x0 := by
    funext z; rw [View.readAt_apply, harg1.read_unread]
    refine congrArg x0 (funext fun a => Fin.ext ?_)
    match a with
    | ⟨0, _⟩ => show 0 + 1 * (z 0).val = (z 0).val; omega
    | ⟨1, _⟩ => show 0 + 1 * (z 1).val = (z 1).val; omega
  have e3 : arg3.view.readAt (Elt 𝕀) (Rect.unit (s := S544x128) ![0, 0] S544x128.size inb_S544x128_S544x128_0_0).toLoadRect (harg3.unread x2) = x2 := by
    funext z; rw [View.readAt_apply, harg3.read_unread]
    refine congrArg x2 (funext fun a => Fin.ext ?_)
    match a with
    | ⟨0, _⟩ => show 0 + 1 * (z 0).val = (z 0).val; omega
    | ⟨1, _⟩ => show 0 + 1 * (z 1).val = (z 1).val; omega
  have e4 : arg4.view.readAt (Elt 𝕀) (Rect.unit (s := S1x6x1024) ![0, 5, 0] S1x1x1024.size inb_S1x6x1024_S1x1x1024_0_5_0).toLoadRect (harg4.unread x3) = lastRow x3 := by
    funext z; rw [View.readAt_apply, harg4.read_unread]; rfl
  have e5 : arg5.view.readAt (Elt 𝕀) (Rect.unit (s := S1x6x1024) ![0, 5, 0] S1x1x1024.size inb_S1x6x1024_S1x1x1024_0_5_0).toLoadRect (harg5.unread x4) = lastRow x4 := by
    funext z; rw [View.readAt_apply, harg5.read_unread]; rfl
  unfold out0_A_5
  rw [View.read_writes_junk_eq_canon VO0_5, stores_eq]
  refine (canon_whole _ r k).trans ?_
  rw [e1, e3, e4, e5]
  simp only [read_lines]

end Stores

/-! ## The blocks -/

variable (m : (ℓ : Loc nD τ sig) → Buf (Elt 𝕀) ℓ) (c : Dev nD) (b j : Fin 8)

/-- The kernel's inputs. -/
def inputs : Inputs where
  x := m ((c.tc : Thread nD τ).loc main_arg0)
  y := m ((c.tc : Thread nD τ).loc main_arg1)
  rt := m ((c.tc : Thread nD τ).loc main_arg2)
  modL := m ((c.tc : Thread nD τ).loc main_arg3)
  modC := m ((c.tc : Thread nD τ).loc main_arg4)

theorem at0 : ∀ b j : Fin 8, win0_0.index (point b j) 0 = 8 * b.val + j.val ∧ win0_0.index (point b j) 1 = 0 := by decide +kernel
theorem at1 : ∀ b j : Fin 8, win0_1.index (point b j) 0 = 8 * b.val + j.val ∧ win0_1.index (point b j) 1 = 0 := by decide +kernel
theorem at2 : ∀ b j : Fin 8, win0_2.index (point b j) 0 = 8 * b.val + j.val ∧ win0_2.index (point b j) 1 = 0 := by decide +kernel
theorem at3 : ∀ b j : Fin 8, win0_3.index (point b j) 0 = b.val ∧ win0_3.index (point b j) 1 = 0 ∧ win0_3.index (point b j) 2 = 0 := by decide +kernel
theorem at4 : ∀ b j : Fin 8, win0_4.index (point b j) 0 = 0 ∧ win0_4.index (point b j) 1 = 0 ∧ win0_4.index (point b j) 2 = 0 := by decide +kernel
theorem at5 : ∀ b j : Fin 8, win0_5.index (point b j) 0 = 8 * b.val + j.val ∧ win0_5.index (point b j) 1 = 0 := by decide +kernel

theorem block0 (r : Fin 544) (k : Fin 1024) : iblk m c 0 (point b j) (ix2 r k) = (inputs m c).x (ix2 (flat b (tileRow j r)) k) := by
  have h := at0 b j
  blk_ext! [iblk, V, h, inputs, flat, tileRow]
theorem block2 (r : Fin 544) (l : Fin 128) : iblk m c 2 (point b j) (ix2 r l) = (inputs m c).rt (ix2 (flat b (tileRow j r)) l) := by
  have h := at2 b j
  blk_ext! [iblk, V, h, inputs, flat, tileRow]
theorem block3 (a : Fin 6) (k : Fin 1024) : iblk m c 3 (point b j) (ix3 0 a k) = (inputs m c).modL (ix3 b a k) := by
  have h := at3 b j
  blk_ext! [iblk, V, h, inputs]
theorem block4 (a : Fin 6) (k : Fin 1024) : iblk m c 4 (point b j) (ix3 0 a k) = (inputs m c).modC (ix3 0 a k) := by
  have h := at4 b j
  blk_ext! [iblk, V, h, inputs]

/-- The outputs' lines of a tile's row, expert by expert. -/
theorem block1 (r : Fin 544) (a : Fin 2) (q : Fin 8) (l : Fin 128) :
    X0_1 m c (point b j) (ix2 ⟨16 * r.val + (8 * a.val + q.val), by omega⟩ l)
      = (inputs m c).expert (flat b (tileRow j r)) a ⟨q.val * 128 + l.val, by omega⟩ := by
  obtain ⟨h0, h1⟩ := at1 b j
  unfold X0_1 Pipeline.Window.fill
  rw [dif_pos (moved0_1 _ _)]
  show m ((c.tc : Thread nD τ).loc main_arg1) _ = m ((c.tc : Thread nD τ).loc main_arg1) _
  refine congrArg (m ((c.tc : Thread nD τ).loc main_arg1)) (funext fun a' => Fin.ext ?_)
  match a' with
  | ⟨0, _⟩ =>
    show win0_1.index (point b j) 0 * 8704 + 1 * (16 * r.val + (8 * a.val + q.val)) = ((b.val * 4352 + (j.val * 544 + r.val)) * 2 + a.val) * 8 + (q.val * 128 + l.val) / 128
    rw [h0]; omega
  | ⟨1, _⟩ =>
    show win0_1.index (point b j) 1 * 128 + 1 * l.val = (q.val * 128 + l.val) % 128
    rw [h1]; omega

theorem emb5 (r : Fin 544) (k : Fin 1024) : ((cfg0.win 5).blk (point b j)).view.emb (ix2 r k) = ix2 (flat b (tileRow j r)) k := by
  obtain ⟨h0, h1⟩ := at5 b j
  funext a
  apply Fin.ext
  match a with
  | ⟨0, _⟩ => show win0_5.index (point b j) 0 * 544 + 1 * r.val = b.val * 4352 + (j.val * 544 + r.val); rw [h0]; exact tile_val b j r
  | ⟨1, _⟩ => show win0_5.index (point b j) 1 * 1024 + 1 * k.val = k.val; rw [h1]; omega

/-- The kernel's result. -/
theorem result5 : (dats m 0 c).arrAt 5 cfg0.N = result (inputs m c) := by
  funext y
  idx_vars y
  obtain ⟨b, n, rfl⟩ := exists_flat y0
  obtain ⟨j, r, rfl⟩ := exists_tileRow n
  obtain ⟨q, l, rfl⟩ : ∃ (q : Fin 8) (l : Fin 128), y1 = ⟨q.val * 128 + l.val, by omega⟩ :=
    ⟨⟨y1.val / 128, by omega⟩, ⟨y1.val % 128, by omega⟩, Fin.ext (by simp only []; omega)⟩
  refine Eq.trans ?_ (result_at (inputs m c) b (tileRow j r) _).symm
  have h := congrFun (Value.blocks5 m c (point b j) (flush0_5 _)) (ix2 r ⟨q.val * 128 + l.val, by omega⟩)
  rw [View.read_apply, emb5, Value.flushed5_A] at h
  refine h.trans ((stored_at _ _ _ _ _ _ _ _ _ _ _ _ _ _ _ _ _ _ _ r _).trans ((tile_at _ _ _ _ _ _ _ _ _ _ _ _ _ _ (isCtx j r) r _ (mask_at b j r)).trans ?_))
  have s0 := side_at (fun q => lines (X0_1 m c (point b j)) ⟨q.val, by omega⟩) r q l
  have s1 := side_at (fun q => lines (X0_1 m c (point b j)) ⟨8 + q.val, by omega⟩) r q l
  refine (congrArg₂ (· + ·) rfl (congrArg₂ (· * ·) rfl (congrArg₂ (· + ·) (congrArg₂ (· * ·) rfl s0) (congrArg₂ (· * ·) rfl s1)))).trans ?_
  have f0 := block1 m c b j r 0 q l
  have f1 := block1 m c b j r 1 q l
  simp only [lines_at, lastRow_at, block0, block2, block3, block4]
  unfold Inputs.new Inputs.scale Inputs.mixed isCtx
  simp only [decide_eq_true_eq]
  refine congrArg₂ (· + ·) rfl (congrArg₂ (· * ·) rfl (congrArg₂ (· + ·) (congrArg₂ (· * ·) rfl ?_) (congrArg₂ (· * ·) rfl ?_)))
  · refine Eq.trans (congrArg (X0_1 m c (point b j)) ?_) f0
    exact congrArg (ix2 · l) (Fin.ext (by simp))
  · refine Eq.trans (congrArg (X0_1 m c (point b j)) ?_) f1
    exact congrArg (ix2 · l) (Fin.ext (by simp))

end Kernel

end Cert.Combine

end
-- ==== Proof.Norm.lean ====
/-
  The last norm: every latent row divided by its root mean square, times the norm's weights. Grid point `16 * b + j` holds the
  latent rows `256 * j …` of sequence `b`, which lie behind the context's 256 rows.
-/
module

public import proofs.«01_k».proof.Proof.Gen.Reference6Ideal.Run
public import proofs.«01_k».proof.Proof.Gen.Kernel6Ideal.Value
public import Idealize.ShloMosaic.Lib.Pipeline.ValueKit
public import Idealize.ShloMosaic.Lib.Pointwise

@[expose] public section

set_option maxRecDepth 16384

noncomputable section

namespace Cert.Norm

open Idealize.ShloMosaic Idealize.ShloMosaic.TcCoe Idealize.SL.Sem

local notation "𝕀" => Idealize.ShloMosaic.Ideal

/-- A row divided by its root mean square, times the weights `g`, at channel `k`. -/
def normed (v g : Fin 1024 → EReal) (k : Fin 1024) : EReal :=
  v k * Ideal.rsqrt (Ideal.div (∑ q, v q * v q) (Ideal.ofBits .f32 0x44800000#32) + Ideal.ofBits .f32 0x358637BD#32) * g k

/-- Latent row `n` of a sequence among the sequence's rows. -/
def latent (n : Fin 4096) : Fin 4352 := ⟨256 + n.val, by omega⟩

/-! ## The reference -/

section Reference
open Cert.Reference6Ideal Cert.Reference6Ideal.Gen

/-- The latent rows. -/
def latents (x : Vec 𝕀 S8x4352x1024 .f32) : FVec 𝕀 S8x4096x1024 .f32 :=
  extractStridedSlice S8x4096x1024 ![0, 256, 0] x slices_S8x4352x1024_S8x4096x1024_0_256_0

theorem latents_at (x : Vec 𝕀 S8x4352x1024 .f32) (b : Fin 8) (n : Fin 4096) (k : Fin 1024) : latents x (ix3 b n k) = x (ix3 b (latent n) k) := by
  pointwise [latents, latent]

/-- Rows, normalised. -/
def normedAll (x : Vec 𝕀 S8x4096x1024 .f32) (g : Vec 𝕀 S1024 .f32) : FVec 𝕀 S8x4096x1024 .f32 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

theorem normedAll_at (x : Vec 𝕀 S8x4096x1024 .f32) (g : Vec 𝕀 S1024 .f32) (b : Fin 8) (n : Fin 4096) (k : Fin 1024) :
    normedAll x g (ix3 b n k) = normed (fun q => x (ix3 b n q)) (fun q => g (ix1 q)) k := by
  pointwise [normedAll, normed]

/-- The reference's result. -/
def result (x : Vec 𝕀 S8x4352x1024 .f32) (g : Vec 𝕀 S1024 .f32) : FVec 𝕀 S8x4096x1024 .f32 := normedAll (latents x) g

theorem result_at (x : Vec 𝕀 S8x4352x1024 .f32) (g : Vec 𝕀 S1024 .f32) (b : Fin 8) (n : Fin 4096) (k : Fin 1024) :
    result x g (ix3 b n k) = normed (fun q => x (ix3 b (latent n) q)) (fun q => g (ix1 q)) k := by
  refine (normedAll_at _ g b n k).trans ?_
  simp only [latents_at]

/-- The reference ends with the normalised latent rows and its arguments as they were. -/
theorem ref_run (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v13) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.Reference6Ideal.Value.run m ρ)

end Reference

/-! ## The kernel -/

section Kernel
open Cert.Kernel6Ideal Cert.Kernel6Ideal.Gen

/-- Grid point `j` of sequence `b`. -/
def point (b : Fin 8) (j : Fin 16) : Fin cfg0.N := ⟨16 * b.val + j.val, by have h : cfg0.N = 128 := N_0; omega⟩

/-- Latent row `r` of tile `j`. -/
def tileRow (j : Fin 16) (r : Fin 256) : Fin 4096 := ⟨j.val * 256 + r.val, by omega⟩

theorem exists_tileRow (n : Fin 4096) : ∃ j r, n = tileRow j r :=
  ⟨⟨n.val / 256, by omega⟩, ⟨n.val % 256, by omega⟩, Fin.ext (by simp only [tileRow]; omega)⟩

theorem tile_at (x : Vec 𝕀 S1x256x1024 .f32) (g : Vec 𝕀 S1x1024 .f32) (r : Fin 256) (k : Fin 1024) :
    k0_pay1 x g (ix3 0 r k) = normed (fun q => x (ix3 0 r q)) (fun q => g (ix2 0 q)) k := by
  pointwise [k0_pay1, normed]

theorem out_at (x : Vec 𝕀 S1x256x1024 .f32) (g : Vec 𝕀 S1x1024 .f32) (r : Fin 256) (k : Fin 1024) :
    out0_2 x g (ix3 0 r k) = normed (fun q => x (ix3 0 r q)) (fun q => g (ix2 0 q)) k := by
  have e : r0_0.emb (ix3 0 r k) = ix3 0 r k := by
    funext a; apply Fin.ext; fin_cases a <;> simp [ix3]
  have e0 : View.ld x r0_0 = x := by funext y; idx_vars y; obtain rfl : y0 = 0 := Subsingleton.elim _ _; pointwise
  have e1 : View.ld g r0_1 = g := by funext y; idx_vars y; obtain rfl : y0 = 0 := Subsingleton.elim _ _; pointwise
  unfold out0_2
  refine (congrArg (View.canon _) e.symm).trans ((View.canon_cons_emb r0_0 _ [] (ix3 0 r k)).trans ?_)
  rw [e0, e1]
  exact tile_at x g r k

theorem at0 : ∀ (b : Fin 8) (j : Fin 16), win0_0.index (point b j) 0 = b.val ∧ win0_0.index (point b j) 1 = j.val + 1 ∧ win0_0.index (point b j) 2 = 0 := by decide +kernel
theorem at1 : ∀ (b : Fin 8) (j : Fin 16), win0_1.index (point b j) 0 = 0 ∧ win0_1.index (point b j) 1 = 0 := by decide +kernel
theorem at2 : ∀ (b : Fin 8) (j : Fin 16), win0_2.index (point b j) 0 = b.val ∧ win0_2.index (point b j) 1 = j.val ∧ win0_2.index (point b j) 2 = 0 := by decide +kernel

variable (m : (ℓ : Loc nD τ sig) → Buf (Elt 𝕀) ℓ) (c : Dev nD) (b : Fin 8) (j : Fin 16)

theorem block0 (r : Fin 256) (k : Fin 1024) :
    iblk m c 0 (point b j) (ix3 0 r k) = (m ((c.tc : Thread nD τ).loc main_arg0) : Vec 𝕀 S8x4352x1024 .f32) (ix3 b (latent (tileRow j r)) k) := by
  have h := at0 b j
  blk_ext! [iblk, V, h, latent, tileRow]

theorem block1 (k : Fin 1024) : iblk m c 1 (point b j) (ix2 0 k) = (m ((c.tc : Thread nD τ).loc main_arg1) : Vec 𝕀 S1024 .f32) (ix1 k) := by
  have h := at1 b j
  blk_ext! [iblk, V, h]

theorem emb2 (r : Fin 256) (k : Fin 1024) : ((cfg0.win 2).blk (point b j)).view.emb (ix3 0 r k) = ix3 b (tileRow j r) k := by
  obtain ⟨h0, h1, h2⟩ := at2 b j
  funext a
  apply Fin.ext
  match a with
  | ⟨0, _⟩ => show win0_2.index (point b j) 0 * 1 + 1 * 0 = b.val; rw [h0]; omega
  | ⟨1, _⟩ => show win0_2.index (point b j) 1 * 256 + 1 * r.val = j.val * 256 + r.val; rw [h1]; omega
  | ⟨2, _⟩ => show win0_2.index (point b j) 2 * 1024 + 1 * k.val = k.val; rw [h2]; omega

/-- The kernel's result. -/
theorem result2 : (dats m 0 c).arrAt 2 cfg0.N = result (m ((c.tc : Thread nD τ).loc main_arg0)) (m ((c.tc : Thread nD τ).loc main_arg1)) := by
  funext y
  idx_vars y
  obtain ⟨j, r, rfl⟩ := exists_tileRow y1
  refine Eq.trans ?_ (result_at _ _ y0 (tileRow j r) y2).symm
  have h := congrFun (Value.blocks2 m c (point y0 j) (flush0_2 _)) (ix3 0 r y2)
  rw [View.read_apply, emb2, Value.flushed2] at h
  refine h.trans ((out_at _ _ r y2).trans ?_)
  simp only [block0, block1]

end Kernel

end Cert.Norm

end
-- ==== Proof.Merge.lean ====
/-
  The merge of the three branches, row by row, and the reference's two results read as entries of it.
-/
module

public import proofs.«01_k».proof.Proof.Project
public import proofs.«01_k».proof.Proof.Gen.Reference3Ideal.Run
public import Idealize.ShloMosaic.Lib.Pointwise

@[expose] public section

set_option maxRecDepth 16384

noncomputable section

namespace Cert.Merge

open Idealize.ShloMosaic
open Cert.Project (flat exists_flat modulated ctxInv ctxInv_at latInv latInv_at ctxTable latTable rows rows_at)

local notation "𝕀" => Idealize.ShloMosaic.Ideal

/-! ## The mathematics -/

/-- The smooth rectifier, by the hyperbolic tangent. -/
def gelu (v : EReal) : EReal :=
  v * (Ideal.ofBits .f32 0x3F000000#32 * (1 + Ideal.tanh (Ideal.ofBits .f32 0x3F4C422A#32 * (v + Ideal.ofBits .f32 0x3D372713#32 * (v * v * v)))))

def silu (v : EReal) : EReal := v * Ideal.logistic v

/-- Lane `l` of the head that lane `a` belongs to. -/
def headLane (a : Fin 384) (l : Fin 64) : Fin 384 := ⟨a.val / 64 * 64 + l.val, by omega⟩

/-- A row divided, head by head, by its root mean square. -/
def headNorm (o : Fin 384 → EReal) (a : Fin 384) : EReal :=
  o a * Ideal.rsqrt (Ideal.div (∑ l, o (headLane a l) * o (headLane a l)) (Ideal.ofBits .f32 0x42800000#32) + Ideal.ofBits .f32 0x358637BD#32)

/-- Channel `k` of gate `j`. -/
def gate (j : Fin 3) (k : Fin 1024) : Fin 3072 := ⟨j.val * 1024 + k.val, by omega⟩

/-- A row of the branches' outputs and of their gates. -/
structure Row where
  ys : Fin 256 → EReal
  o : Fin 384 → EReal
  g : Fin 384 → EReal
  p : Fin 384 → EReal
  q : Fin 384 → EReal
  z : Fin 3072 → EReal

/-- The weights of the merge. -/
structure Weights where
  glu : Fin 256 → Fin 256 → EReal
  s : Fin 256 → Fin 1024 → EReal
  h : Fin 384 → Fin 1024 → EReal
  r : Fin 384 → Fin 1024 → EReal
  o : Fin 1024 → Fin 1024 → EReal

namespace Row
variable (R : Row) (W : Weights)

/-- The first branch's row: the rectified values, gated by a product of theirs. -/
def s5 (c : Fin 256) : EReal := gelu (R.ys c) * Ideal.logistic (∑ a, gelu (R.ys a) * W.glu a c)

/-- The branches' rows through their weights, each times its gate. -/
def merged (k : Fin 1024) : EReal :=
  Ideal.logistic (R.z (gate 0 k)) * ∑ a, R.s5 W a * W.s a k
    + Ideal.logistic (R.z (gate 1 k)) * ∑ a, headNorm R.o a * silu (R.g a) * W.h a k
    + Ideal.logistic (R.z (gate 2 k)) * ∑ a, headNorm R.p a * silu (R.q a) * W.r a k

/-- The merged row through the last weights. -/
def mix (k : Fin 1024) : EReal := ∑ a, R.merged W a * W.o a k

end Row

/-- The arguments that the two results depend on. -/
structure Inputs where
  xs : Vec 𝕀 ⟨2, ![34816, 1024]⟩ .f32
  ys : Vec 𝕀 ⟨2, ![34816, 256]⟩ .f32
  o1 : Vec 𝕀 ⟨2, ![34816, 384]⟩ .f32
  o2 : Vec 𝕀 ⟨2, ![34816, 384]⟩ .f32
  hg : Vec 𝕀 ⟨2, ![34816, 1920]⟩ .f32
  p1 : Vec 𝕀 ⟨2, ![34816, 384]⟩ .f32
  p2 : Vec 𝕀 ⟨2, ![34816, 384]⟩ .f32
  ret : Vec 𝕀 ⟨2, ![34816, 1536]⟩ .bf16
  gz : Vec 𝕀 ⟨2, ![34816, 3072]⟩ .bf16
  modL : Vec 𝕀 ⟨3, ![8, 6, 1024]⟩ .f32
  modC : Vec 𝕀 ⟨3, ![1, 6, 1024]⟩ .f32
  g : Vec 𝕀 ⟨1, ![1024]⟩ .f32
  wglu : Vec 𝕀 ⟨2, ![256, 256]⟩ .f32
  ws : Vec 𝕀 ⟨2, ![256, 1024]⟩ .f32
  wh : Vec 𝕀 ⟨2, ![384, 1024]⟩ .f32
  wr : Vec 𝕀 ⟨2, ![384, 1024]⟩ .f32
  wo : Vec 𝕀 ⟨2, ![1024, 1024]⟩ .f32

namespace Inputs
variable (I : Inputs)

/-- Row `n` of the branches. -/
def row (n : Fin 34816) : Row where
  ys a := I.ys (ix2 n a)
  o a := I.o1 (ix2 n a) + I.o2 (ix2 n a)
  g a := I.hg (ix2 n ⟨1536 + a.val, by omega⟩)
  p a := I.p1 (ix2 n a) + I.p2 (ix2 n a)
  q a := I.ret (ix2 n ⟨1152 + a.val, by omega⟩)
  z a := I.gz (ix2 n a)

def weights : Weights where
  glu a c := I.wglu (ix2 a c)
  s a c := I.ws (ix2 a c)
  h a c := I.wh (ix2 a c)
  r a c := I.wr (ix2 a c)
  o a c := I.wo (ix2 a c)

/-- Row `a` of the modulation table of row `n` of sequence `b`: the context's rows have a table of their own. -/
def table (b : Fin 8) (n : Fin 4352) (a : Fin 6) (k : Fin 1024) : EReal :=
  if n.val < 256 then I.modC (ix3 0 a k) else I.modL (ix3 b a k)

/-- Row `n` of sequence `b` after the mixer. -/
def new (b : Fin 8) (n : Fin 4352) (k : Fin 1024) : EReal :=
  I.xs (ix2 (flat b n) k) + I.table b n 2 k * (I.row (flat b n)).mix I.weights k

/-- That row, normalised and modulated. -/
def hidden (b : Fin 8) (n : Fin 4352) (k : Fin 1024) : EReal :=
  modulated (I.new b n) (fun q => I.g (ix1 q)) (I.table b n 4) (I.table b n 3) k

end Inputs

/-! ## The reference's stages -/

section Reference
open Cert.Reference3Ideal Cert.Reference3Ideal.Gen

/-- The rectified values. -/
def geluAll (y : FVec 𝕀 S34816x256 .f32) : FVec 𝕀 S34816x256 .f32 :=
  mulf y (mulf (broadcastInDim S34816x256 ![] bcast_S_S34816x256 (constant S_ .f32 0x3F000000#32)) (addf (broadcastInDim S34816x256 ![] bcast_S_S34816x256 (constant S_ .f32 0x3F800000#32))
    (Host.tanh (mulf (broadcastInDim S34816x256 ![] bcast_S_S34816x256 (constant S_ .f32 0x3F4C422A#32)) (addf y (mulf (broadcastInDim S34816x256 ![] bcast_S_S34816x256 (constant S_ .f32 0x3D372713#32))
      (mulf (mulf y y) y)))))))

theorem geluAll_at (y : FVec 𝕀 S34816x256 .f32) (n : Fin 34816) (c : Fin 256) : geluAll y (ix2 n c) = gelu (y (ix2 n c)) := by
  pointwise [geluAll, gelu]

/-- The first branch. -/
def s5All (y : FVec 𝕀 S34816x256 .f32) (w : FVec 𝕀 S256x256 .f32) : FVec 𝕀 S34816x256 .f32 :=
  mulf y (Host.divf (broadcastInDim S34816x256 ![] bcast_S_S34816x256 (constant S_ .f32 0x3F800000#32)) (addf (broadcastInDim S34816x256 ![] bcast_S_S34816x256 (constant S_ .f32 0x3F800000#32))
    (Host.exp (Host.negf (Host.dotGeneral dot_S34816x256_S256x256_S34816x256_1_0_0_1_n_n none y w)))))

theorem s5All_at (y : FVec 𝕀 S34816x256 .f32) (w : FVec 𝕀 S256x256 .f32) (n : Fin 34816) (c : Fin 256) :
    s5All y w (ix2 n c) = y (ix2 n c) * Ideal.logistic (∑ a, y (ix2 n a) * w (ix2 a c)) := by
  pointwise [s5All, Ideal.logistic]

/-- Rows split in heads. -/
def heads (o : FVec 𝕀 S34816x384 .f32) : FVec 𝕀 S34816x6x64 .f32 := shapeCast S34816x6x64 o shapeCasts_S34816x384_S34816x6x64

theorem heads_at (o : FVec 𝕀 S34816x384 .f32) (n : Fin 34816) (h : Fin 6) (l : Fin 64) : heads o (ix3 n h l) = o (ix2 n ⟨h.val * 64 + l.val, by omega⟩) := by
  pointwise [heads]

/-- Rows split in heads, normalised. -/
def headNormAll (v : FVec 𝕀 S34816x6x64 .f32) : FVec 𝕀 S34816x6x64 .f32 :=
  mulf v (broadcastInDim S34816x6x64 ![0, 1, 2] bcast_S34816x6x1_S34816x6x64_0_1_2 (Host.rsqrt (addf (Host.divf (broadcastInDim S34816x6x1 ![0, 1] bcast_S34816x6_S34816x6x1_0_1
    (Host.reduceAdd (mulf v v) (constant S_ .f32 0x00000000#32) reducesTo_S34816x6x64_S34816x6_d2 h_S_)) (broadcastInDim S34816x6x1 ![] bcast_S_S34816x6x1 (constant S_ .f32 0x42800000#32)))
    (broadcastInDim S34816x6x1 ![] bcast_S_S34816x6x1 (constant S_ .f32 0x358637BD#32)))))

theorem headNormAll_at (v : FVec 𝕀 S34816x6x64 .f32) (n : Fin 34816) (h : Fin 6) (l : Fin 64) :
    headNormAll v (ix3 n h l) = v (ix3 n h l) * Ideal.rsqrt (Ideal.div (∑ q, v (ix3 n h q) * v (ix3 n h q)) (Ideal.ofBits .f32 0x42800000#32) + Ideal.ofBits .f32 0x358637BD#32) := by
  pointwise [headNormAll]

/-- A branch's rows, normalised head by head and gated. -/
def gatedAll (o g : FVec 𝕀 S34816x384 .f32) : FVec 𝕀 S34816x384 .f32 :=
  mulf (shapeCast S34816x384 (headNormAll (heads o)) shapeCasts_S34816x6x64_S34816x384)
    (mulf g (Host.divf (broadcastInDim S34816x384 ![] bcast_S_S34816x384 (constant S_ .f32 0x3F800000#32)) (addf (broadcastInDim S34816x384 ![] bcast_S_S34816x384 (constant S_ .f32 0x3F800000#32)) (Host.exp (Host.negf g)))))

theorem gatedAll_at (o g : FVec 𝕀 S34816x384 .f32) (n : Fin 34816) (a : Fin 384) :
    gatedAll o g (ix2 n a) = headNorm (fun c => o (ix2 n c)) a * silu (g (ix2 n a)) := by
  obtain ⟨h, l, rfl⟩ : ∃ (h : Fin 6) (l : Fin 64), a = ⟨h.val * 64 + l.val, by omega⟩ := ⟨⟨a.val / 64, by omega⟩, ⟨a.val % 64, by omega⟩, Fin.ext (by simp only []; omega)⟩
  have e : ∀ q : Fin 64, headLane ⟨h.val * 64 + l.val, by omega⟩ q = ⟨h.val * 64 + q.val, by omega⟩ := fun q => Fin.ext (by simp only [headLane]; omega)
  have hn : headNorm (fun c => o (ix2 n c)) ⟨h.val * 64 + l.val, by omega⟩ = headNormAll (heads o) (ix3 n h l) := by
    rw [headNormAll_at]
    simp only [heads_at, headNorm, e]
  rw [hn]
  unfold gatedAll
  generalize headNormAll (heads o) = v
  pointwise [silu, Ideal.logistic]

/-- The gates. -/
def gates (z : FVec 𝕀 S34816x3072 .bf16) : FVec 𝕀 S34816x3x1024 .f32 :=
  shapeCast S34816x3x1024 (Host.divf (broadcastInDim S34816x3072 ![] bcast_S_S34816x3072 (constant S_ .f32 0x3F800000#32)) (addf (broadcastInDim S34816x3072 ![] bcast_S_S34816x3072 (constant S_ .f32 0x3F800000#32))
    (Host.exp (Host.negf (extf .f32 z bitsLt_bf16_f32))))) shapeCasts_S34816x3072_S34816x3x1024

theorem gates_at (z : FVec 𝕀 S34816x3072 .bf16) (n : Fin 34816) (j : Fin 3) (k : Fin 1024) : gates z (ix3 n j k) = Ideal.logistic (z (ix2 n (gate j k))) := by
  pointwise [gates, gate, Ideal.logistic]

/-- One gate. -/
def gateOf (off : Fin 3 → ℕ) (h : S34816x3x1024.Slices off S34816x1x1024) (v : FVec 𝕀 S34816x3x1024 .f32) : FVec 𝕀 S34816x1024 .f32 :=
  shapeCast S34816x1024 (extractStridedSlice S34816x1x1024 off v h) shapeCasts_S34816x1x1024_S34816x1024

theorem gate0_at (v : FVec 𝕀 S34816x3x1024 .f32) (n : Fin 34816) (k : Fin 1024) : gateOf ![0, 0, 0] slices_S34816x3x1024_S34816x1x1024_0_0_0 v (ix2 n k) = v (ix3 n 0 k) := by
  pointwise [gateOf]
theorem gate1_at (v : FVec 𝕀 S34816x3x1024 .f32) (n : Fin 34816) (k : Fin 1024) : gateOf ![0, 1, 0] slices_S34816x3x1024_S34816x1x1024_0_1_0 v (ix2 n k) = v (ix3 n 1 k) := by
  pointwise [gateOf]
theorem gate2_at (v : FVec 𝕀 S34816x3x1024 .f32) (n : Fin 34816) (k : Fin 1024) : gateOf ![0, 2, 0] slices_S34816x3x1024_S34816x1x1024_0_2_0 v (ix2 n k) = v (ix3 n 2 k) := by
  pointwise [gateOf]

/-- The three branches through their weights, gated and added. -/
def mergedAll (y : FVec 𝕀 S34816x256 .f32) (u v : FVec 𝕀 S34816x384 .f32) (z : FVec 𝕀 S34816x3x1024 .f32) (ws : FVec 𝕀 S256x1024 .f32) (wh wr : FVec 𝕀 S384x1024 .f32) : FVec 𝕀 S34816x1024 .f32 :=
  addf (addf (mulf (gateOf ![0, 0, 0] slices_S34816x3x1024_S34816x1x1024_0_0_0 z) (Host.dotGeneral dot_S34816x256_S256x1024_S34816x1024_1_0_0_1_n_n none y ws))
      (mulf (gateOf ![0, 1, 0] slices_S34816x3x1024_S34816x1x1024_0_1_0 z) (Host.dotGeneral dot_S34816x384_S384x1024_S34816x1024_1_0_0_1_n_n none u wh)))
    (mulf (gateOf ![0, 2, 0] slices_S34816x3x1024_S34816x1x1024_0_2_0 z) (Host.dotGeneral dot_S34816x384_S384x1024_S34816x1024_1_0_0_1_n_n none v wr))

theorem mergedAll_at (y : FVec 𝕀 S34816x256 .f32) (u v : FVec 𝕀 S34816x384 .f32) (z : FVec 𝕀 S34816x3x1024 .f32) (ws : FVec 𝕀 S256x1024 .f32) (wh wr : FVec 𝕀 S384x1024 .f32)
    (n : Fin 34816) (k : Fin 1024) : mergedAll y u v z ws wh wr (ix2 n k)
      = z (ix3 n 0 k) * (∑ a, y (ix2 n a) * ws (ix2 a k)) + z (ix3 n 1 k) * (∑ a, u (ix2 n a) * wh (ix2 a k)) + z (ix3 n 2 k) * (∑ a, v (ix2 n a) * wr (ix2 a k)) := by
  pointwise [mergedAll, gate0_at, gate1_at, gate2_at]

/-- The product with the last weights, sequence by sequence. -/
def mixAll (v : FVec 𝕀 S34816x1024 .f32) (w : FVec 𝕀 S1024x1024 .f32) : FVec 𝕀 S8x4352x1024 .f32 :=
  shapeCast S8x4352x1024 (Host.dotGeneral dot_S34816x1024_S1024x1024_S34816x1024_1_0_0_1_n_n none v w) shapeCasts_S34816x1024_S8x4352x1024

theorem mixAll_at (v : FVec 𝕀 S34816x1024 .f32) (w : FVec 𝕀 S1024x1024 .f32) (b : Fin 8) (n : Fin 4352) (k : Fin 1024) :
    mixAll v w (ix3 b n k) = ∑ a, v (ix2 (flat b n) a) * w (ix2 a k) := by
  pointwise [mixAll, flat]

variable (I : Inputs)

/-- The reference's mix. -/
def refMix : FVec 𝕀 S8x4352x1024 .f32 :=
  mixAll (mergedAll (s5All (geluAll I.ys) I.wglu) (gatedAll (addf I.o1 I.o2) (extractStridedSlice S34816x384 ![0, 1536] I.hg slices_S34816x1920_S34816x384_0_1536))
    (gatedAll (addf I.p1 I.p2) (extf .f32 (extractStridedSlice S34816x384 ![0, 1152] I.ret slices_S34816x1536_S34816x384_0_1152) bitsLt_bf16_f32))
    (gates I.gz) I.ws I.wh I.wr) I.wo

theorem refMix_at (b : Fin 8) (n : Fin 4352) (k : Fin 1024) : refMix I (ix3 b n k) = (I.row (flat b n)).mix I.weights k := by
  have e1 : ∀ c, extractStridedSlice S34816x384 ![0, 1536] I.hg slices_S34816x1920_S34816x384_0_1536 (ix2 (flat b n) c) = (I.row (flat b n)).g c := fun c => by
    pointwise [Inputs.row]
  have e2 : ∀ c, extf (F := 𝕀) .f32 (extractStridedSlice S34816x384 ![0, 1152] I.ret slices_S34816x1536_S34816x384_0_1152) bitsLt_bf16_f32 (ix2 (flat b n) c) = (I.row (flat b n)).q c := fun c => by
    pointwise [Inputs.row]
  refine (mixAll_at _ _ b n k).trans (Finset.sum_congr rfl fun a _ => congrArg (· * I.wo (ix2 a k)) ?_)
  rw [mergedAll_at]
  simp only [s5All_at, geluAll_at, gatedAll_at, gates_at, e1, e2]
  rfl

/-! ## The reference's results -/

/-- Row `n` of sequence `b` as the token tiles number it: eight lines of 128 lanes each. -/
def line (b : Fin 8) (n : Fin 4352) (s : Fin 8) : Fin 278528 := ⟨(b.val * 4352 + n.val) * 8 + s.val, by omega⟩

theorem exists_line (i : Fin 278528) : ∃ b n s, i = line b n s :=
  ⟨⟨i.val / 8 / 4352, by omega⟩, ⟨i.val / 8 % 4352, by omega⟩, ⟨i.val % 8, by omega⟩, Fin.ext (by simp only [line]; omega)⟩

/-- The channel at lane `l` of line `s` of a row. -/
def channel (s : Fin 8) (l : Fin 128) : Fin 1024 := ⟨s.val * 128 + l.val, by omega⟩

/-- The context rows after the mixer, over the mix `v`. -/
def ctxNew (v : FVec 𝕀 S8x4352x1024 .f32) : FVec 𝕀 S8x256x1024 .f32 :=
  addf (extractStridedSlice S8x256x1024 ![0, 0, 0] (shapeCast S8x4352x1024 I.xs shapeCasts_S34816x1024_S8x4352x1024) slices_S8x4352x1024_S8x256x1024_0_0_0)
    (mulf (broadcastInDim S8x256x1024 ![0, 1, 2] bcast_S1x1x1024_S8x256x1024_0_1_2 (broadcastInDim S1x1x1024 ![2] bcast_S1024_S1x1x1024_2 (ctxTable ![2, 0] slices_S6x1024_S1x1024_2_0 I.modC)))
      (extractStridedSlice S8x256x1024 ![0, 0, 0] v slices_S8x4352x1024_S8x256x1024_0_0_0))

theorem ctxNew_at (v : FVec 𝕀 S8x4352x1024 .f32) (b : Fin 8) (n : Fin 4352) (hn : n.val < 256) (k : Fin 1024) :
    ctxNew I v (ix3 b ⟨n.val, hn⟩ k) = I.xs (ix2 (flat b n) k) + I.modC (ix3 0 2 k) * v (ix3 b n k) := by
  pointwise [ctxNew, ctxTable, flat]

/-- The latent rows after the mixer, over the mix `v`. -/
def latNew (v : FVec 𝕀 S8x4352x1024 .f32) : FVec 𝕀 S8x4096x1024 .f32 :=
  addf (extractStridedSlice S8x4096x1024 ![0, 256, 0] (shapeCast S8x4352x1024 I.xs shapeCasts_S34816x1024_S8x4352x1024) slices_S8x4352x1024_S8x4096x1024_0_256_0)
    (mulf (broadcastInDim S8x4096x1024 ![0, 1, 2] bcast_S8x1x1024_S8x4096x1024_0_1_2 (latTable ![0, 2, 0, 0] slices_S8x6x1x1024_S8x1x1x1024_0_2_0_0 I.modL))
      (extractStridedSlice S8x4096x1024 ![0, 256, 0] v slices_S8x4352x1024_S8x4096x1024_0_256_0))

theorem latNew_at (v : FVec 𝕀 S8x4352x1024 .f32) (b : Fin 8) (n : Fin 4096) (k : Fin 1024) :
    latNew I v (ix3 b n k) = I.xs (ix2 (flat b ⟨256 + n.val, by omega⟩) k) + I.modL (ix3 b 2 k) * v (ix3 b ⟨256 + n.val, by omega⟩ k) := by
  pointwise [latNew, latTable, flat]

/-- Context rows, normalised and modulated. -/
def ctxHidden (x : FVec 𝕀 S8x256x1024 .f32) : FVec 𝕀 S8x256x1024 .f32 :=
  addf (mulf (mulf (mulf x (broadcastInDim S8x256x1024 ![0, 1, 2] bcast_S8x256x1_S8x256x1024_0_1_2 (ctxInv x)))
      (broadcastInDim S8x256x1024 ![0, 1, 2] bcast_S1x1x1024_S8x256x1024_0_1_2 (broadcastInDim S1x1x1024 ![2] bcast_S1024_S1x1x1024_2 I.g)))
      (broadcastInDim S8x256x1024 ![0, 1, 2] bcast_S1x1x1024_S8x256x1024_0_1_2 (broadcastInDim S1x1x1024 ![2] bcast_S1024_S1x1x1024_2
        (addf (broadcastInDim S1024 ![] bcast_S_S1024 (constant S_ .f32 0x3F800000#32)) (ctxTable ![4, 0] slices_S6x1024_S1x1024_4_0 I.modC)))))
    (broadcastInDim S8x256x1024 ![0, 1, 2] bcast_S1x1x1024_S8x256x1024_0_1_2 (broadcastInDim S1x1x1024 ![2] bcast_S1024_S1x1x1024_2 (ctxTable ![3, 0] slices_S6x1024_S1x1024_3_0 I.modC)))

theorem ctxHidden_at (x : FVec 𝕀 S8x256x1024 .f32) (b : Fin 8) (n : Fin 256) (k : Fin 1024) :
    ctxHidden I x (ix3 b n k) = modulated (fun q => x (ix3 b n q)) (fun q => I.g (ix1 q)) (fun q => I.modC (ix3 0 4 q)) (fun q => I.modC (ix3 0 3 q)) k := by
  pointwise [ctxHidden, ctxTable, ctxInv_at, modulated]

/-- Latent rows, normalised and modulated. -/
def latHidden (x : FVec 𝕀 S8x4096x1024 .f32) : FVec 𝕀 S8x4096x1024 .f32 :=
  addf (mulf (mulf (mulf x (broadcastInDim S8x4096x1024 ![0, 1, 2] bcast_S8x4096x1_S8x4096x1024_0_1_2 (latInv x)))
      (broadcastInDim S8x4096x1024 ![0, 1, 2] bcast_S1x1x1024_S8x4096x1024_0_1_2 (broadcastInDim S1x1x1024 ![2] bcast_S1024_S1x1x1024_2 I.g)))
      (broadcastInDim S8x4096x1024 ![0, 1, 2] bcast_S8x1x1024_S8x4096x1024_0_1_2
        (addf (broadcastInDim S8x1x1024 ![] bcast_S_S8x1x1024 (constant S_ .f32 0x3F800000#32)) (latTable ![0, 4, 0, 0] slices_S8x6x1x1024_S8x1x1x1024_0_4_0_0 I.modL))))
    (broadcastInDim S8x4096x1024 ![0, 1, 2] bcast_S8x1x1024_S8x4096x1024_0_1_2 (latTable ![0, 3, 0, 0] slices_S8x6x1x1024_S8x1x1x1024_0_3_0_0 I.modL))

theorem latHidden_at (x : FVec 𝕀 S8x4096x1024 .f32) (b : Fin 8) (n : Fin 4096) (k : Fin 1024) :
    latHidden I x (ix3 b n k) = modulated (fun q => x (ix3 b n q)) (fun q => I.g (ix1 q)) (fun q => I.modL (ix3 b 4 q)) (fun q => I.modL (ix3 b 3 q)) k := by
  pointwise [latHidden, latTable, latInv_at, modulated]

theorem latNew_row (b : Fin 8) (n : Fin 4352) (hn : ¬ n.val < 256) (k : Fin 1024) : latNew I (refMix I) (ix3 b ⟨n.val - 256, by omega⟩ k) = I.new b n k := by
  have e : (⟨256 + (n.val - 256), by omega⟩ : Fin 4352) = n := Fin.ext (by simp only []; omega)
  rw [latNew_at]
  simp only [e, refMix_at, Inputs.new, Inputs.table, if_neg hn]

theorem ctxNew_row (b : Fin 8) (n : Fin 4352) (hn : n.val < 256) (k : Fin 1024) : ctxNew I (refMix I) (ix3 b ⟨n.val, hn⟩ k) = I.new b n k := by
  rw [ctxNew_at]
  simp only [refMix_at, Inputs.new, Inputs.table, if_pos hn]

/-- The reference's first result. -/
def first : FVec 𝕀 S34816x1024 .f32 := shapeCast S34816x1024 (rows (ctxNew I (refMix I)) (latNew I (refMix I))) shapeCasts_S8x4352x1024_S34816x1024

theorem first_at (b : Fin 8) (n : Fin 4352) (k : Fin 1024) : first I (ix2 (flat b n) k) = I.new b n k := by
  have e : ∀ v : FVec 𝕀 S8x4352x1024 .f32, shapeCast S34816x1024 v shapeCasts_S8x4352x1024_S34816x1024 (ix2 (flat b n) k) = v (ix3 b n k) := fun v => by pointwise [flat]
  refine (e _).trans ((rows_at _ _ b n k).trans ?_)
  split
  · exact ctxNew_row I b n _ k
  · exact latNew_row I b n ‹_› k

/-- The reference's second result. -/
def second : FVec 𝕀 S278528x128 .f32 :=
  shapeCast S278528x128 (rows (ctxHidden I (ctxNew I (refMix I))) (latHidden I (latNew I (refMix I)))) shapeCasts_S8x4352x1024_S278528x128

theorem second_at (b : Fin 8) (n : Fin 4352) (s : Fin 8) (l : Fin 128) : second I (ix2 (line b n s) l) = I.hidden b n (channel s l) := by
  have e : ∀ v : FVec 𝕀 S8x4352x1024 .f32, shapeCast S278528x128 v shapeCasts_S8x4352x1024_S278528x128 (ix2 (line b n s) l) = v (ix3 b n (channel s l)) := fun v => by
    have h : ((b.val * 4352 + n.val) * 8 + s.val) % 8 = s.val := by omega
    pointwise [line, channel, h]
  refine (e _).trans ((rows_at _ _ b n _).trans ?_)
  split
  · rw [ctxHidden_at]
    simp only [ctxNew_row]
    simp only [Inputs.hidden, Inputs.table, modulated, if_pos ‹n.val < 256›]
  · rw [latHidden_at]
    simp only [latNew_row I b n ‹_›]
    simp only [Inputs.hidden, Inputs.table, modulated, if_neg ‹¬ n.val < 256›]

/-- What the reference reads. -/
def refInputs (m : (ℓ : Loc nD τ sig) → Buf (Elt 𝕀) ℓ) (c : Dev nD) : Inputs where
  xs := m ((c.tc : Thread nD τ).loc main_arg0)
  ys := m ((c.tc : Thread nD τ).loc main_arg1)
  o1 := m ((c.tc : Thread nD τ).loc main_arg2)
  o2 := m ((c.tc : Thread nD τ).loc main_arg3)
  hg := m ((c.tc : Thread nD τ).loc main_arg4)
  p1 := m ((c.tc : Thread nD τ).loc main_arg5)
  p2 := m ((c.tc : Thread nD τ).loc main_arg6)
  ret := m ((c.tc : Thread nD τ).loc main_arg7)
  gz := m ((c.tc : Thread nD τ).loc main_arg8)
  modL := m ((c.tc : Thread nD τ).loc main_arg9)
  modC := m ((c.tc : Thread nD τ).loc main_arg10)
  g := m ((c.tc : Thread nD τ).loc main_arg11)
  wglu := m ((c.tc : Thread nD τ).loc main_arg12)
  ws := m ((c.tc : Thread nD τ).loc main_arg13)
  wh := m ((c.tc : Thread nD τ).loc main_arg14)
  wr := m ((c.tc : Thread nD τ).loc main_arg15)
  wo := m ((c.tc : Thread nD τ).loc main_arg16)

open Idealize.SL.Sem in
/-- The reference ends with the two results and its arguments as they were. -/
theorem ref_run (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v145) = first (refInputs m c)
      ∧ r.2.mem ((c.tc : Thread nD τ).loc main_v147) = second (refInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c).1.trans rfl, (h c).2.1.trans rfl, (h c).2.2⟩)
    (Cert.Reference3Ideal.Value.run m ρ)

end Reference

end Cert.Merge

end
-- ==== Proof.MergeBody.lean ====
/-
  The merge kernel's run: what a grid point's body leaves in the three results' buffers, and the frame of the whole launch. The
  second result's buffer is filled by eight stores, each through the rows of one residue modulo eight.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel3Ideal.Merging

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code before the launch -/

/-- The host operations before the launch. -/
abbrev ops : List (HloOp τ sig (Elt F)) := List.flatten [hostOps0, hostOps0_1, hostOps0_2]

/-- A buffer as the launch finds it. -/
abbrev V (c : Dev nD) (b : Ref sig .tc) : Buf (Elt F) ((c : Thread nD τ).loc b) :=
  StableHlo.after ops (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- The program up to the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨fresh0, fresh1, fresh2⟩) main_chain

/-- The buffers that the host operations write. -/
def written : List (Ref sig .tc) :=
  [main_v0, main_v1, main_c, main_v2, main_v3, main_v4, main_v5, main_cst, main_v6, main_call0_v0, main_call0_v1, main_call0_v2, main_call0_v3, main_call0_v4, main_v7, main_v8, main_cst_0, main_v9, main_v10, main_cst_1, main_v11, main_v12, main_v13, main_v14, main_v15, main_v16, main_v17, main_v18, main_v19, main_v20, main_v21, main_v22, main_v23, main_v24]

/-- The launch finds every other buffer as it was. -/
theorem V_kept (c : Dev nD) (b : Ref sig .tc) (hb : ∀ w ∈ written, b ≠ w) : V m c b = m ((c : Thread nD τ).loc b) := by
  refine StableHlo.after_of_forall_not_mem (b := Proc.devRef .tc b) _ _ (List.forall_iff_forall_mem.mp ?_)
  simp only [ops, hostOps0, hostOps0_1, hostOps0_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  have hd : ∀ w ∈ written, ¬ Proc.tc.devRef b = (Proc.tc.devRef w : DevRef τ sig) := fun w hw => StableHlo.devRef_ne_of_ne (hb w hw)
  simp only [written, List.forall_mem_cons, List.not_mem_nil, IsEmpty.forall_iff, implies_true, and_true] at hd
  simp only [hd, not_false_eq_true, and_self]

/-! ## The windows' blocks -/

/-- Window `w`'s block at a grid point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The twenty inputs of a grid point. -/
structure Blocks (F : FTy → Type) where
  x0 : Vec F S544x1024 .f32
  x1 : Vec F S544x256 .f32
  x2 : Vec F S544x384 .f32
  x3 : Vec F S544x384 .f32
  x4 : Vec F S544x384 .f32
  x5 : Vec F S544x384 .f32
  x6 : Vec F S544x384 .f32
  x7 : Vec F S544x384 .bf16
  x8 : Vec F S544x3072 .bf16
  x9 : Vec F S1x6x1024 .f32
  x10 : Vec F S1x6x1024 .f32
  x11 : Vec F S1x1024 .f32
  x12 : Vec F S256x256 .bf16
  x13 : Vec F S256x1024 .bf16
  x14 : Vec F S384x1024 .bf16
  x15 : Vec F S384x1024 .bf16
  x16 : Vec F S1024x1024 .bf16
  x17 : Vec F S384x384 .bf16
  x18 : Vec F S1024x256 .bf16
  x19 : Vec F S1x128 .f32

/-- The inputs' blocks at a grid point. -/
def blocks (c : Dev nD) (t : Fin cfg0.N) : Blocks F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t

/-! ## What the body leaves -/

abbrev full256 : Rect S544x256 := Rect.unit (s := S544x256) ![0, 0] S544x256.size inb_S544x256_S544x256_0_0
abbrev full256x256 : Rect S256x256 := Rect.unit (s := S256x256) ![0, 0] S256x256.size inb_S256x256_S256x256_0_0
abbrev full256x1024 : Rect S256x1024 := Rect.unit (s := S256x1024) ![0, 0] S256x1024.size inb_S256x1024_S256x1024_0_0
abbrev full384 : Rect S544x384 := Rect.unit (s := S544x384) ![0, 0] S544x384.size inb_S544x384_S544x384_0_0
abbrev full384x384 : Rect S384x384 := Rect.unit (s := S384x384) ![0, 0] S384x384.size inb_S384x384_S384x384_0_0
abbrev full384x1024 : Rect S384x1024 := Rect.unit (s := S384x1024) ![0, 0] S384x1024.size inb_S384x1024_S384x1024_0_0
abbrev gate0 : Rect S544x3072 := Rect.unit (s := S544x3072) ![0, 0] S544x1024.size inb_S544x3072_S544x1024_0_0
abbrev gate1 : Rect S544x3072 := Rect.unit (s := S544x3072) ![0, 1024] S544x1024.size inb_S544x3072_S544x1024_0_1024
abbrev gate2 : Rect S544x3072 := Rect.unit (s := S544x3072) ![0, 2048] S544x1024.size inb_S544x3072_S544x1024_0_2048
abbrev full1024x1024 : Rect S1024x1024 := Rect.unit (s := S1024x1024) ![0, 0] S1024x1024.size inb_S1024x1024_S1024x1024_0_0
abbrev full1024 : Rect S544x1024 := Rect.unit (s := S544x1024) ![0, 0] S544x1024.size inb_S544x1024_S544x1024_0_0
abbrev mod2 : Rect S1x6x1024 := Rect.unit (s := S1x6x1024) ![0, 2, 0] S1x1x1024.size inb_S1x6x1024_S1x1x1024_0_2_0
abbrev mod3 : Rect S1x6x1024 := Rect.unit (s := S1x6x1024) ![0, 3, 0] S1x1x1024.size inb_S1x6x1024_S1x1x1024_0_3_0
abbrev mod4 : Rect S1x6x1024 := Rect.unit (s := S1x6x1024) ![0, 4, 0] S1x1x1024.size inb_S1x6x1024_S1x1x1024_0_4_0
abbrev row1024 : Rect S1x1024 := Rect.unit (s := S1x1024) ![0, 0] S1x1024.size inb_S1x1024_S1x1024_0_0
abbrev full1024x256 : Rect S1024x256 := Rect.unit (s := S1024x256) ![0, 0] S1024x256.size inb_S1024x256_S1024x256_0_0
abbrev half1024x256 : Rect S1024x256 := Rect.unit (s := S1024x256) ![0, 0] S1024x128.size inb_S1024x256_S1024x128_0_0
abbrev row128 : Rect S1x128 := Rect.unit (s := S1x128) ![0, 0] S1x128.size inb_S1x128_S1x128_0_0
abbrev full128 : Rect S544x128 := Rect.unit (s := S544x128) ![0, 0] S544x128.size inb_S544x128_S544x128_0_0
/-- The rows of one residue modulo eight. -/
abbrev rows0 : Rect S4352x128 := ⟨(⟨![0, 0], S544x128.size, ![8, 1], inb_S4352x128_S544x128_0_0_s_8_1⟩ : LoadRect S4352x128), spos_8_1⟩
abbrev rows1 : Rect S4352x128 := ⟨(⟨![1, 0], S544x128.size, ![8, 1], inb_S4352x128_S544x128_1_0_s_8_1⟩ : LoadRect S4352x128), spos_8_1⟩
abbrev rows2 : Rect S4352x128 := ⟨(⟨![2, 0], S544x128.size, ![8, 1], inb_S4352x128_S544x128_2_0_s_8_1⟩ : LoadRect S4352x128), spos_8_1⟩
abbrev rows3 : Rect S4352x128 := ⟨(⟨![3, 0], S544x128.size, ![8, 1], inb_S4352x128_S544x128_3_0_s_8_1⟩ : LoadRect S4352x128), spos_8_1⟩
abbrev rows4 : Rect S4352x128 := ⟨(⟨![4, 0], S544x128.size, ![8, 1], inb_S4352x128_S544x128_4_0_s_8_1⟩ : LoadRect S4352x128), spos_8_1⟩
abbrev rows5 : Rect S4352x128 := ⟨(⟨![5, 0], S544x128.size, ![8, 1], inb_S4352x128_S544x128_5_0_s_8_1⟩ : LoadRect S4352x128), spos_8_1⟩
abbrev rows6 : Rect S4352x128 := ⟨(⟨![6, 0], S544x128.size, ![8, 1], inb_S4352x128_S544x128_6_0_s_8_1⟩ : LoadRect S4352x128), spos_8_1⟩
abbrev rows7 : Rect S4352x128 := ⟨(⟨![7, 0], S544x128.size, ![8, 1], inb_S4352x128_S544x128_7_0_s_8_1⟩ : LoadRect S4352x128), spos_8_1⟩

section Body
variable (i : grid0.Coords) (B : Blocks F)

/-- The sum of the branches' outputs through the last weights. -/
def mixed : FVec F S544x1024 .f32 :=
  k0_pay12 (k0_pay5 (k0_pay3 (View.ld B.x1 full256) (View.ld B.x12 full256x256)) (k0_pay4 (View.ld B.x13 full256x1024)) (constant S544x1024 .f32 0x00000000#32))
    (k0_pay6 (View.ld B.x2 full384) (View.ld B.x3 full384) (View.ld B.x4 full384) (View.ld B.x17 full384x384) (View.ld B.x14 full384x1024))
    (k0_pay7 (View.ld B.x5 full384) (View.ld B.x6 full384)) (View.ld B.x7 full384) (k0_pay8 (View.ld B.x17 full384x384)) (k0_pay9 (View.ld B.x5 full384) (View.ld B.x6 full384))
    (k0_pay10 (View.ld B.x5 full384) (View.ld B.x6 full384)) (k0_pay11 (View.ld B.x5 full384) (View.ld B.x6 full384)) (View.ld B.x15 full384x1024)
    (View.ld B.x8 gate0) (View.ld B.x8 gate1) (View.ld B.x8 gate2) (View.ld B.x16 full1024x1024)

/-- The new rows, normalised and scaled. -/
def scaled : FVec F S544x1024 .f32 :=
  k0_pay14 (k0_pay2 i) (mixed B) (View.ld B.x0 full1024) (View.ld B.x10 mod2) (View.ld B.x9 mod2) (View.ld B.x11 row1024) (View.ld B.x10 mod4) (View.ld B.x9 mod4)

/-- The routing logits, and what the table reads of them. -/
def logits : FVec F S544x128 .f32 :=
  k0_pay26 (k0_pay24 (k0_pay2 i) (scaled i B) (View.ld B.x10 mod3) (View.ld B.x9 mod3)) (k0_pay25 (k0_pay2 i) (scaled i B) (View.ld B.x10 mod3) (View.ld B.x9 mod3))
    (View.ld B.x18 full1024x256) (View.ld B.x18 half1024x256) (View.ld B.x19 row128)
def routed31 : FVec F S544x1 .f32 :=
  k0_pay31 (k0_pay24 (k0_pay2 i) (scaled i B) (View.ld B.x10 mod3) (View.ld B.x9 mod3)) (k0_pay25 (k0_pay2 i) (scaled i B) (View.ld B.x10 mod3) (View.ld B.x9 mod3))
    (View.ld B.x18 full1024x256) (View.ld B.x18 half1024x256) (View.ld B.x19 row128)
def routed32 : FVec F S544x1 .f32 :=
  k0_pay32 (k0_pay24 (k0_pay2 i) (scaled i B) (View.ld B.x10 mod3) (View.ld B.x9 mod3)) (k0_pay25 (k0_pay2 i) (scaled i B) (View.ld B.x10 mod3) (View.ld B.x9 mod3))
    (View.ld B.x18 full1024x256) (View.ld B.x18 half1024x256) (View.ld B.x19 row128)

/-- The first result's buffer after the body. -/
def out20 : Vec F S544x1024 .f32 :=
  View.canon [⟨full1024, k0_pay13 (k0_pay2 i) (mixed B) (View.ld B.x0 full1024) (View.ld B.x10 mod2) (View.ld B.x9 mod2)⟩]

/-- The second result's buffer after the body: its eight stores, the last one first. -/
def out21 : Vec F S4352x128 .f32 :=
  View.canon [⟨rows7, k0_pay23 (k0_pay2 i) (scaled i B) (View.ld B.x10 mod3) (View.ld B.x9 mod3)⟩,
    ⟨rows6, k0_pay22 (k0_pay2 i) (scaled i B) (View.ld B.x10 mod3) (View.ld B.x9 mod3)⟩,
    ⟨rows5, k0_pay21 (k0_pay2 i) (scaled i B) (View.ld B.x10 mod3) (View.ld B.x9 mod3)⟩,
    ⟨rows4, k0_pay20 (k0_pay2 i) (scaled i B) (View.ld B.x10 mod3) (View.ld B.x9 mod3)⟩,
    ⟨rows3, k0_pay19 (k0_pay2 i) (scaled i B) (View.ld B.x10 mod3) (View.ld B.x9 mod3)⟩,
    ⟨rows2, k0_pay18 (k0_pay2 i) (scaled i B) (View.ld B.x10 mod3) (View.ld B.x9 mod3)⟩,
    ⟨rows1, k0_pay17 (k0_pay2 i) (scaled i B) (View.ld B.x10 mod3) (View.ld B.x9 mod3)⟩,
    ⟨rows0, k0_pay16 (k0_pay2 i) (scaled i B) (View.ld B.x10 mod3) (View.ld B.x9 mod3)⟩]

/-- The routing table's buffer after the body. -/
def out22 : Vec F S544x128 .f32 :=
  View.canon [⟨full128, k0_pay1 (k0_pay27 (F := F))
    (k0_pay40 (logits i B) (k0_pay27 (F := F)) (routed31 i B) (routed32 i B) (k0_pay33 (F := F)))
    (k0_pay41 (logits i B) (k0_pay27 (F := F)) (routed31 i B) (routed32 i B) (k0_pay33 (F := F)))
    (k0_pay42 (logits i B) (k0_pay27 (F := F)) (routed32 i B) (k0_pay33 (F := F)))
    (k0_pay43 (logits i B) (k0_pay27 (F := F)) (routed32 i B) (k0_pay33 (F := F))) (Scalar.ofBits .f32 0x00000000#32)⟩]

/-- The second result's buffer, of values that are only known to be equal to those above. -/
theorem out21_of (s : FVec F S544x1024 .f32) (a b : FVec F S1x1x1024 .f32) (hs : s = scaled i B) (ha : a = View.ld B.x10 mod3) (hb : b = View.ld B.x9 mod3) :
    View.canon [⟨rows7, k0_pay23 (k0_pay2 i) s a b⟩,
      ⟨rows6, k0_pay22 (k0_pay2 i) s a b⟩,
      ⟨rows5, k0_pay21 (k0_pay2 i) s a b⟩,
      ⟨rows4, k0_pay20 (k0_pay2 i) s a b⟩,
      ⟨rows3, k0_pay19 (k0_pay2 i) s a b⟩,
      ⟨rows2, k0_pay18 (k0_pay2 i) s a b⟩,
      ⟨rows1, k0_pay17 (k0_pay2 i) s a b⟩,
      ⟨rows0, k0_pay16 (k0_pay2 i) s a b⟩] = out21 i B := by
  subst hs ha hb
  rfl

/-- The routing table's buffer, of values that are only known to be equal to those above. -/
theorem out22_of (w40 w41 w42 w43 : FVec F S544x1 .f32) (L : FVec F S544x128 .f32) (p q : FVec F S544x1 .f32) (u : FVec F S544x1024 .bf16) (v s : FVec F S544x1024 .f32)
    (a b : FVec F S1x1x1024 .f32) (g : FVec F S1024x256 .bf16) (h : FVec F S1024x128 .bf16) (z : FVec F S1x128 .f32)
    (h40 : w40 = k0_pay40 L (k0_pay27 (F := F)) p q (k0_pay33 (F := F))) (h41 : w41 = k0_pay41 L (k0_pay27 (F := F)) p q (k0_pay33 (F := F)))
    (h42 : w42 = k0_pay42 L (k0_pay27 (F := F)) q (k0_pay33 (F := F))) (h43 : w43 = k0_pay43 L (k0_pay27 (F := F)) q (k0_pay33 (F := F)))
    (hL : L = k0_pay26 u v g h z) (hp : p = k0_pay31 u v g h z) (hq : q = k0_pay32 u v g h z)
    (hu : u = k0_pay24 (k0_pay2 i) s a b) (hv : v = k0_pay25 (k0_pay2 i) s a b)
    (hg : g = View.ld B.x18 full1024x256) (hh : h = View.ld B.x18 half1024x256) (hz : z = View.ld B.x19 row128)
    (hs : s = scaled i B) (ha : a = View.ld B.x10 mod3) (hb : b = View.ld B.x9 mod3) :
    View.canon [⟨full128, k0_pay1 (k0_pay27 (F := F)) w40 w41 w42 w43 (Scalar.ofBits .f32 0x00000000#32)⟩] = out22 i B := by
  subst hs ha hb hg hh hz hu hv hL hp hq h40 h41 h42 h43
  rfl

end Body

theorem cover20 (p0 : Vec F S544x1024 .f32) (y : S544x1024.Idx) :
    ∃ pc ∈ ([⟨full1024, p0⟩] : List (View.Piece (Elt F) S544x1024 .f32)), y ∈ pc.1.set :=
  View.cover_of_tiled [⟨full1024, p0⟩] S544x1024.size (by rfl) y

/-- A row lies in the store of its residue. -/
theorem mem_rows (k : ℕ) (h : ∀ a, S544x128.size a = 0 ∨ (![k, 0] : Fin 2 → Nat) a + (![8, 1] : Fin 2 → Nat) a * (S544x128.size a - 1) < S4352x128.size a)
    (y : S4352x128.Idx) (hy : (y 0).val % 8 = k) : y ∈ (⟨(⟨![k, 0], S544x128.size, ![8, 1], h⟩ : LoadRect S4352x128), spos_8_1⟩ : Rect S4352x128).set := by
  have h0 : (y 0).val < 4352 := (y 0).isLt
  have h1 : (y 1).val < 128 := (y 1).isLt
  refine (LoadRect.mem_set _).mpr fun a => ?_
  match a with
  | ⟨0, _⟩ => exact ⟨(y 0).val / 8, by show (y 0).val / 8 < 544; omega, by show (y 0).val = k + 8 * ((y 0).val / 8); omega⟩
  | ⟨1, _⟩ => exact ⟨(y 1).val, h1, by show (y 1).val = 0 + 1 * (y 1).val; omega⟩

/-- The eight stores cover the buffer. -/
theorem cover21 (p0 p1 p2 p3 p4 p5 p6 p7 : Vec F S544x128 .f32) (y : S4352x128.Idx) :
    ∃ pc ∈ ([⟨rows7, p7⟩, ⟨rows6, p6⟩, ⟨rows5, p5⟩, ⟨rows4, p4⟩, ⟨rows3, p3⟩, ⟨rows2, p2⟩, ⟨rows1, p1⟩, ⟨rows0, p0⟩] : List (View.Piece (Elt F) S4352x128 .f32)), y ∈ pc.1.set := by
  have hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hk with h | h | h | h | h | h | h | h
  · exact ⟨⟨rows0, p0⟩, by simp, mem_rows 0 _ y h⟩
  · exact ⟨⟨rows1, p1⟩, by simp, mem_rows 1 _ y h⟩
  · exact ⟨⟨rows2, p2⟩, by simp, mem_rows 2 _ y h⟩
  · exact ⟨⟨rows3, p3⟩, by simp, mem_rows 3 _ y h⟩
  · exact ⟨⟨rows4, p4⟩, by simp, mem_rows 4 _ y h⟩
  · exact ⟨⟨rows5, p5⟩, by simp, mem_rows 5 _ y h⟩
  · exact ⟨⟨rows6, p6⟩, by simp, mem_rows 6 _ y h⟩
  · exact ⟨⟨rows7, p7⟩, by simp, mem_rows 7 _ y h⟩

theorem cover22 (p0 : Vec F S544x128 .f32) (y : S544x128.Idx) :
    ∃ pc ∈ ([⟨full128, p0⟩] : List (View.Piece (Elt F) S544x128 .f32)), y ∈ pc.1.set :=
  View.cover_of_tiled [⟨full128, p0⟩] S544x128.size (by rfl) y

/-! ## The body's triple -/

set_option maxHeartbeats 1000000 in
/-- The body leaves the inputs' buffers as they were and the results' as stated. -/
theorem sound_kernel (c : Dev nD) (E : Set ℕ) (i : grid0.Coords) (arg1 : Memref sig .tc .vmem S544x1024 .f32) (harg1 : arg1.IsWhole) (arg2 : Memref sig .tc .vmem S544x256 .f32) (harg2 : arg2.IsWhole) (arg3 : Memref sig .tc .vmem S544x384 .f32) (harg3 : arg3.IsWhole) (arg4 : Memref sig .tc .vmem S544x384 .f32) (harg4 : arg4.IsWhole) (arg5 : Memref sig .tc .vmem S544x384 .f32) (harg5 : arg5.IsWhole) (arg6 : Memref sig .tc .vmem S544x384 .f32) (harg6 : arg6.IsWhole) (arg7 : Memref sig .tc .vmem S544x384 .f32) (harg7 : arg7.IsWhole) (arg8 : Memref sig .tc .vmem S544x384 .bf16) (harg8 : arg8.IsWhole) (arg9 : Memref sig .tc .vmem S544x3072 .bf16) (harg9 : arg9.IsWhole) (arg10 : Memref sig .tc .vmem S1x6x1024 .f32) (harg10 : arg10.IsWhole) (arg11 : Memref sig .tc .vmem S1x6x1024 .f32) (harg11 : arg11.IsWhole) (arg12 : Memref sig .tc .vmem S1x1024 .f32) (harg12 : arg12.IsWhole) (arg13 : Memref sig .tc .vmem S256x256 .bf16) (harg13 : arg13.IsWhole) (arg14 : Memref sig .tc .vmem S256x1024 .bf16) (harg14 : arg14.IsWhole) (arg15 : Memref sig .tc .vmem S384x1024 .bf16) (harg15 : arg15.IsWhole) (arg16 : Memref sig .tc .vmem S384x1024 .bf16) (harg16 : arg16.IsWhole) (arg17 : Memref sig .tc .vmem S1024x1024 .bf16) (harg17 : arg17.IsWhole) (arg18 : Memref sig .tc .vmem S384x384 .bf16) (harg18 : arg18.IsWhole) (arg19 : Memref sig .tc .vmem S1024x256 .bf16) (harg19 : arg19.IsWhole) (arg20 : Memref sig .tc .vmem S1x128 .f32) (harg20 : arg20.IsWhole) (arg21 : Memref sig .tc .vmem S544x1024 .f32) (harg21 : arg21.IsWhole) (arg22 : Memref sig .tc .vmem S4352x128 .f32) (harg22 : arg22.IsWhole) (arg23 : Memref sig .tc .vmem S544x128 .f32) (harg23 : arg23.IsWhole)
    (x0 : Vec F S544x1024 .f32) (x1 : Vec F S544x256 .f32) (x2 : Vec F S544x384 .f32) (x3 : Vec F S544x384 .f32) (x4 : Vec F S544x384 .f32) (x5 : Vec F S544x384 .f32) (x6 : Vec F S544x384 .f32) (x7 : Vec F S544x384 .bf16) (x8 : Vec F S544x3072 .bf16) (x9 : Vec F S1x6x1024 .f32) (x10 : Vec F S1x6x1024 .f32) (x11 : Vec F S1x1024 .f32) (x12 : Vec F S256x256 .bf16) (x13 : Vec F S256x1024 .bf16) (x14 : Vec F S384x1024 .bf16) (x15 : Vec F S384x1024 .bf16) (x16 : Vec F S1024x1024 .bf16) (x17 : Vec F S384x384 .bf16) (x18 : Vec F S1024x256 .bf16) (x19 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out20 i ⟨x0, x1, x2, x3, x4, x5, x6, x7, x8, x9, x10, x11, x12, x13, x14, x15, x16, x17, x18, x19⟩) ∗ owns (c : Thread nD τ) arg22 fullShare (out21 i ⟨x0, x1, x2, x3, x4, x5, x6, x7, x8, x9, x10, x11, x12, x13, x14, x15, x16, x17, x18, x19⟩) ∗ owns (c : Thread nD τ) arg23 fullShare (out22 i ⟨x0, x1, x2, x3, x4, x5, x6, x7, x8, x9, x10, x11, x12, x13, x14, x15, x16, x17, x18, x19⟩)) -∗ K ⟨⟩))
      ⊢ wp frame (wpE (defs₀ (F := F)) Variants.none c none) E (cc0__merge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__merge_kernel_eq_skeleton]; unfold cc0__merge_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19
  sl_exec
  sl_step
  iapply Hk
  isplitl [H0]; · (iexists f0; isplitr; (· ipureintro; rfl); iexact H0)
  isplitl [H1]; · (iexists f1; isplitr; (· ipureintro; rfl); iexact H1)
  isplitl [H2]; · (iexists f2; isplitr; (· ipureintro; rfl); iexact H2)
  isplitl [H3]; · (iexists f3; isplitr; (· ipureintro; rfl); iexact H3)
  isplitl [H4]; · (iexists f4; isplitr; (· ipureintro; rfl); iexact H4)
  isplitl [H5]; · (iexists f5; isplitr; (· ipureintro; rfl); iexact H5)
  isplitl [H6]; · (iexists f6; isplitr; (· ipureintro; rfl); iexact H6)
  isplitl [H7]; · (iexists f7; isplitr; (· ipureintro; rfl); iexact H7)
  isplitl [H8]; · (iexists f8; isplitr; (· ipureintro; rfl); iexact H8)
  isplitl [H9]; · (iexists f9; isplitr; (· ipureintro; rfl); iexact H9)
  isplitl [H10]; · (iexists f10; isplitr; (· ipureintro; rfl); iexact H10)
  isplitl [H11]; · (iexists f11; isplitr; (· ipureintro; rfl); iexact H11)
  isplitl [H12]; · (iexists f12; isplitr; (· ipureintro; rfl); iexact H12)
  isplitl [H13]; · (iexists f13; isplitr; (· ipureintro; rfl); iexact H13)
  isplitl [H14]; · (iexists f14; isplitr; (· ipureintro; rfl); iexact H14)
  isplitl [H15]; · (iexists f15; isplitr; (· ipureintro; rfl); iexact H15)
  isplitl [H16]; · (iexists f16; isplitr; (· ipureintro; rfl); iexact H16)
  isplitl [H17]; · (iexists f17; isplitr; (· ipureintro; rfl); iexact H17)
  isplitl [H18]; · (iexists f18; isplitr; (· ipureintro; rfl); iexact H18)
  isplitl [H19]; · (iexists f19; isplitr; (· ipureintro; rfl); iexact H19)
  isplitl [H20]
  · iexists _; isplitr
    swap; · iexact H20
    ipureintro
    exact (View.read_writes_eq_canon _ _ _ (cover20 _)).trans rfl
  isplitl [H21]
  · iexists _; isplitr
    swap; · iexact H21
    ipureintro
    refine (View.read_writes_eq_canon _ _ _ (cover21 _ _ _ _ _ _ _ _)).trans ?_
    refine out21_of i ⟨View.read (Elt F) arg1.view f0, View.read (Elt F) arg2.view f1, View.read (Elt F) arg3.view f2, View.read (Elt F) arg4.view f3, View.read (Elt F) arg5.view f4, View.read (Elt F) arg6.view f5, View.read (Elt F) arg7.view f6, View.read (Elt F) arg8.view f7, View.read (Elt F) arg9.view f8, View.read (Elt F) arg10.view f9, View.read (Elt F) arg11.view f10, View.read (Elt F) arg12.view f11, View.read (Elt F) arg13.view f12, View.read (Elt F) arg14.view f13, View.read (Elt F) arg15.view f14, View.read (Elt F) arg16.view f15, View.read (Elt F) arg17.view f16, View.read (Elt F) arg18.view f17, View.read (Elt F) arg19.view f18, View.read (Elt F) arg20.view f19⟩ _ _ _ ?_ ?_ ?_ <;> rfl
  iexists _; isplitr
  swap; · iexact H22
  ipureintro
  refine (View.read_writes_eq_canon _ _ _ (cover22 _)).trans ?_
  apply out22_of i ⟨View.read (Elt F) arg1.view f0, View.read (Elt F) arg2.view f1, View.read (Elt F) arg3.view f2, View.read (Elt F) arg4.view f3, View.read (Elt F) arg5.view f4, View.read (Elt F) arg6.view f5, View.read (Elt F) arg7.view f6, View.read (Elt F) arg8.view f7, View.read (Elt F) arg9.view f8, View.read (Elt F) arg10.view f9, View.read (Elt F) arg11.view f10, View.read (Elt F) arg12.view f11, View.read (Elt F) arg13.view f12, View.read (Elt F) arg14.view f13, View.read (Elt F) arg15.view f14, View.read (Elt F) arg16.view f15, View.read (Elt F) arg17.view f16, View.read (Elt F) arg18.view f17, View.read (Elt F) arg19.view f18, View.read (Elt F) arg20.view f19⟩
  iterate 15 exact rfl

end Cert.Kernel3Ideal.Merging

end
-- ==== Proof.MergeFrame.lean ====
/-
  The merge kernel's run: what a grid point's body leaves in the three results' buffers, and the frame of the whole launch. The
  second result's buffer is filled by eight stores, each through the rows of one residue modulo eight.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.MergeBody
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel3Ideal.Merging

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The launch's data: the inputs' buffers keep their blocks, the results' get what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out20 (grid0.coords t) (blocks m c t)
    | ⟨21, _⟩ => out21 (grid0.coords t) (blocks m c t)
    | ⟨22, _⟩ => out22 (grid0.coords t) (blocks m c t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after20 (c : Dev nD) (t : Fin cfg0.N) : (dats m 0 c).after 20 t = out20 (grid0.coords t) (blocks m c t) := by dsimp only [dats]
theorem after21 (c : Dev nD) (t : Fin cfg0.N) : (dats m 0 c).after 21 t = out21 (grid0.coords t) (blocks m c t) := by dsimp only [dats]
theorem after22 (c : Dev nD) (t : Fin cfg0.N) : (dats m 0 c).after 22 t = out22 (grid0.coords t) (blocks m c t) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · (iexists _; iexact H20)
  isplitl [H21]; · (iexists _; iexact H21)
  isplitl [H22]; · (iexists _; iexact H22)
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole run, with every semaphore at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument that a window stages keeps its contents. -/
theorem kept_in (r : PUnit × MemSt nD τ sig (Elt F)) (h : Pipeline.FramePost cfgs (dats m) 0 (V m) r) (c : Dev nD) (w : Fin cfg0.W)
    (hw : (cfg0.win w).isOut = false) (hb : ∀ v ∈ written, Pipeline.arrRef spec0 w ≠ v) :
    r.2.mem ((c : Thread nD τ).loc (Pipeline.arrRef spec0 w)) = m ((c : Thread nD τ).loc (Pipeline.arrRef spec0 w)) :=
  ((h c).1 w).trans (((dats m 0 c).arrAt_in w hw _).trans ((A_eq m c w).trans (V_kept m c _ hb)))

/-- The arguments after the run, and the results as the launch leaves them. -/
theorem run_blocks : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ (r.2.sem = fun _ => 0)
      ∧ ∀ c : Dev nD, r.2.mem ((c : Thread nD τ).loc main_v25_0) = (dats m 0 c).arrAt 20 cfg0.N
        ∧ r.2.mem ((c : Thread nD τ).loc main_v25_1) = (dats m 0 c).arrAt 21 cfg0.N :=
  (θ_run defs _ _).mono (fun r hr => ⟨fun c => ⟨kept_in m r hr.1 c 0 rfl (by decide),
      kept_in m r hr.1 c 1 rfl (by decide),
      kept_in m r hr.1 c 2 rfl (by decide),
      kept_in m r hr.1 c 3 rfl (by decide),
      kept_in m r hr.1 c 4 rfl (by decide),
      kept_in m r hr.1 c 5 rfl (by decide),
      kept_in m r hr.1 c 6 rfl (by decide),
      kept_in m r hr.1 c 7 rfl (by decide),
      kept_in m r hr.1 c 8 rfl (by decide),
      kept_in m r hr.1 c 9 rfl (by decide),
      kept_in m r hr.1 c 10 rfl (by decide),
      ((hr.1 c).2 main_arg11 (Pipeline.mem_restRefs_of main_arg11 (by decide) (by decide))).trans (V_kept m c _ (by decide)),
      ((hr.1 c).2 main_arg12 (Pipeline.mem_restRefs_of main_arg12 (by decide) (by decide))).trans (V_kept m c _ (by decide)),
      ((hr.1 c).2 main_arg13 (Pipeline.mem_restRefs_of main_arg13 (by decide) (by decide))).trans (V_kept m c _ (by decide)),
      ((hr.1 c).2 main_arg14 (Pipeline.mem_restRefs_of main_arg14 (by decide) (by decide))).trans (V_kept m c _ (by decide)),
      ((hr.1 c).2 main_arg15 (Pipeline.mem_restRefs_of main_arg15 (by decide) (by decide))).trans (V_kept m c _ (by decide)),
      ((hr.1 c).2 main_arg16 (Pipeline.mem_restRefs_of main_arg16 (by decide) (by decide))).trans (V_kept m c _ (by decide)),
      ((hr.1 c).2 main_arg17 (Pipeline.mem_restRefs_of main_arg17 (by decide) (by decide))).trans (V_kept m c _ (by decide)),
      ((hr.1 c).2 main_arg18 (Pipeline.mem_restRefs_of main_arg18 (by decide) (by decide))).trans (V_kept m c _ (by decide)),
      ((hr.1 c).2 main_arg19 (Pipeline.mem_restRefs_of main_arg19 (by decide) (by decide))).trans (V_kept m c _ (by decide)),
      ((hr.1 c).2 main_arg20 (Pipeline.mem_restRefs_of main_arg20 (by decide) (by decide))).trans (V_kept m c _ (by decide))⟩, hr.2,
    fun c => ⟨(hr.1 c).1 20, (hr.1 c).1 21⟩⟩) (run_quiescent m ρ)

/-- The frame. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun r h => ⟨h.1, h.2.1⟩) (run_blocks m ρ)

/-! ## The results, block by block -/

theorem flushed20 (c : Dev nD) (t : Fin cfg0.N) :
    (dats m 0 c).flushed 20 t = (cfg0.win 20).cut (grid0.coords t) (out20 (grid0.coords t) (blocks m c t)) := by
  show (cfg0.win 20).cut (grid0.coords t) ((dats m 0 c).after 20 t) = _
  rw [after20]

theorem idx_inj20 : ∀ t t' : Fin cfg0.N, win0_20.index t = win0_20.index t' → t = t' :=
  (by decide +kernel : ∀ t t' : Fin grid0.N, win0_20.index t = win0_20.index t' → t = t')

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 (fun t t' _ _ hne => (cfg0.win 20).disjoint_blk fun h => hne (idx_inj20 t t' h)) cfg0.N t t.isLt hf

theorem flushed21 (c : Dev nD) (t : Fin cfg0.N) :
    (dats m 0 c).flushed 21 t = (cfg0.win 21).cut (grid0.coords t) (out21 (grid0.coords t) (blocks m c t)) := by
  show (cfg0.win 21).cut (grid0.coords t) ((dats m 0 c).after 21 t) = _
  rw [after21]

theorem idx_inj21 : ∀ t t' : Fin cfg0.N, win0_21.index t = win0_21.index t' → t = t' :=
  (by decide +kernel : ∀ t t' : Fin grid0.N, win0_21.index t = win0_21.index t' → t = t')

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 (fun t t' _ _ hne => (cfg0.win 21).disjoint_blk fun h => hne (idx_inj21 t t' h)) cfg0.N t t.isLt hf

end Cert.Kernel3Ideal.Merging

end
-- ==== Proof.MergeKernel.lean ====
/-
  The merge kernel over its grid: point `8 * b + j` holds rows `544 * j …` of sequence `b`. Its rows after the mixer and its token
  tiles are the model's, once the branches' sums are finite: the kernel sums a head's squares as the sum of their leading parts and of
  what these leave, and what the leading part of an infinite square leaves is no zero.
-/
module

public import proofs.«01_k».proof.Proof.Merge
public import proofs.«01_k».proof.Proof.MergeFrame
public import proofs.«01_k».proof.Proof.ProjectKernel
public import proofs.«01_k».proof.Proof.Words
public import Idealize.ShloMosaic.Lib.Pipeline.ValueKit

@[expose] public section

set_option maxRecDepth 16384

noncomputable section

namespace Cert.Merge

open Idealize.ShloMosaic Idealize.ShloMosaic.TcCoe Idealize.SL.Sem
open Cert.Kernel3Ideal Cert.Kernel3Ideal.Gen Cert.Kernel3Ideal.Merging
open Cert.Project (flat exists_flat modulated tileRow exists_tileRow isCtx tileWord tile_val)

local notation "𝕀" => Idealize.ShloMosaic.Ideal

/-! ## A head's mean of squares -/

theorem sixtyFour : Ideal.ofBits .f32 0x42800000#32 = ((64 : ℝ) : EReal) := by
  simp [Ideal.ofBits, Ideal.ieee, -EReal.coe_mul]; norm_num
theorem sixtyFourth : Ideal.ofBits .f32 0x3C800000#32 = ((1 / 64 : ℝ) : EReal) := by
  simp [Ideal.ofBits, Ideal.ieee, -EReal.coe_mul]; norm_num

/-- The kernel multiplies by the sixty-fourth where the reference divides. -/
theorem mul_sixtyFourth (x : EReal) : x * Ideal.ofBits .f32 0x3C800000#32 = Ideal.div x (Ideal.ofBits .f32 0x42800000#32) := by
  rw [sixtyFour, sixtyFourth, Ideal.div_coe (by norm_num)]

/-- A sum over all lanes of which only a head's count. -/
theorem sum_head (f : Fin 384 → EReal) (a : Fin 384) : ∑ q : Fin 384, f q * (if q.val / 64 = a.val / 64 then 1 else 0) = ∑ l : Fin 64, f (headLane a l) := by
  simp only [mul_ite, mul_one, mul_zero]
  rw [← Finset.sum_filter]
  refine Finset.sum_nbij' (fun q => ⟨q.val % 64, by omega⟩) (fun l => headLane a l) ?_ ?_ ?_ ?_ ?_
  · exact fun _ _ => Finset.mem_univ _
  · intro l _
    simp only [Finset.mem_filter, Finset.mem_univ, true_and, headLane]
    omega
  · intro q hq
    simp only [Finset.mem_filter, Finset.mem_univ, true_and] at hq
    exact Fin.ext (by simp only [headLane]; omega)
  · intro l _
    exact Fin.ext (by simp only [headLane]; omega)
  · intro q hq
    simp only [Finset.mem_filter, Finset.mem_univ, true_and] at hq
    refine congrArg f (Fin.ext ?_)
    simp only [headLane]; omega

/-- A finite value's square leaves nothing of itself. -/
theorem square_sub_self (x : EReal) (ht : x ≠ ⊤) (hb : x ≠ ⊥) : x * x - x * x = 0 := by
  lift x to ℝ using ⟨ht, hb⟩
  rw [← EReal.coe_mul, ← EReal.coe_sub, sub_self, EReal.coe_zero]

/-- A row normalised as the kernel does it: with a table of ones, and the squares in two parts. -/
def splitNorm (o : Fin 384 → EReal) (e : Fin 384 → Fin 384 → EReal) (a : Fin 384) : EReal :=
  o a * Ideal.rsqrt (((∑ q, o q * o q * e q a) + ∑ q, (o q * o q - o q * o q) * e q a) * Ideal.ofBits .f32 0x3C800000#32 + Ideal.ofBits .f32 0x358637BD#32)

theorem splitNorm_eq (o : Fin 384 → EReal) (ho : ∀ q, o q ≠ ⊤ ∧ o q ≠ ⊥) (e : Fin 384 → Fin 384 → EReal)
    (he : ∀ q a, e q a = if q.val / 64 = a.val / 64 then 1 else 0) (a : Fin 384) : splitNorm o e a = headNorm o a := by
  unfold splitNorm headNorm
  simp only [he, square_sub_self _ (ho _).1 (ho _).2, zero_mul, Finset.sum_const_zero, add_zero]
  rw [sum_head (fun q => o q * o q), mul_sixtyFourth]

/-- The table of ones, head by head, as the host makes it. -/
def ones : FVec 𝕀 S384x384 .bf16 :=
  truncf .bf16 (shapeCast S384x384 (mulf
    (broadcastInDim S6x64x6x64 ![0, 1, 2, 3] bcast_S6x1x6x1_S6x64x6x64_0_1_2_3 (broadcastInDim S6x1x6x1 ![0, 2] bcast_S6x6_S6x1x6x1_0_2
      (uitofp .f32 (cmpi .eq (addi (iotaInDim S6x6 32 0) (broadcastInDim S6x6 ![] bcast_S_S6x6 (constantI S_ 32 0#32))) (iotaInDim S6x6 32 1)))))
    (broadcastInDim S6x64x6x64 ![0, 1, 2, 3] bcast_S1x64x1x64_S6x64x6x64_0_1_2_3 (broadcastInDim S1x64x1x64 ![1, 3] bcast_S64x64_S1x64x1x64_1_3
      (broadcastInDim S64x64 ![] bcast_S_S64x64 (constant S_ .f32 0x3F800000#32))))) shapeCasts_S6x64x6x64_S384x384) bitsLt_bf16_f32

theorem eye_word : ∀ p q : Fin 6, IntOp.cmpi .eq (IntOp.addi (BitVec.ofNat 32 p.val) 0#32) (BitVec.ofNat 32 q.val) = BitVec.ofBool (decide (p = q)) := by
  decide +kernel

theorem eye_at (p q : Fin 6) : (uitofp .f32 (cmpi .eq (addi (iotaInDim S6x6 32 0) (broadcastInDim S6x6 ![] bcast_S_S6x6 (constantI S_ 32 0#32))) (iotaInDim S6x6 32 1)) : FVec 𝕀 S6x6 .f32) (ix2 p q)
    = if p = q then 1 else 0 := by
  have h := eye_word p q
  pointwise
  rw [h]
  by_cases e : p = q
  · rw [if_pos e, decide_eq_true e]
    show (((1#1).toNat : ℝ) : EReal) = 1
    simp
  · rw [if_neg e, decide_eq_false e]
    show (((0#1).toNat : ℝ) : EReal) = 0
    simp

theorem ones_at (q a : Fin 384) : ones (ix2 q a) = if q.val / 64 = a.val / 64 then 1 else 0 := by
  have e : ones (ix2 q a) = (uitofp .f32 (cmpi .eq (addi (iotaInDim S6x6 32 0) (broadcastInDim S6x6 ![] bcast_S_S6x6 (constantI S_ 32 0#32))) (iotaInDim S6x6 32 1)) : FVec 𝕀 S6x6 .f32)
      (ix2 ⟨q.val / 64, by omega⟩ ⟨a.val / 64, by omega⟩) := by
    unfold ones
    generalize (uitofp .f32 (cmpi .eq (addi (iotaInDim S6x6 32 0) (broadcastInDim S6x6 ![] bcast_S_S6x6 (constantI S_ 32 0#32))) (iotaInDim S6x6 32 1)) : FVec 𝕀 S6x6 .f32) = u
    pointwise
  rw [e, eye_at]
  simp only [Fin.mk.injEq]

/-! ## A tile's mix -/

theorem gelu_tile (y : Vec 𝕀 S544x256 .f32) (w : Vec 𝕀 S256x256 .bf16) (r : Fin 544) (c : Fin 256) :
    k0_pay3 y w (ix2 r c) = gelu (y (ix2 r c)) * Ideal.logistic (∑ a, gelu (y (ix2 r a)) * w (ix2 a c)) := by
  have e : ∀ v : EReal, v * (v * v) = v * v * v := fun v => mul_comm _ _
  pointwise [k0_pay3, gelu, e]

theorem s5_tile (u : FVec 𝕀 S544x256 .bf16) (w : FVec 𝕀 S256x1024 .bf16) (r : Fin 544) (k : Fin 1024) :
    k0_pay5 u w (constant S544x1024 .f32 0x00000000#32) (ix2 r k) = ∑ a, u (ix2 r a) * w (ix2 a k) := by
  pointwise [k0_pay5]

theorem hg_tile (o1 o2 g : Vec 𝕀 S544x384 .f32) (e : Vec 𝕀 S384x384 .bf16) (w : Vec 𝕀 S384x1024 .bf16) (r : Fin 544) (k : Fin 1024) :
    k0_pay6 o1 o2 g e w (ix2 r k)
      = ∑ a, splitNorm (fun q => o1 (ix2 r q) + o2 (ix2 r q)) (fun q c => e (ix2 q c)) a * silu (g (ix2 r a)) * w (ix2 a k) := by
  pointwise [k0_pay6, splitNorm, silu]

theorem mix_tile (u v : FVec 𝕀 S544x1024 .f32) (o1 o2 : Vec 𝕀 S544x384 .f32) (g : Vec 𝕀 S544x384 .bf16) (e : Vec 𝕀 S384x384 .bf16) (w : Vec 𝕀 S384x1024 .bf16)
    (z0 z1 z2 : Vec 𝕀 S544x1024 .bf16) (wo : Vec 𝕀 S1024x1024 .bf16) (r : Fin 544) (k : Fin 1024) :
    k0_pay12 u v (k0_pay7 o1 o2) g (k0_pay8 e) (k0_pay9 o1 o2) (k0_pay10 o1 o2) (k0_pay11 o1 o2) w z0 z1 z2 wo (ix2 r k)
      = ∑ c, (Ideal.logistic (z0 (ix2 r c)) * u (ix2 r c) + Ideal.logistic (z1 (ix2 r c)) * v (ix2 r c)
          + Ideal.logistic (z2 (ix2 r c)) * ∑ a, splitNorm (fun q => o1 (ix2 r q) + o2 (ix2 r q)) (fun q c => e (ix2 q c)) a * silu (g (ix2 r a)) * w (ix2 a c)) * wo (ix2 c k) := by
  pointwise [k0_pay12, k0_pay7, k0_pay8, k0_pay9, k0_pay10, k0_pay11, splitNorm, silu]

/-! ## A tile's rows after the mixer, and its hidden rows -/

theorem new_tile (p : IVec S544x1 1) (v : FVec 𝕀 S544x1024 .f32) (x : Vec 𝕀 S544x1024 .f32) (tc tl : Vec 𝕀 S1x1x1024 .f32) (c : Bool) (r : Fin 544) (k : Fin 1024)
    (hp : p (ix2 r 0) = BitVec.ofBool c) : k0_pay13 p v x tc tl (ix2 r k) = x (ix2 r k) + (if c = true then tc (ix3 0 0 k) else tl (ix3 0 0 k)) * v (ix2 r k) := by
  pointwise [k0_pay13]
  rw [hp, Cert.KernelIdeal.Read.select_ofBool]

theorem scaled_tile (p : IVec S544x1 1) (v : FVec 𝕀 S544x1024 .f32) (x : Vec 𝕀 S544x1024 .f32) (tc tl : Vec 𝕀 S1x1x1024 .f32) (g : Vec 𝕀 S1x1024 .f32) (sc sl : Vec 𝕀 S1x1x1024 .f32)
    (c : Bool) (r : Fin 544) (k : Fin 1024) (hp : p (ix2 r 0) = BitVec.ofBool c) :
    k0_pay14 p v x tc tl g sc sl (ix2 r k)
      = k0_pay13 p v x tc tl (ix2 r k)
        * Ideal.rsqrt (Ideal.div (∑ q, k0_pay13 p v x tc tl (ix2 r q) * k0_pay13 p v x tc tl (ix2 r q)) (Ideal.ofBits .f32 0x44800000#32) + Ideal.ofBits .f32 0x358637BD#32)
        * g (ix2 0 k) * (Ideal.ofBits .f32 0x3F800000#32 + if c = true then sc (ix3 0 0 k) else sl (ix3 0 0 k)) := by
  unfold k0_pay14
  generalize k0_pay13 p v x tc tl = u
  pointwise
  rw [hp, Cert.KernelIdeal.Read.select_ofBool]

theorem shifted_tile (p : IVec S544x1 1) (v : FVec 𝕀 S544x1024 .f32) (hc hl : Vec 𝕀 S1x1x1024 .f32)
    (c : Bool) (r : Fin 544) (k : Fin 1024) (hp : p (ix2 r 0) = BitVec.ofBool c) :
    k0_pay15 p v hc hl (ix2 r k) = v (ix2 r k) + if c = true then hc (ix3 0 0 k) else hl (ix3 0 0 k) := by
  pointwise [k0_pay15]
  rw [hp, Cert.KernelIdeal.Read.select_ofBool]

/-- Grid point `j` of sequence `b`. -/
def point (b j : Fin 8) : Fin cfg0.N := ⟨8 * b.val + j.val, by have h : cfg0.N = 64 := N_0; omega⟩

theorem tileWord_point : ∀ b j : Fin 8, tileWord (BitVec.ofNat 32 (grid0.coords (point b j) 0).val) = BitVec.ofNat 32 (j.val * 544) := by
  decide +kernel

theorem mask_at (b j : Fin 8) (r : Fin 544) : k0_pay2 (grid0.coords (point b j)) (ix2 r 0) = BitVec.ofBool (isCtx j r) := by
  have h := tileWord_point b j
  pointwise [k0_pay2]
  show IntOp.cmpi .slt (IntOp.addi (tileWord (BitVec.ofNat 32 (grid0.coords (point b j) 0).val)) (BitVec.ofNat 32 r.val)) 256#32 = _
  rw [h]
  clear h
  revert j r
  decide +kernel

section Tile
variable (B : Blocks 𝕀)

theorem ld256 (x : Vec 𝕀 S544x256 .f32) : View.ld x full256 = x := by funext y; idx_vars y; pointwise
theorem ld256x256 (x : Vec 𝕀 S256x256 .bf16) : View.ld x full256x256 = x := by funext y; idx_vars y; pointwise
theorem ld256x1024 (x : Vec 𝕀 S256x1024 .bf16) : View.ld x full256x1024 = x := by funext y; idx_vars y; pointwise
theorem ld384 (x : Vec 𝕀 S544x384 .f32) : View.ld x full384 = x := by funext y; idx_vars y; pointwise
theorem ld384h (x : Vec 𝕀 S544x384 .bf16) : View.ld x full384 = x := by funext y; idx_vars y; pointwise
theorem ld384x384 (x : Vec 𝕀 S384x384 .bf16) : View.ld x full384x384 = x := by funext y; idx_vars y; pointwise
theorem ld384x1024 (x : Vec 𝕀 S384x1024 .bf16) : View.ld x full384x1024 = x := by funext y; idx_vars y; pointwise
theorem ld1024x1024 (x : Vec 𝕀 S1024x1024 .bf16) : View.ld x full1024x1024 = x := by funext y; idx_vars y; pointwise
theorem ld1024 (x : Vec 𝕀 S544x1024 .f32) : View.ld x full1024 = x := by funext y; idx_vars y; pointwise
theorem ldRow (x : Vec 𝕀 S1x1024 .f32) (k : Fin 1024) : View.ld x row1024 (ix2 0 k) = x (ix2 0 k) := by pointwise
theorem ldGate0 (x : Vec 𝕀 S544x3072 .bf16) (r : Fin 544) (k : Fin 1024) : View.ld x gate0 (ix2 r k) = x (ix2 r (gate 0 k)) := by pointwise [gate]
theorem ldGate1 (x : Vec 𝕀 S544x3072 .bf16) (r : Fin 544) (k : Fin 1024) : View.ld x gate1 (ix2 r k) = x (ix2 r (gate 1 k)) := by pointwise [gate]
theorem ldGate2 (x : Vec 𝕀 S544x3072 .bf16) (r : Fin 544) (k : Fin 1024) : View.ld x gate2 (ix2 r k) = x (ix2 r (gate 2 k)) := by pointwise [gate]
theorem ldMod2 (x : Vec 𝕀 S1x6x1024 .f32) (k : Fin 1024) : View.ld x mod2 (ix3 0 0 k) = x (ix3 0 2 k) := by pointwise
theorem ldMod3 (x : Vec 𝕀 S1x6x1024 .f32) (k : Fin 1024) : View.ld x mod3 (ix3 0 0 k) = x (ix3 0 3 k) := by pointwise
theorem ldMod4 (x : Vec 𝕀 S1x6x1024 .f32) (k : Fin 1024) : View.ld x mod4 (ix3 0 0 k) = x (ix3 0 4 k) := by pointwise

/-- Row `r` of a tile's branches. -/
def tileOf (r : Fin 544) : Row where
  ys a := B.x1 (ix2 r a)
  o a := B.x2 (ix2 r a) + B.x3 (ix2 r a)
  g a := B.x4 (ix2 r a)
  p a := B.x5 (ix2 r a) + B.x6 (ix2 r a)
  q a := B.x7 (ix2 r a)
  z a := B.x8 (ix2 r a)

/-- The weights that a tile finds. -/
def weightsOf : Weights where
  glu a c := B.x12 (ix2 a c)
  s a c := B.x13 (ix2 a c)
  h a c := B.x14 (ix2 a c)
  r a c := B.x15 (ix2 a c)
  o a c := B.x16 (ix2 a c)

/-- A tile's mix is the model's of its rows. -/
theorem mixed_at (r : Fin 544) (k : Fin 1024) (he : ∀ q a, B.x17 (ix2 q a) = if q.val / 64 = a.val / 64 then 1 else 0)
    (ho : ∀ q, (tileOf B r).o q ≠ ⊤ ∧ (tileOf B r).o q ≠ ⊥) (hp : ∀ q, (tileOf B r).p q ≠ ⊤ ∧ (tileOf B r).p q ≠ ⊥) :
    mixed B (ix2 r k) = (tileOf B r).mix (weightsOf B) k := by
  unfold mixed
  simp only [ld256, ld256x256, ld256x1024, ld384, ld384h, ld384x384, ld384x1024, ld1024x1024]
  refine (mix_tile _ _ _ _ _ _ _ _ _ _ _ r k).trans ?_
  refine Finset.sum_congr rfl fun c _ => congrArg₂ (· * ·) ?_ rfl
  unfold Row.merged
  refine congrArg₂ (· + ·) (congrArg₂ (· + ·) (congrArg₂ (· * ·) (congrArg Ideal.logistic (ldGate0 _ r c)) ?_) (congrArg₂ (· * ·) (congrArg Ideal.logistic (ldGate1 _ r c)) ?_))
    (congrArg₂ (· * ·) (congrArg Ideal.logistic (ldGate2 _ r c)) ?_)
  · refine (s5_tile _ _ r c).trans (Finset.sum_congr rfl fun a _ => congrArg₂ (· * ·) (gelu_tile _ _ r a) ?_)
    show k0_pay4 B.x13 (ix2 a c) = B.x13 (ix2 a c)
    pointwise [k0_pay4]
  · refine (hg_tile _ _ _ _ _ r c).trans (Finset.sum_congr rfl fun a _ => ?_)
    exact congrArg₂ (· * ·) (congrArg₂ (· * ·) (splitNorm_eq _ ho _ he a) rfl) rfl
  · refine Finset.sum_congr rfl fun a _ => ?_
    exact congrArg₂ (· * ·) (congrArg₂ (· * ·) (splitNorm_eq _ hp _ he a) rfl) rfl

variable (b j : Fin 8)

/-- The table that the mask chooses. -/
def tableOf (r : Fin 544) (a : Fin 6) (k : Fin 1024) : EReal := if isCtx j r = true then B.x10 (ix3 0 a k) else B.x9 (ix3 0 a k)

/-- A tile's rows after the mixer. -/
def newOf : FVec 𝕀 S544x1024 .f32 := k0_pay13 (k0_pay2 (grid0.coords (point b j))) (mixed B) (View.ld B.x0 full1024) (View.ld B.x10 mod2) (View.ld B.x9 mod2)

theorem newOf_at (r : Fin 544) (k : Fin 1024) : newOf B b j (ix2 r k) = B.x0 (ix2 r k) + tableOf B j r 2 k * mixed B (ix2 r k) := by
  unfold newOf
  refine (new_tile _ _ _ _ _ (isCtx j r) r k (mask_at b j r)).trans ?_
  rw [ld1024, ldMod2, ldMod2]
  rfl

theorem out20_at (r : Fin 544) (k : Fin 1024) : out20 (grid0.coords (point b j)) B (ix2 r k) = newOf B b j (ix2 r k) := by
  have e : full1024.emb (ix2 r k) = ix2 r k := by
    funext a; apply Fin.ext; fin_cases a <;> simp [ix2]
  exact (congrArg (View.canon _) e.symm).trans (View.canon_cons_emb full1024 _ [] (ix2 r k))

/-- A tile's hidden rows. -/
def hiddenOf : FVec 𝕀 S544x1024 .f32 := k0_pay15 (k0_pay2 (grid0.coords (point b j))) (scaled (grid0.coords (point b j)) B) (View.ld B.x10 mod3) (View.ld B.x9 mod3)

theorem hiddenOf_at (r : Fin 544) (k : Fin 1024) :
    hiddenOf B b j (ix2 r k) = modulated (fun q => newOf B b j (ix2 r q)) (fun q => B.x11 (ix2 0 q)) (tableOf B j r 4) (tableOf B j r 3) k := by
  unfold hiddenOf
  refine (shifted_tile _ _ _ _ (isCtx j r) r k (mask_at b j r)).trans ?_
  have e := scaled_tile (k0_pay2 (grid0.coords (point b j))) (mixed B) (View.ld B.x0 full1024) (View.ld B.x10 mod2) (View.ld B.x9 mod2) (View.ld B.x11 row1024) (View.ld B.x10 mod4) (View.ld B.x9 mod4)
    (isCtx j r) r k (mask_at b j r)
  rw [ldRow, ldMod4, ldMod4] at e
  rw [ldMod3, ldMod3]
  exact congrArg (· + tableOf B j r 3 k) e

/-- Line `s` of row `r` in a tile's buffer. -/
def tileLine (r : Fin 544) (s : Fin 8) : Fin 4352 := ⟨8 * r.val + s.val, by omega⟩

/-- A store read where it put a value. -/
theorem canon_put (R : Rect S4352x128) (w : R.shape.Idx → EReal) (L : List (View.Piece (Elt 𝕀) S4352x128 .f32)) (x : R.shape.Idx) (y : S4352x128.Idx) (h : R.emb x = y) :
    View.canon (Val := Elt 𝕀) (e := .f32) (⟨R, w⟩ :: L) y = w x := by
  subst h
  exact View.canon_cons_emb R w L x

section Lines
variable (k : ℕ) (h : ∀ a, S544x128.size a = 0 ∨ (![k, 0] : Fin 2 → Nat) a + (![8, 1] : Fin 2 → Nat) a * (S544x128.size a - 1) < S4352x128.size a) (r : Fin 544) (s : Fin 8) (l : Fin 128)

theorem emb_lines (hs : s.val = k) : (⟨(⟨![k, 0], S544x128.size, ![8, 1], h⟩ : LoadRect S4352x128), spos_8_1⟩ : Rect S4352x128).emb (ix2 r l) = ix2 (tileLine r s) l := by
  funext a
  apply Fin.ext
  match a with
  | ⟨0, _⟩ => show k + 8 * r.val = 8 * r.val + s.val; omega
  | ⟨1, _⟩ => show 0 + 1 * l.val = l.val; omega

theorem not_mem_lines (hk : k < 8) (hs : s.val ≠ k) : ix2 (tileLine r s) l ∉ (⟨(⟨![k, 0], S544x128.size, ![8, 1], h⟩ : LoadRect S4352x128), spos_8_1⟩ : Rect S4352x128).set := fun hm => by
  obtain ⟨q, _, hq⟩ := (LoadRect.mem_set _).mp hm 0
  have hq' : 8 * r.val + s.val = k + 8 * q := hq
  omega

end Lines

/-- The eight stores read at a line: the store of the line's residue. -/
theorem canon_lines (a0 a1 a2 a3 a4 a5 a6 a7 : Vec 𝕀 S544x128 .f32) (r : Fin 544) (s : Fin 8) (l : Fin 128) :
    View.canon (Val := Elt 𝕀) (e := .f32) [⟨rows7, a7⟩, ⟨rows6, a6⟩, ⟨rows5, a5⟩, ⟨rows4, a4⟩, ⟨rows3, a3⟩, ⟨rows2, a2⟩, ⟨rows1, a1⟩, ⟨rows0, a0⟩] (ix2 (tileLine r s) l)
      = (![a0, a1, a2, a3, a4, a5, a6, a7] s) (ix2 r l) := by
  by_cases h7 : s = 7
  · subst h7; exact canon_put rows7 a7 _ (ix2 r l) _ (emb_lines 7 _ r 7 l rfl)
  refine (View.canon_cons_of_not_mem ⟨rows7, a7⟩ _ (not_mem_lines 7 _ r s l (by decide) fun e => h7 (Fin.ext e))).trans ?_
  by_cases h6 : s = 6
  · subst h6; exact canon_put rows6 a6 _ (ix2 r l) _ (emb_lines 6 _ r 6 l rfl)
  refine (View.canon_cons_of_not_mem ⟨rows6, a6⟩ _ (not_mem_lines 6 _ r s l (by decide) fun e => h6 (Fin.ext e))).trans ?_
  by_cases h5 : s = 5
  · subst h5; exact canon_put rows5 a5 _ (ix2 r l) _ (emb_lines 5 _ r 5 l rfl)
  refine (View.canon_cons_of_not_mem ⟨rows5, a5⟩ _ (not_mem_lines 5 _ r s l (by decide) fun e => h5 (Fin.ext e))).trans ?_
  by_cases h4 : s = 4
  · subst h4; exact canon_put rows4 a4 _ (ix2 r l) _ (emb_lines 4 _ r 4 l rfl)
  refine (View.canon_cons_of_not_mem ⟨rows4, a4⟩ _ (not_mem_lines 4 _ r s l (by decide) fun e => h4 (Fin.ext e))).trans ?_
  by_cases h3 : s = 3
  · subst h3; exact canon_put rows3 a3 _ (ix2 r l) _ (emb_lines 3 _ r 3 l rfl)
  refine (View.canon_cons_of_not_mem ⟨rows3, a3⟩ _ (not_mem_lines 3 _ r s l (by decide) fun e => h3 (Fin.ext e))).trans ?_
  by_cases h2 : s = 2
  · subst h2; exact canon_put rows2 a2 _ (ix2 r l) _ (emb_lines 2 _ r 2 l rfl)
  refine (View.canon_cons_of_not_mem ⟨rows2, a2⟩ _ (not_mem_lines 2 _ r s l (by decide) fun e => h2 (Fin.ext e))).trans ?_
  by_cases h1 : s = 1
  · subst h1; exact canon_put rows1 a1 _ (ix2 r l) _ (emb_lines 1 _ r 1 l rfl)
  refine (View.canon_cons_of_not_mem ⟨rows1, a1⟩ _ (not_mem_lines 1 _ r s l (by decide) fun e => h1 (Fin.ext e))).trans ?_
  obtain rfl : s = 0 := by omega
  exact canon_put rows0 a0 _ (ix2 r l) _ (emb_lines 0 _ r 0 l rfl)

theorem out21_at (r : Fin 544) (s : Fin 8) (l : Fin 128) : out21 (grid0.coords (point b j)) B (ix2 (tileLine r s) l) = hiddenOf B b j (ix2 r (channel s l)) := by
  refine (canon_lines _ _ _ _ _ _ _ _ r s l).trans ?_
  unfold k0_pay16 k0_pay17 k0_pay18 k0_pay19 k0_pay20 k0_pay21 k0_pay22 k0_pay23 hiddenOf
  generalize k0_pay15 (k0_pay2 (grid0.coords (point b j))) (scaled (grid0.coords (point b j)) B) (View.ld B.x10 mod3) (View.ld B.x9 mod3) = u
  obtain h | h | h | h | h | h | h | h : s = 0 ∨ s = 1 ∨ s = 2 ∨ s = 3 ∨ s = 4 ∨ s = 5 ∨ s = 6 ∨ s = 7 := by omega
  all_goals
    subst h
    pointwise [channel]

end Tile

/-! ## The blocks -/

variable (m : (ℓ : Loc nD τ sig) → Buf (Elt 𝕀) ℓ) (c : Dev nD)

/-- The kernel's inputs. -/
def inputs : Inputs where
  xs := m ((c.tc : Thread nD τ).loc main_arg0)
  ys := m ((c.tc : Thread nD τ).loc main_arg1)
  o1 := m ((c.tc : Thread nD τ).loc main_arg2)
  o2 := m ((c.tc : Thread nD τ).loc main_arg3)
  hg := m ((c.tc : Thread nD τ).loc main_arg4)
  p1 := m ((c.tc : Thread nD τ).loc main_arg5)
  p2 := m ((c.tc : Thread nD τ).loc main_arg6)
  ret := m ((c.tc : Thread nD τ).loc main_arg7)
  gz := m ((c.tc : Thread nD τ).loc main_arg8)
  modL := m ((c.tc : Thread nD τ).loc main_arg9)
  modC := m ((c.tc : Thread nD τ).loc main_arg10)
  g := m ((c.tc : Thread nD τ).loc main_arg11)
  wglu := m ((c.tc : Thread nD τ).loc main_arg12)
  ws := m ((c.tc : Thread nD τ).loc main_arg13)
  wh := m ((c.tc : Thread nD τ).loc main_arg14)
  wr := m ((c.tc : Thread nD τ).loc main_arg15)
  wo := m ((c.tc : Thread nD τ).loc main_arg16)

theorem entry0 : V m c main_arg0 = (inputs m c).xs := rfl
theorem entry1 : V m c main_arg1 = (inputs m c).ys := rfl
theorem entry2 : V m c main_arg2 = (inputs m c).o1 := rfl
theorem entry3 : V m c main_arg3 = (inputs m c).o2 := rfl
theorem entry4 : V m c main_arg4 = (inputs m c).hg := rfl
theorem entry5 : V m c main_arg5 = (inputs m c).p1 := rfl
theorem entry6 : V m c main_arg6 = (inputs m c).p2 := rfl
theorem entry7 : V m c main_arg7 = (inputs m c).ret := rfl
theorem entry8 : V m c main_arg8 = (inputs m c).gz := rfl
theorem entry9 : V m c main_arg9 = (inputs m c).modL := rfl
theorem entry10 : V m c main_arg10 = (inputs m c).modC := rfl
theorem entry11 : V m c main_v24 = shapeCast S1x1024 (inputs m c).g shapeCasts_S1024_S1x1024 := rfl
theorem entry12 : V m c main_v19 = truncf (F := 𝕀) .bf16 (inputs m c).wglu bitsLt_bf16_f32 := rfl
theorem entry13 : V m c main_v20 = truncf (F := 𝕀) .bf16 (inputs m c).ws bitsLt_bf16_f32 := rfl
theorem entry14 : V m c main_v21 = truncf (F := 𝕀) .bf16 (inputs m c).wh bitsLt_bf16_f32 := rfl
theorem entry15 : V m c main_v22 = truncf (F := 𝕀) .bf16 (inputs m c).wr bitsLt_bf16_f32 := rfl
theorem entry16 : V m c main_v23 = truncf (F := 𝕀) .bf16 (inputs m c).wo bitsLt_bf16_f32 := rfl
theorem entry17 : V m c main_v8 = ones := rfl

theorem atRows : ∀ b j : Fin 8, (win0_0.index (point b j) 0 = 8 * b.val + j.val ∧ win0_0.index (point b j) 1 = 0)
    ∧ (win0_1.index (point b j) 0 = 8 * b.val + j.val ∧ win0_1.index (point b j) 1 = 0)
    ∧ (win0_2.index (point b j) 0 = 8 * b.val + j.val ∧ win0_2.index (point b j) 1 = 0)
    ∧ (win0_3.index (point b j) 0 = 8 * b.val + j.val ∧ win0_3.index (point b j) 1 = 0)
    ∧ (win0_4.index (point b j) 0 = 8 * b.val + j.val ∧ win0_4.index (point b j) 1 = 4)
    ∧ (win0_5.index (point b j) 0 = 8 * b.val + j.val ∧ win0_5.index (point b j) 1 = 0)
    ∧ (win0_6.index (point b j) 0 = 8 * b.val + j.val ∧ win0_6.index (point b j) 1 = 0)
    ∧ (win0_7.index (point b j) 0 = 8 * b.val + j.val ∧ win0_7.index (point b j) 1 = 3)
    ∧ (win0_8.index (point b j) 0 = 8 * b.val + j.val ∧ win0_8.index (point b j) 1 = 0) := by decide +kernel
theorem at9 : ∀ b j : Fin 8, win0_9.index (point b j) 0 = b.val ∧ win0_9.index (point b j) 1 = 0 ∧ win0_9.index (point b j) 2 = 0 := by decide +kernel
theorem at10 : ∀ b j : Fin 8, win0_10.index (point b j) 0 = 0 ∧ win0_10.index (point b j) 1 = 0 ∧ win0_10.index (point b j) 2 = 0 := by decide +kernel
theorem atWhole : ∀ b j : Fin 8, (win0_11.index (point b j) 0 = 0 ∧ win0_11.index (point b j) 1 = 0)
    ∧ (win0_12.index (point b j) 0 = 0 ∧ win0_12.index (point b j) 1 = 0) ∧ (win0_13.index (point b j) 0 = 0 ∧ win0_13.index (point b j) 1 = 0)
    ∧ (win0_14.index (point b j) 0 = 0 ∧ win0_14.index (point b j) 1 = 0) ∧ (win0_15.index (point b j) 0 = 0 ∧ win0_15.index (point b j) 1 = 0)
    ∧ (win0_16.index (point b j) 0 = 0 ∧ win0_16.index (point b j) 1 = 0) ∧ (win0_17.index (point b j) 0 = 0 ∧ win0_17.index (point b j) 1 = 0) := by decide +kernel
theorem atOut : ∀ b j : Fin 8, (win0_20.index (point b j) 0 = 8 * b.val + j.val ∧ win0_20.index (point b j) 1 = 0)
    ∧ (win0_21.index (point b j) 0 = 8 * b.val + j.val ∧ win0_21.index (point b j) 1 = 0) := by decide +kernel

section Reads
variable (b j : Fin 8) (r : Fin 544)

theorem block0 (k : Fin 1024) : iblk m c 0 (point b j) (ix2 r k) = (inputs m c).xs (ix2 (flat b (tileRow j r)) k) := by
  refine Eq.trans ?_ (congrFun (entry0 m c) _)
  have h := (atRows b j).1
  blk_ext! [iblk, h, flat, tileRow]
theorem block1 (k : Fin 256) : iblk m c 1 (point b j) (ix2 r k) = (inputs m c).ys (ix2 (flat b (tileRow j r)) k) := by
  refine Eq.trans ?_ (congrFun (entry1 m c) _)
  have h := (atRows b j).2.1
  blk_ext! [iblk, h, flat, tileRow]
theorem block2 (k : Fin 384) : iblk m c 2 (point b j) (ix2 r k) = (inputs m c).o1 (ix2 (flat b (tileRow j r)) k) := by
  refine Eq.trans ?_ (congrFun (entry2 m c) _)
  have h := (atRows b j).2.2.1
  blk_ext! [iblk, h, flat, tileRow]
theorem block3 (k : Fin 384) : iblk m c 3 (point b j) (ix2 r k) = (inputs m c).o2 (ix2 (flat b (tileRow j r)) k) := by
  refine Eq.trans ?_ (congrFun (entry3 m c) _)
  have h := (atRows b j).2.2.2.1
  blk_ext! [iblk, h, flat, tileRow]
theorem block4 (k : Fin 384) : iblk m c 4 (point b j) (ix2 r k) = (inputs m c).hg (ix2 (flat b (tileRow j r)) ⟨1536 + k.val, by omega⟩) := by
  refine Eq.trans ?_ (congrFun (entry4 m c) _)
  have h := (atRows b j).2.2.2.2.1
  blk_ext! [iblk, h, flat, tileRow]
theorem block5 (k : Fin 384) : iblk m c 5 (point b j) (ix2 r k) = (inputs m c).p1 (ix2 (flat b (tileRow j r)) k) := by
  refine Eq.trans ?_ (congrFun (entry5 m c) _)
  have h := (atRows b j).2.2.2.2.2.1
  blk_ext! [iblk, h, flat, tileRow]
theorem block6 (k : Fin 384) : iblk m c 6 (point b j) (ix2 r k) = (inputs m c).p2 (ix2 (flat b (tileRow j r)) k) := by
  refine Eq.trans ?_ (congrFun (entry6 m c) _)
  have h := (atRows b j).2.2.2.2.2.2.1
  blk_ext! [iblk, h, flat, tileRow]
theorem block7 (k : Fin 384) : iblk m c 7 (point b j) (ix2 r k) = (inputs m c).ret (ix2 (flat b (tileRow j r)) ⟨1152 + k.val, by omega⟩) := by
  refine Eq.trans ?_ (congrFun (entry7 m c) _)
  have h := (atRows b j).2.2.2.2.2.2.2.1
  blk_ext! [iblk, h, flat, tileRow]
theorem block8 (k : Fin 3072) : iblk m c 8 (point b j) (ix2 r k) = (inputs m c).gz (ix2 (flat b (tileRow j r)) k) := by
  refine Eq.trans ?_ (congrFun (entry8 m c) _)
  have h := (atRows b j).2.2.2.2.2.2.2.2
  blk_ext! [iblk, h, flat, tileRow]
theorem block9 (a : Fin 6) (k : Fin 1024) : iblk m c 9 (point b j) (ix3 0 a k) = (inputs m c).modL (ix3 b a k) := by
  refine Eq.trans ?_ (congrFun (entry9 m c) _)
  have h := at9 b j
  blk_ext! [iblk, h]
theorem block10 (a : Fin 6) (k : Fin 1024) : iblk m c 10 (point b j) (ix3 0 a k) = (inputs m c).modC (ix3 0 a k) := by
  refine Eq.trans ?_ (congrFun (entry10 m c) _)
  have h := at10 b j
  blk_ext! [iblk, h]
theorem block11 (k : Fin 1024) : iblk m c 11 (point b j) (ix2 0 k) = (inputs m c).g (ix1 k) := by
  refine Eq.trans (b := V m c main_v24 (ix2 0 k)) ?_ ((congrFun (entry11 m c) _).trans ?_)
  · have h := (atWhole b j).1
    blk_ext! [iblk, h]
  · pointwise
theorem block12 (a k : Fin 256) : iblk m c 12 (point b j) (ix2 a k) = (inputs m c).wglu (ix2 a k) := by
  refine Eq.trans ?_ (congrFun (entry12 m c) _)
  have h := (atWhole b j).2.1
  blk_ext! [iblk, h]
theorem block13 (a : Fin 256) (k : Fin 1024) : iblk m c 13 (point b j) (ix2 a k) = (inputs m c).ws (ix2 a k) := by
  refine Eq.trans ?_ (congrFun (entry13 m c) _)
  have h := (atWhole b j).2.2.1
  blk_ext! [iblk, h]
theorem block14 (a : Fin 384) (k : Fin 1024) : iblk m c 14 (point b j) (ix2 a k) = (inputs m c).wh (ix2 a k) := by
  refine Eq.trans ?_ (congrFun (entry14 m c) _)
  have h := (atWhole b j).2.2.2.1
  blk_ext! [iblk, h]
theorem block15 (a : Fin 384) (k : Fin 1024) : iblk m c 15 (point b j) (ix2 a k) = (inputs m c).wr (ix2 a k) := by
  refine Eq.trans ?_ (congrFun (entry15 m c) _)
  have h := (atWhole b j).2.2.2.2.1
  blk_ext! [iblk, h]
theorem block16 (a : Fin 1024) (k : Fin 1024) : iblk m c 16 (point b j) (ix2 a k) = (inputs m c).wo (ix2 a k) := by
  refine Eq.trans ?_ (congrFun (entry16 m c) _)
  have h := (atWhole b j).2.2.2.2.2.1
  blk_ext! [iblk, h]
theorem block17 (q a : Fin 384) : iblk m c 17 (point b j) (ix2 q a) = if q.val / 64 = a.val / 64 then (1 : EReal) else (0 : EReal) := by
  refine Eq.trans (b := V m c main_v8 (ix2 q a)) ?_ ((congrFun (entry17 m c) _).trans (ones_at q a))
  have h := (atWhole b j).2.2.2.2.2.2
  blk_ext! [iblk, h]

/-- A tile's rows of the branches are the inputs'. -/
theorem tileOf_eq : tileOf (blocks m c (point b j)) r = (inputs m c).row (flat b (tileRow j r)) := by
  unfold tileOf Inputs.row
  simp only [blocks, block1, block2, block3, block4, block5, block6, block7, block8]

theorem weightsOf_eq : weightsOf (blocks m c (point b j)) = (inputs m c).weights := by
  unfold weightsOf Inputs.weights
  simp only [blocks, block12, block13, block14, block15, block16]

theorem tableOf_eq (a : Fin 6) : tableOf (blocks m c (point b j)) j r a = (inputs m c).table b (tileRow j r) a := by
  funext k
  simp only [tableOf, Inputs.table, isCtx, blocks, block9, block10, decide_eq_true_eq]

/-- The branches' sums are finite. -/
def Finite (I : Inputs) : Prop := ∀ n, (∀ a, (I.row n).o a ≠ ⊤ ∧ (I.row n).o a ≠ ⊥) ∧ (∀ a, (I.row n).p a ≠ ⊤ ∧ (I.row n).p a ≠ ⊥)

variable (hf : Finite (inputs m c))
include hf

theorem newOf_eq (k : Fin 1024) : newOf (blocks m c (point b j)) b j (ix2 r k) = (inputs m c).new b (tileRow j r) k := by
  rw [newOf_at, mixed_at _ r k (block17 m c b j) (by rw [tileOf_eq]; exact (hf _).1) (by rw [tileOf_eq]; exact (hf _).2), tileOf_eq, weightsOf_eq, tableOf_eq]
  exact congrArg (· + (inputs m c).table b (tileRow j r) 2 k * ((inputs m c).row (flat b (tileRow j r))).mix (inputs m c).weights k) (block0 m c b j r k)

theorem hiddenOf_eq (k : Fin 1024) : hiddenOf (blocks m c (point b j)) b j (ix2 r k) = (inputs m c).hidden b (tileRow j r) k := by
  rw [hiddenOf_at, tableOf_eq, tableOf_eq]
  have e1 : (fun q => newOf (blocks m c (point b j)) b j (ix2 r q)) = (inputs m c).new b (tileRow j r) := funext fun q => newOf_eq m c b j r hf q
  have e2 : (fun q => (blocks m c (point b j)).x11 (ix2 0 q)) = fun q => (inputs m c).g (ix1 q) := funext fun q => block11 m c b j q
  rw [e1, e2]
  rfl

omit hf in
theorem emb20 (k : Fin 1024) : ((cfg0.win 20).blk (point b j)).view.emb (ix2 r k) = ix2 (flat b (tileRow j r)) k := by
  obtain ⟨h0, h1⟩ := (atOut b j).1
  funext a
  apply Fin.ext
  match a with
  | ⟨0, _⟩ => show win0_20.index (point b j) 0 * 544 + 1 * r.val = b.val * 4352 + (j.val * 544 + r.val); rw [h0]; exact tile_val b j r
  | ⟨1, _⟩ => show win0_20.index (point b j) 1 * 1024 + 1 * k.val = k.val; rw [h1]; omega

omit hf in
theorem emb21 (s : Fin 8) (l : Fin 128) : ((cfg0.win 21).blk (point b j)).view.emb (ix2 (tileLine r s) l) = ix2 (line b (tileRow j r) s) l := by
  obtain ⟨h0, h1⟩ := (atOut b j).2
  funext a
  apply Fin.ext
  match a with
  | ⟨0, _⟩ =>
    show win0_21.index (point b j) 0 * 4352 + 1 * (8 * r.val + s.val) = (b.val * 4352 + (j.val * 544 + r.val)) * 8 + s.val
    rw [h0]
    omega
  | ⟨1, _⟩ => show win0_21.index (point b j) 1 * 128 + 1 * l.val = l.val; rw [h1]; omega

/-- The kernel's first result. -/
theorem result20 : (dats m 0 c).arrAt 20 cfg0.N = first (inputs m c) := by
  funext y
  idx_vars y
  obtain ⟨b, n, rfl⟩ := exists_flat y0
  obtain ⟨j, r, rfl⟩ := exists_tileRow n
  refine Eq.trans ?_ (first_at (inputs m c) b (tileRow j r) y1).symm
  have h := congrFun (blocks20 m c (point b j) (flush0_20 _)) (ix2 r y1)
  rw [View.read_apply, emb20, flushed20] at h
  exact h.trans ((out20_at _ b j r y1).trans (newOf_eq m c b j r hf y1))

/-- The kernel's second result. -/
theorem result21 : (dats m 0 c).arrAt 21 cfg0.N = second (inputs m c) := by
  funext y
  idx_vars y
  obtain ⟨b, n, s, rfl⟩ := exists_line y0
  obtain ⟨j, r, rfl⟩ := exists_tileRow n
  refine Eq.trans ?_ (second_at (inputs m c) b (tileRow j r) s y1).symm
  have h := congrFun (blocks21 m c (point b j) (flush0_21 _)) (ix2 (tileLine r s) y1)
  rw [View.read_apply, emb21, flushed21] at h
  exact h.trans ((out21_at _ b j r s y1).trans (hiddenOf_eq m c b j r hf (channel s y1)))

end Reads

end Cert.Merge

end
-- ==== Proof.lean ====
/-
  The proof of `Cert.Claim`. The kernel's two results and the reference's are the outputs of the same two recurrences over
  chunks (`Grid.forward`, `Grid.backward`; `Scan.forward`, `Scan.backward`), once every lower bound is below infinity. The
  projection kernel's four results and its reference's are the same columns of one projection (`Project.Inputs.proj`). The merge
  kernel's rows and token tiles and its reference's are the same rows after the mixer (`Merge.Inputs.new`, `Merge.Inputs.hidden`),
  once the branches' sums are finite. The tables' kernel and the last norm's end with their references' terms (`Tables.result`,
  `Norm.result`), the sum of the experts' outputs with the same rows as its reference (`Combine.Inputs.new`).
-/
module

public import proofs.«01_k».proof.Defs
public import proofs.«01_k».proof.Proof.Gen.Kernel.Frame
public import proofs.«01_k».proof.Proof.Gen.KernelIdeal.Frame
public import proofs.«01_k».proof.Proof.Loop
public import proofs.«01_k».proof.Proof.Grid
public import proofs.«01_k».proof.Proof.Scan
public import proofs.«01_k».proof.Proof.ProjectKernel
public import proofs.«01_k».proof.Proof.Gen.Kernel2.Frame
public import proofs.«01_k».proof.Proof.Gen.Kernel4.Frame
public import proofs.«01_k».proof.Proof.Gen.Kernel5.Frame
public import proofs.«01_k».proof.Proof.Gen.Kernel6.Frame
public import proofs.«01_k».proof.Proof.Tables
public import proofs.«01_k».proof.Proof.Combine
public import proofs.«01_k».proof.Proof.Norm
public import proofs.«01_k».proof.Proof.MergeKernel
public import proofs.«01_k».proof.Proof.MergeBitsFrame
public import Idealize.ShloMosaic.Lib.ReduceAll

@[expose] public section

set_option maxRecDepth 16384

noncomputable section

namespace Cert.Proof

open Idealize.ShloMosaic Idealize.SL.Sem Cert.Math

local notation "𝕀" => Idealize.ShloMosaic.Ideal

/-- The side conditions of the precondition's operations. -/
theorem pre_facts : Cert.Pre_lower_bounds_below_inf.Facts := ⟨by decide, by decide, by decide⟩

instance : Subsingleton Cert.Pre_lower_bounds_below_inf.S_.Idx := ⟨fun _ _ => funext fun a => a.elim0⟩

/-- The precondition says that no lower bound is infinity. -/
theorem bounds_of_pre (hg : Inputs) (lb : Bounds)
    (h : (letI := pre_facts; Cert.Pre_lower_bounds_below_inf.fn (F := 𝕀) hg lb) = fun _ => 1#1) (y : (⟨2, ![2, 384]⟩ : Shape).Idx) : lb y ≠ ⊤ := by
  letI := pre_facts
  have e := Host.reduce_andi_all _ _ _ _ _ (congrFun h fun a => a.elim0) y
  intro ht
  simp only [cmpf, broadcastInDim, constant, ht] at e
  have hi : Ideal.ofBits .f32 0x7F800000#32 = ⊤ := by simp [Ideal.ofBits, Ideal.ieee]
  have hc : FloatOps.cmpf (F := 𝕀) (φ := .f32) .olt ⊤ (Ideal.ofBits .f32 0x7F800000#32) = 0#1 := by
    rw [hi]
    show BitVec.ofBool (decide ((⊤ : EReal) < ⊤)) = 0#1
    simp
  exact absurd (hc.symm.trans e) (by decide)

/-- The scan's states in the reference's run. -/
def itOf (m : (ℓ : Loc Cert.ReferenceIdeal.nD Cert.ReferenceIdeal.τ Cert.ReferenceIdeal.sig) → Buf (Elt 𝕀) ℓ) (c : Dev Cert.ReferenceIdeal.nD) :
    ℕ → Cert.ReferenceIdeal.Step.State 𝕀 :=
  Cert.ReferenceIdeal.Scan.it (Cert.ReferenceIdeal.Loop.hgIn m c) (Cert.ReferenceIdeal.Loop.lbIn m c)

/-- The reference runs, leaves its arguments as they are and ends quiescent: it declares no semaphore. -/
theorem frame_ri : letI := Cert.ReferenceIdeal.Gen.facts; Cert.quiescent_ReferenceIdeal := fun m ρ _ =>
  (θ_run Cert.ReferenceIdeal.defs _ _).mono (fun r h => ⟨fun c => (h c).2.2, sem_eq_zero_of_no_sems (by decide) r.2⟩) (Cert.ReferenceIdeal.Loop.run (F := 𝕀) m ρ (itOf m) (fun _ => rfl) fun _ _ => rfl)

section
variable (m : (ℓ : Loc Cert.KernelIdeal.nD Cert.KernelIdeal.τ Cert.KernelIdeal.sig) → Buf (Elt 𝕀) ℓ) (c : Dev Cert.KernelIdeal.nD)
  (hlb : ∀ y, Cert.KernelIdeal.Grid.lbOf m c y ≠ ⊤)
include hlb

/-- The kernel's first result is the reference's. -/
theorem forward_eq : (Cert.KernelIdeal.Gen.dats m 0 c).arrAt 7 Cert.KernelIdeal.cfg0.N
    = Cert.ReferenceIdeal.Step.R_main_v91 (Cert.ReferenceIdeal.Scan.it (Cert.KernelIdeal.Grid.hgOf m c) (Cert.KernelIdeal.Grid.lbOf m c) 68) := by
  funext y
  obtain ⟨b, k, r, h, i, rfl⟩ := Cert.ReferenceIdeal.Stacks.index_cases 0 y
  exact (Cert.KernelIdeal.Grid.forward m c hlb b h k r i).trans (Cert.ReferenceIdeal.Scan.forward _ _ b h k r i).symm

/-- The kernel's second result is the reference's. -/
theorem backward_eq : (Cert.KernelIdeal.Gen.dats m 0 c).arrAt 8 Cert.KernelIdeal.cfg0.N
    = Cert.ReferenceIdeal.Step.R_main_v98 (Cert.ReferenceIdeal.Scan.it (Cert.KernelIdeal.Grid.hgOf m c) (Cert.KernelIdeal.Grid.lbOf m c) 68) := by
  funext y
  obtain ⟨b, k, r, h, i, rfl⟩ := Cert.ReferenceIdeal.Stacks.index_cases 1 y
  exact (Cert.KernelIdeal.Grid.backward m c hlb b h k r i).trans (Cert.ReferenceIdeal.Scan.backward _ _ b h k r i).symm
end

/-- From equal arguments, lower bounds below infinity, the kernel and the reference end with equal results. -/
theorem algebraic : letI := Cert.KernelIdeal.Gen.facts; letI := Cert.ReferenceIdeal.Gen.facts; letI := pre_facts
    Cert.algebraic_KernelIdeal_ReferenceIdeal_pre_lower_bounds_below_inf := by
  intro m ρ m' ρ' hpre hag
  have hlb := fun c => bounds_of_pre _ _ (hpre c)
  refine ⟨fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m ρ,
    (θ_run Cert.ReferenceIdeal.defs _ _).mono (fun _ h c => ⟨(h c).1.trans ?_, (h c).2.1.trans ?_, (h c).2.2⟩) (Cert.ReferenceIdeal.Loop.run (F := 𝕀) m' ρ' (itOf m') (fun _ => rfl) fun _ _ => rfl)⟩
  · unfold itOf Cert.ReferenceIdeal.Loop.hgIn Cert.ReferenceIdeal.Loop.lbIn
    rw [(hag c).1, (hag c).2]
    exact (forward_eq m c (hlb c)).symm
  · unfold itOf Cert.ReferenceIdeal.Loop.hgIn Cert.ReferenceIdeal.Loop.lbIn
    rw [(hag c).1, (hag c).2]
    exact (backward_eq m c (hlb c)).symm

/-- The projection's reference runs, leaves its arguments as they are and ends quiescent: it declares no semaphore. -/
theorem frame_ri2 : letI := Cert.Reference2Ideal.Gen.facts; Cert.quiescent_Reference2Ideal := fun m ρ _ =>
  (θ_run Cert.Reference2Ideal.defs _ _).mono (fun r h => ⟨fun c => (h c).2.2.2.2, sem_eq_zero_of_no_sems (by decide) r.2⟩) (Cert.Project.ref_run m ρ)

/-- From equal arguments the projection kernel and its reference end with equal results. -/
theorem algebraic2 : letI := Cert.Kernel2Ideal.Gen.facts; letI := Cert.Reference2Ideal.Gen.facts; Cert.algebraic_Kernel2Ideal_Reference2Ideal := by
  intro m ρ m' ρ' _ hag
  have e : ∀ c, Cert.Project.refInputs m' c = Cert.Project.inputs m c := fun c => by
    obtain ⟨h0, h1, h2, h3, h4, h5⟩ := hag c
    unfold Cert.Project.refInputs Cert.Project.inputs
    rw [h0, h1, h2, h3, h4, h5]
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    Cert.Kernel2Ideal.Value.run_blocks m ρ,
    (θ_run Cert.Reference2Ideal.defs _ _).mono (fun _ h c => ⟨(h c).1.trans ?_, (h c).2.1.trans ?_, (h c).2.2.1.trans ?_, (h c).2.2.2.1.trans ?_, (h c).2.2.2.2⟩) (Cert.Project.ref_run m' ρ')⟩
  · exact (congrArg Cert.Project.first (e c)).trans (Cert.Project.result5 m c).symm
  · exact (congrArg Cert.Project.second (e c)).trans (Cert.Project.result6 m c).symm
  · exact (congrArg Cert.Project.third (e c)).trans (Cert.Project.result7 m c).symm
  · exact (congrArg Cert.Project.fourth (e c)).trans (Cert.Project.result8 m c).symm

/-! ## The merge of the branches -/

/-- The side conditions of the operations of the merge's precondition. -/
theorem pre_facts3 : Cert.Pre_branches_finite.Facts := ⟨by decide, by decide, by decide⟩

instance : Subsingleton Cert.Pre_branches_finite.S_.Idx := ⟨fun _ _ => funext fun a => a.elim0⟩

/-- A value whose magnitude is below infinity is finite. -/
theorem finite_of_abs (x : EReal) (h : FloatOps.cmpf (F := 𝕀) (φ := .f32) .olt (max x (-x)) (Ideal.ofBits .f32 0x7F800000#32) = 1#1) : x ≠ ⊤ ∧ x ≠ ⊥ := by
  have hi : Ideal.ofBits .f32 0x7F800000#32 = ⊤ := by simp [Ideal.ofBits, Ideal.ieee]
  have hc : FloatOps.cmpf (F := 𝕀) (φ := .f32) .olt ⊤ (Ideal.ofBits .f32 0x7F800000#32) = 0#1 := by
    rw [hi]
    show BitVec.ofBool (decide ((⊤ : EReal) < ⊤)) = 0#1
    simp
  refine ⟨fun e => ?_, fun e => ?_⟩
  · rw [e, max_eq_left le_top] at h
    exact absurd (hc.symm.trans h) (by decide)
  · rw [e, EReal.neg_bot, max_eq_right bot_le] at h
    exact absurd (hc.symm.trans h) (by decide)

open Cert.Pre_branches_finite in
/-- The merge's precondition says that the sums of the branches' two directions are finite. -/
theorem finite_of_pre (a0 : FVec 𝕀 S34816x1024 .f32) (a1 : FVec 𝕀 S34816x256 .f32) (a2 a3 : FVec 𝕀 S34816x384 .f32) (a4 : FVec 𝕀 S34816x1920 .f32) (a5 a6 : FVec 𝕀 S34816x384 .f32) (a7 : FVec 𝕀 S34816x1536 .bf16) (a8 : FVec 𝕀 S34816x3072 .bf16) (a9 : FVec 𝕀 S8x6x1024 .f32) (a10 : FVec 𝕀 S1x6x1024 .f32) (a11 : FVec 𝕀 S1024 .f32) (a12 : FVec 𝕀 S256x256 .f32) (a13 : FVec 𝕀 S256x1024 .f32) (a14 a15 : FVec 𝕀 S384x1024 .f32) (a16 : FVec 𝕀 S1024x1024 .f32) (a17 : FVec 𝕀 S1024x4 .f32) (a18 : FVec 𝕀 S4 .f32) (a19 : FVec 𝕀 S1024x32 .f32) (a20 : FVec 𝕀 S32 .f32)
    (h : (letI := pre_facts3; fn (F := 𝕀) a0 a1 a2 a3 a4 a5 a6 a7 a8 a9 a10 a11 a12 a13 a14 a15 a16 a17 a18 a19 a20) = fun _ => 1#1) :
    (∀ y, a2 y + a3 y ≠ ⊤ ∧ a2 y + a3 y ≠ ⊥) ∧ (∀ y, a5 y + a6 y ≠ ⊤ ∧ a5 y + a6 y ≠ ⊥) := by
  letI := pre_facts3
  have split : ∀ u v : BitVec 1, IntOp.andi u v = 1#1 → u = 1#1 ∧ v = 1#1 := by decide
  obtain ⟨h1, h2⟩ := split _ _ (congrFun h fun a => a.elim0)
  exact ⟨fun y => finite_of_abs _ (Host.reduce_andi_all _ _ _ _ _ h1 y), fun y => finite_of_abs _ (Host.reduce_andi_all _ _ _ _ _ h2 y)⟩

/-- The merge's reference runs, leaves its arguments as they are and ends quiescent: it declares no semaphore. -/
theorem frame_ri3 : letI := Cert.Reference3Ideal.Gen.facts; Cert.quiescent_Reference3Ideal := fun m ρ _ =>
  (θ_run Cert.Reference3Ideal.defs _ _).mono (fun r h => ⟨fun c => (h c).2.2, sem_eq_zero_of_no_sems (by decide) r.2⟩) (Cert.Merge.ref_run m ρ)

/-- From equal arguments, the branches' sums finite, the merge kernel and its reference end with equal results. -/
theorem algebraic3 : letI := Cert.Kernel3Ideal.Gen.facts; letI := Cert.Reference3Ideal.Gen.facts; letI := pre_facts3
    Cert.algebraic_Kernel3Ideal_Reference3Ideal_pre_branches_finite := by
  intro m ρ m' ρ' hpre hag
  have e : ∀ c, Cert.Merge.refInputs m' c = Cert.Merge.inputs m c := fun c => by
    obtain ⟨h0, h1, h2, h3, h4, h5, h6, h7, h8, h9, h10, h11, h12, h13, h14, h15, h16, _⟩ := hag c
    unfold Cert.Merge.refInputs Cert.Merge.inputs
    rw [h0, h1, h2, h3, h4, h5, h6, h7, h8, h9, h10, h11, h12, h13, h14, h15, h16]
  have hf : ∀ c, Cert.Merge.Finite (Cert.Merge.inputs m c) := fun c n =>
    have h := finite_of_pre _ _ _ _ _ _ _ _ _ _ _ _ _ _ _ _ _ _ _ _ _ (hpre c)
    ⟨fun a => h.1 (ix2 n a), fun a => h.2 (ix2 n a)⟩
  refine ⟨fun c => (Cert.Kernel3Ideal.Merging.dats m 0 c).arrAt 20 Cert.Kernel3Ideal.cfg0.N, fun c => (Cert.Kernel3Ideal.Merging.dats m 0 c).arrAt 21 Cert.Kernel3Ideal.cfg0.N,
    (θ_run Cert.Kernel3Ideal.defs _ _).mono (fun _ h c => ⟨(h.2.2 c).1, (h.2.2 c).2, h.1 c⟩) (Cert.Kernel3Ideal.Merging.run_blocks m ρ),
    (θ_run Cert.Reference3Ideal.defs _ _).mono (fun _ h c => ⟨(h c).1.trans ?_, (h c).2.1.trans ?_, (h c).2.2⟩) (Cert.Merge.ref_run m' ρ')⟩
  · exact (congrArg Cert.Merge.first (e c)).trans (Cert.Merge.result20 m c (hf c)).symm
  · exact (congrArg Cert.Merge.second (e c)).trans (Cert.Merge.result21 m c (hf c)).symm

/-! ## The modulation tables, the sum of the experts' outputs and the last norm -/

/-- The tables's reference runs, leaves its arguments as they are and ends quiescent: it declares no semaphore. -/
theorem frame_ri4 : letI := Cert.Reference4Ideal.Gen.facts; Cert.quiescent_Reference4Ideal := fun m ρ _ =>
  (θ_run Cert.Reference4Ideal.defs _ _).mono (fun r h => ⟨fun c => (h c).2, sem_eq_zero_of_no_sems (by decide) r.2⟩) (Cert.Tables.ref_run m ρ)

/-- From equal arguments the tables' kernel and its reference end with equal results. -/
theorem algebraic4 : letI := Cert.Kernel4Ideal.Gen.facts; letI := Cert.Reference4Ideal.Gen.facts; Cert.algebraic_Kernel4Ideal_Reference4Ideal := by
  intro m ρ m' ρ' _ hag
  have e : ∀ c, Cert.Tables.refInputs m' c = Cert.Tables.inputs m c := fun c => by
    obtain ⟨h0, h1, h2, h3⟩ := hag c
    unfold Cert.Tables.refInputs Cert.Tables.inputs
    rw [h0, h1, h2, h3]
  refine ⟨fun c => (Cert.Kernel4Ideal.Gen.dats m 0 c).arrAt 3 Cert.Kernel4Ideal.cfg0.N, Cert.Kernel4Ideal.Value.run_blocks m ρ,
    (θ_run Cert.Reference4Ideal.defs _ _).mono (fun _ h c => ⟨(h c).1.trans ?_, (h c).2⟩) (Cert.Tables.ref_run m' ρ')⟩
  exact (congrArg Cert.Tables.result (e c)).trans (Cert.Tables.result3 m c).symm

/-- The sum's reference runs, leaves its arguments as they are and ends quiescent: it declares no semaphore. -/
theorem frame_ri5 : letI := Cert.Reference5Ideal.Gen.facts; Cert.quiescent_Reference5Ideal := fun m ρ _ =>
  (θ_run Cert.Reference5Ideal.defs _ _).mono (fun r h => ⟨fun c => (h c).2, sem_eq_zero_of_no_sems (by decide) r.2⟩) (Cert.Combine.ref_run m ρ)

/-- From equal arguments the sum's kernel and its reference end with equal results. -/
theorem algebraic5 : letI := Cert.Kernel5Ideal.Gen.facts; letI := Cert.Reference5Ideal.Gen.facts; Cert.algebraic_Kernel5Ideal_Reference5Ideal := by
  intro m ρ m' ρ' _ hag
  have e : ∀ c, Cert.Combine.refInputs m' c = Cert.Combine.inputs m c := fun c => by
    obtain ⟨h0, h1, h2, h3, h4⟩ := hag c
    unfold Cert.Combine.refInputs Cert.Combine.inputs
    rw [h0, h1, h2, h3, h4]
  refine ⟨fun c => (Cert.Kernel5Ideal.Gen.dats m 0 c).arrAt 5 Cert.Kernel5Ideal.cfg0.N, Cert.Kernel5Ideal.Value.run_blocks m ρ,
    (θ_run Cert.Reference5Ideal.defs _ _).mono (fun _ h c => ⟨(h c).1.trans ?_, (h c).2⟩) (Cert.Combine.ref_run m' ρ')⟩
  exact (congrArg Cert.Combine.result (e c)).trans (Cert.Combine.result5 m c).symm

/-- The norm's reference runs, leaves its arguments as they are and ends quiescent: it declares no semaphore. -/
theorem frame_ri6 : letI := Cert.Reference6Ideal.Gen.facts; Cert.quiescent_Reference6Ideal := fun m ρ _ =>
  (θ_run Cert.Reference6Ideal.defs _ _).mono (fun r h => ⟨fun c => (h c).2, sem_eq_zero_of_no_sems (by decide) r.2⟩) (Cert.Norm.ref_run m ρ)

/-- From equal arguments the norm's kernel and its reference end with equal results. -/
theorem algebraic6 : letI := Cert.Kernel6Ideal.Gen.facts; letI := Cert.Reference6Ideal.Gen.facts; Cert.algebraic_Kernel6Ideal_Reference6Ideal := by
  intro m ρ m' ρ' _ hag
  refine ⟨fun c => (Cert.Kernel6Ideal.Gen.dats m 0 c).arrAt 2 Cert.Kernel6Ideal.cfg0.N, Cert.Kernel6Ideal.Value.run_blocks m ρ,
    (θ_run Cert.Reference6Ideal.defs _ _).mono (fun _ h c => ⟨(h c).1.trans ?_, (h c).2⟩) (Cert.Norm.ref_run m' ρ')⟩
  obtain ⟨h0, h1⟩ := hag c
  rw [h0, h1]
  exact (Cert.Norm.result2 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  pre_facts, pre_facts3,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, fun m ρ _ => Cert.Kernel2.Gen.frame m ρ, fun m ρ _ => Cert.Kernel2Ideal.Gen.frame m ρ, frame_ri2,
  fun m ρ _ => Cert.Kernel3.Merging.framed m ρ, fun m ρ _ => Cert.Kernel3Ideal.Merging.framed m ρ, fun m ρ _ => Cert.Kernel3Ideal.Merging.framed m ρ,
  frame_ri3, fun m ρ _ => frame_ri3 m ρ trivial,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  trivial, algebraic, trivial, algebraic2, trivial, algebraic3, trivial, algebraic4, trivial, algebraic5, trivial, algebraic6⟩

end Cert.Proof

end
